-- ==== Defs.lean ====
def Pre_Kernel [hPre_split : Cert.Pre_split.Facts] (m : (ℓ : Loc Cert.Kernel.nD Cert.Kernel.τ Cert.Kernel.sig) → Buf (Elt Bits) ℓ) : Prop :=
  ∀ c : Dev Cert.Kernel.nD,
    (Cert.Pre_split.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_split : Cert.Pre_split.Facts] (m : (ℓ : Loc Cert.KernelIdeal.nD Cert.KernelIdeal.τ Cert.KernelIdeal.sig) → Buf (Elt Ideal) ℓ) : Prop :=
  ∀ c : Dev Cert.KernelIdeal.nD,
    (Cert.Pre_split.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_split [hPre_split : Cert.Pre_split.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_split.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] [hPre_split : Cert.Pre_split.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_split : Cert.Pre_split.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_split [hReferenceIdeal : Cert.ReferenceIdeal.Facts] [hPre_split : Cert.Pre_split.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_split m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def preserves_Kernel_KernelIdeal : Prop :=
  IdealRules.bf16_pair.BufferStatement Cert.KernelIdeal.S72x512x2x128 Cert.KernelIdeal.S72x512x1x128
  ∧ IdealRules.bf16_pair.Statement Cert.KernelIdeal.S1x512x2x128 Cert.KernelIdeal.S1x512x1x128
  ∧ IdealRules.bf16_pair.Statement Cert.KernelIdeal.S1024x128 Cert.KernelIdeal.S512x128
  ∧ IdealRules.bf16_pair.Statement Cert.KernelIdeal.S1024x512 Cert.KernelIdeal.S512x512

def algebraic_KernelIdeal_ReferenceIdeal [hKernelIdeal : Cert.KernelIdeal.Facts] [hReferenceIdeal : Cert.ReferenceIdeal.Facts] [hPre_split : Cert.Pre_split.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quantise_QuantiseIdeal : Prop :=
  IdealRules.bf16_pair.Statement Cert.QuantiseIdeal.S256x3584 Cert.QuantiseIdeal.S128x3584
  ∧ IdealRules.bf16_pair.Statement Cert.QuantiseIdeal.S256x128 Cert.QuantiseIdeal.S128x128

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)) (v2 : (c : Dev Cert.QuantiseIdeal.nD) → Buf (Elt Ideal) ((c.tc : Thread Cert.QuantiseIdeal.nD Cert.QuantiseIdeal.τ).loc Cert.QuantiseIdeal.main_v0_2)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_v0_2) = v2 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v3_0) = v0 c
          ∧ r.2.mem ((c.tc : Thread Cert.QuantiseReferenceIdeal.nD Cert.QuantiseReferenceIdeal.τ).loc Cert.QuantiseReferenceIdeal.main_v3_1) = v1 c
          ∧ r.2.mem ((c.tc : Thread Cert.QuantiseReferenceIdeal.nD Cert.QuantiseReferenceIdeal.τ).loc Cert.QuantiseReferenceIdeal.main_v3_2) = v2 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_split : Cert.Pre_split.Facts),
    quiescent_Kernel (hKernel := hKernel) (hPre_split := hPre_split)
    ∧ quiescent_KernelIdeal (hKernelIdeal := hKernelIdeal) (hPre_split := hPre_split)
    ∧ quiescent_ReferenceIdeal (hReferenceIdeal := hReferenceIdeal)
    ∧ quiescent_ReferenceIdeal_pre_split (hReferenceIdeal := hReferenceIdeal) (hPre_split := hPre_split)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal (hKernelIdeal := hKernelIdeal) (hReferenceIdeal := hReferenceIdeal) (hPre_split := hPre_split)
    ∧ preserves_Quantise_QuantiseIdeal
    ∧ algebraic_QuantiseIdeal_QuantiseReferenceIdeal (hQuantiseIdeal := hQuantiseIdeal) (hQuantiseReferenceIdeal := hQuantiseReferenceIdeal)
-- ==== Pre_split.lean ====
abbrev S18944 : Shape := ⟨1, ![18944]⟩
abbrev S19456x1792 : Shape := ⟨2, ![19456, 1792]⟩
abbrev S2x6144x3584 : Shape := ⟨3, ![2, 6144, 3584]⟩
abbrev S2x6144x1 : Shape := ⟨3, ![2, 6144, 1]⟩
abbrev S38x1x512 : Shape := ⟨3, ![38, 1, 512]⟩
abbrev S_ : Shape := ⟨0, ![]⟩

class Facts : Prop where
  bcast_S_S18944 : S_.BroadcastsInDim S18944 (![] : Fin 0 → Fin S18944.rank)
  natLt_1_32 : 1 < 32
  reducesTo_S18944_S_d0 : S18944.ReducesTo [0] S_
  h_S_ : 0 < S_.numel

variable [Facts]

def fn {F : FTy → Type} [FloatOps F] (main_arg0 : IVec S18944 32) (main_arg1 : IVec S19456x1792 32) (main_arg2 : FVec F S2x6144x3584 .bf16) (main_arg3 : FVec F S2x6144x1 .f32) (main_arg4 : FVec F S38x1x512 .f32) : IVec S_ 1 :=
  let main_c : IVec S_ 32 := constantI S_ 32 2368#32
  let main_v0 : IVec S18944 32 := broadcastInDim S18944 ![] bcast_S_S18944 main_c
  let main_v1 : IVec S18944 1 := cmpi .slt main_arg0 main_v0
  let main_v2 : IVec S18944 32 := (extui 32 · natLt_1_32) main_v1
  let main_c_0 : IVec S_ 32 := constantI S_ 32 0#32
  let main_v3 : IVec S_ 32 := (fun x v => Host.reduce IntOp.addi x v reducesTo_S18944_S_d0 h_S_) main_v2 main_c_0
  let main_c_1 : IVec S_ 32 := constantI S_ 32 2368#32
  let main_v4 : IVec S_ 1 := cmpi .eq main_v3 main_c_1
  main_v4
-- ==== Kernel.lean ====
abbrev S18944 : Shape := ⟨1, ![18944]⟩
abbrev S19456x1792 : Shape := ⟨2, ![19456, 1792]⟩
abbrev S2x6144x3584 : Shape := ⟨3, ![2, 6144, 3584]⟩
abbrev S2x6144x1 : Shape := ⟨3, ![2, 6144, 1]⟩
abbrev S38x1x512 : Shape := ⟨3, ![38, 1, 512]⟩
abbrev S_ : Shape := ⟨0, ![]⟩
abbrev S148 : Shape := ⟨1, ![148]⟩
abbrev S1 : Shape := ⟨1, ![1]⟩
abbrev S149 : Shape := ⟨1, ![149]⟩
abbrev S37x4x128 : Shape := ⟨3, ![37, 4, 128]⟩
abbrev S6144x18944 : Shape := ⟨2, ![6144, 18944]⟩
abbrev S512x1792 : Shape := ⟨2, ![512, 1792]⟩
abbrev S1x1024x3584 : Shape := ⟨3, ![1, 1024, 3584]⟩
abbrev S1x4x128 : Shape := ⟨3, ![1, 4, 128]⟩
abbrev S1x1024x1 : Shape := ⟨3, ![1, 1024, 1]⟩
abbrev S1x1x512 : Shape := ⟨3, ![1, 1, 512]⟩
abbrev S1024x512 : Shape := ⟨2, ![1024, 512]⟩
abbrev S72x512x128 : Shape := ⟨3, ![72, 512, 128]⟩
abbrev S512x128 : Shape := ⟨2, ![512, 128]⟩
abbrev S1x512x128 : Shape := ⟨3, ![1, 512, 128]⟩
abbrev S1024x128 : Shape := ⟨2, ![1024, 128]⟩
abbrev S1x1x128 : Shape := ⟨3, ![1, 1, 128]⟩
abbrev S1x128 : Shape := ⟨2, ![1, 128]⟩
abbrev S1024x128x1 : Shape := ⟨3, ![1024, 128, 1]⟩
abbrev S32x2x8x1792 : Shape := ⟨4, ![32, 2, 8, 1792]⟩
abbrev S32x1x8x1792 : Shape := ⟨4, ![32, 1, 8, 1792]⟩
abbrev S32x8x1792 : Shape := ⟨3, ![32, 8, 1792]⟩
abbrev S32x16x1792 : Shape := ⟨3, ![32, 16, 1792]⟩
abbrev S512x3584 : Shape := ⟨2, ![512, 3584]⟩
abbrev S1024x3584 : Shape := ⟨2, ![1024, 3584]⟩
abbrev S1024x1 : Shape := ⟨2, ![1024, 1]⟩
abbrev S1x512 : Shape := ⟨2, ![1, 512]⟩
abbrev S512x512 : Shape := ⟨2, ![512, 512]⟩

abbrev nBuf : Space → Nat
  | .hbm => 28
  | .vmem => 13
  | .smem => 1
  | _ => 0

abbrev bufTy : (tb : Table) → Fin (tcTables nBuf tb) → BufTy
  | .hbm, ⟨0, _⟩ => ⟨S18944, .i32⟩
  | .hbm, ⟨1, _⟩ => ⟨S19456x1792, .i32⟩
  | .hbm, ⟨2, _⟩ => ⟨S2x6144x3584, .bf16⟩
  | .hbm, ⟨3, _⟩ => ⟨S2x6144x1, .f32⟩
  | .hbm, ⟨4, _⟩ => ⟨S38x1x512, .f32⟩
  | .hbm, ⟨5, _⟩ => ⟨S_, .i32⟩
  | .hbm, ⟨6, _⟩ => ⟨S18944, .i32⟩
  | .hbm, ⟨7, _⟩ => ⟨S18944, .i1⟩
  | .hbm, ⟨8, _⟩ => ⟨S18944, .i32⟩
  | .hbm, ⟨9, _⟩ => ⟨S_, .i32⟩
  | .hbm, ⟨10, _⟩ => ⟨S_, .i32⟩
  | .hbm, ⟨11, _⟩ => ⟨S18944, .i32⟩
  | .hbm, ⟨12, _⟩ => ⟨S18944, .i32⟩
  | .hbm, ⟨13, _⟩ => ⟨S18944, .i32⟩
  | .hbm, ⟨14, _⟩ => ⟨S18944, .i32⟩
  | .hbm, ⟨15, _⟩ => ⟨S18944, .i32⟩
  | .hbm, ⟨16, _⟩ => ⟨S148, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S18944, .i32⟩
  | .hbm, ⟨21, _⟩ => ⟨S18944, .i32⟩
  | .hbm, ⟨22, _⟩ => ⟨S18944, .i32⟩
  | .hbm, ⟨23, _⟩ => ⟨S_, .i32⟩
  | .hbm, ⟨24, _⟩ => ⟨S18944, .i32⟩
  | .hbm, ⟨25, _⟩ => ⟨S18944, .i32⟩
  | .hbm, ⟨26, _⟩ => ⟨S37x4x128, .i32⟩
  | .hbm, ⟨27, _⟩ => ⟨S6144x18944, .bf16⟩
  | .local _ .vmem, ⟨0, _⟩ => ⟨S512x1792, .i32⟩
  | .local _ .vmem, ⟨1, _⟩ => ⟨S512x1792, .i32⟩
  | .local _ .vmem, ⟨2, _⟩ => ⟨S1x1024x3584, .bf16⟩
  | .local _ .vmem, ⟨3, _⟩ => ⟨S1x1024x3584, .bf16⟩
  | .local _ .vmem, ⟨4, _⟩ => ⟨S1x4x128, .i32⟩
  | .local _ .vmem, ⟨5, _⟩ => ⟨S1x4x128, .i32⟩
  | .local _ .vmem, ⟨6, _⟩ => ⟨S1x1024x1, .f32⟩
  | .local _ .vmem, ⟨7, _⟩ => ⟨S1x1024x1, .f32⟩
  | .local _ .vmem, ⟨8, _⟩ => ⟨S1x1x512, .f32⟩
  | .local _ .vmem, ⟨9, _⟩ => ⟨S1x1x512, .f32⟩
  | .local _ .vmem, ⟨10, _⟩ => ⟨S1024x512, .bf16⟩
  | .local _ .vmem, ⟨11, _⟩ => ⟨S1024x512, .bf16⟩
  | .local _ .vmem, ⟨12, _⟩ => ⟨S72x512x128, .i32⟩
  | .local _ .smem, ⟨0, _⟩ => ⟨S149, .i32⟩
  | _, _ => ⟨S18944, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![233], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  let v54 : Index := Scalar.indexCast v53
  ![v54.toNat]
def k0_off2 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  let c1_i32_20 : BitVec 32 := 1#32
  let v56 : BitVec 32 := Scalar.addi v53 c1_i32_20
  let v57 : Index := Scalar.indexCast v56
  ![v57.toNat]
def k0_off3 (v55 : BitVec 32) : Fin 3 → Nat :=
  let c7_i32 : BitVec 32 := 7#32
  let v61 : BitVec 32 := Scalar.shrsi v55 c7_i32
  let c31_i32 : BitVec 32 := 31#32
  let v66 : BitVec 32 := Scalar.andi v61 c31_i32
  let v67 : Index := Scalar.indexCast v66
  let c0 : Index := 0#32
  let c0_22 : Index := 0#32
  ![v67.toNat, 0, 0]

def k0_off4 (v55 : BitVec 32) : Fin 3 → Nat :=
  let c7_i32 : BitVec 32 := 7#32
  let v61 : BitVec 32 := Scalar.shrsi v55 c7_i32
  let c1_i32_23 : BitVec 32 := 1#32
  let v70 : BitVec 32 := Scalar.addi v61 c1_i32_23
  let c31_i32_24 : BitVec 32 := 31#32
  let v71 : BitVec 32 := Scalar.andi v70 c31_i32_24
  let v72 : Index := Scalar.indexCast v71
  let c0_25 : Index := 0#32
  let c0_26 : Index := 0#32
  ![v72.toNat, 0, 0]
def k0_off5 (i : grid0.Coords) (v55 : BitVec 32) : Fin 3 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  let c128_i32 : BitVec 32 := 128#32
  let v62 : BitVec 32 := Scalar.muli v53 c128_i32
  let v63 : BitVec 32 := Scalar.subi v62 v55
  let v64 : BitVec 32 := Scalar.subi c2560_i32 v63
  let c7_i32_21 : BitVec 32 := 7#32
  let v65 : BitVec 32 := Scalar.shrsi v64 c7_i32_21
  let c19_i32 : BitVec 32 := 19#32
  let v75 : BitVec 32 := Scalar.minsi v65 c19_i32
  let v76 : BitVec 32 := Scalar.addi v51 v75
  let v77 : Index := Scalar.indexCast v76
  let c0_27 : Index := 0#32
  let c0_28 : Index := 0#32
  ![v77.toNat, 0, 0]
def k0_off6 (i : grid0.Coords) (v55 : BitVec 32) : Fin 3 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  let c128_i32 : BitVec 32 := 128#32
  let v62 : BitVec 32 := Scalar.muli v53 c128_i32
  let v63 : BitVec 32 := Scalar.subi v62 v55
  let v64 : BitVec 32 := Scalar.subi c2560_i32 v63
  let c7_i32_21 : BitVec 32 := 7#32
  let v65 : BitVec 32 := Scalar.shrsi v64 c7_i32_21
  let v80 : BitVec 32 := Scalar.addi v51 v65
  let c1_i32_29 : BitVec 32 := 1#32
  let v81 : BitVec 32 := Scalar.subi v80 c1_i32_29
  let v82 : Index := Scalar.indexCast v81
  let c0_30 : Index := 0#32
  let c0_31 : Index := 0#32
  ![v82.toNat, 0, 0]

def k0_chk1 (i : grid0.Coords) (v55 : BitVec 32) : Prop :=
  (∀ a, (k0_off3 v55) a + S1x512x128.size a ≤ S72x512x128.size a) ∧
  (∀ a, (k0_off4 v55) a + S1x512x128.size a ≤ S72x512x128.size a) ∧
  (∀ a, (k0_off5 i v55) a + S1x512x128.size a ≤ S72x512x128.size a) ∧
  (∀ a, (k0_off6 i v55) a + S1x512x128.size a ≤ S72x512x128.size a)
theorem k0_off3_inb : ∀ (i : grid0.Coords) (v55 : BitVec 32) (k0_hw1 : k0_chk1 i v55), ∀ a, (k0_off3 v55) a + S1x512x128.size a ≤ S72x512x128.size a := fun i v55 k0_hw1 => k0_hw1.1
theorem k0_off4_inb : ∀ (i : grid0.Coords) (v55 : BitVec 32) (k0_hw1 : k0_chk1 i v55), ∀ a, (k0_off4 v55) a + S1x512x128.size a ≤ S72x512x128.size a := fun i v55 k0_hw1 => k0_hw1.2.1
theorem k0_off5_inb : ∀ (i : grid0.Coords) (v55 : BitVec 32) (k0_hw1 : k0_chk1 i v55), ∀ a, (k0_off5 i v55) a + S1x512x128.size a ≤ S72x512x128.size a := fun i v55 k0_hw1 => k0_hw1.2.2.1
theorem k0_off6_inb : ∀ (i : grid0.Coords) (v55 : BitVec 32) (k0_hw1 : k0_chk1 i v55), ∀ a, (k0_off6 i v55) a + S1x512x128.size a ≤ S72x512x128.size a := fun i v55 k0_hw1 => k0_hw1.2.2.2

def k0_off7 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  let v114 : Index := Scalar.indexCast v113
  ![v114.toNat]
def k0_off8 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  let c1_i32_42 : BitVec 32 := 1#32
  let v116 : BitVec 32 := Scalar.addi v113 c1_i32_42
  let v117 : Index := Scalar.indexCast v116
  ![v117.toNat]
def k0_off9 (v115 : BitVec 32) : Fin 3 → Nat :=
  let c7_i32_44 : BitVec 32 := 7#32
  let v121 : BitVec 32 := Scalar.shrsi v115 c7_i32_44
  let c31_i32_48 : BitVec 32 := 31#32
  let v126 : BitVec 32 := Scalar.andi v121 c31_i32_48
  let v127 : Index := Scalar.indexCast v126
  let c0_49 : Index := 0#32
  let c0_50 : Index := 0#32
  ![v127.toNat, 0, 0]

def k0_off10 (v115 : BitVec 32) : Fin 3 → Nat :=
  let c7_i32_44 : BitVec 32 := 7#32
  let v121 : BitVec 32 := Scalar.shrsi v115 c7_i32_44
  let c1_i32_51 : BitVec 32 := 1#32
  let v130 : BitVec 32 := Scalar.addi v121 c1_i32_51
  let c31_i32_52 : BitVec 32 := 31#32
  let v131 : BitVec 32 := Scalar.andi v130 c31_i32_52
  let v132 : Index := Scalar.indexCast v131
  let c0_53 : Index := 0#32
  let c0_54 : Index := 0#32
  ![v132.toNat, 0, 0]
def k0_off11 (i : grid0.Coords) (v115 : BitVec 32) : Fin 3 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_46 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  let c128_i32_45 : BitVec 32 := 128#32
  let v122 : BitVec 32 := Scalar.muli v113 c128_i32_45
  let v123 : BitVec 32 := Scalar.subi v122 v115
  let v124 : BitVec 32 := Scalar.subi c2560_i32_46 v123
  let c7_i32_47 : BitVec 32 := 7#32
  let v125 : BitVec 32 := Scalar.shrsi v124 c7_i32_47
  let c19_i32_55 : BitVec 32 := 19#32
  let v135 : BitVec 32 := Scalar.minsi v125 c19_i32_55
  let v136 : BitVec 32 := Scalar.addi v51 v135
  let v137 : Index := Scalar.indexCast v136
  let c0_56 : Index := 0#32
  let c0_57 : Index := 0#32
  ![v137.toNat, 0, 0]
def k0_off12 (i : grid0.Coords) (v115 : BitVec 32) : Fin 3 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_46 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  let c128_i32_45 : BitVec 32 := 128#32
  let v122 : BitVec 32 := Scalar.muli v113 c128_i32_45
  let v123 : BitVec 32 := Scalar.subi v122 v115
  let v124 : BitVec 32 := Scalar.subi c2560_i32_46 v123
  let c7_i32_47 : BitVec 32 := 7#32
  let v125 : BitVec 32 := Scalar.shrsi v124 c7_i32_47
  let v140 : BitVec 32 := Scalar.addi v51 v125
  let c1_i32_58 : BitVec 32 := 1#32
  let v141 : BitVec 32 := Scalar.subi v140 c1_i32_58
  let v142 : Index := Scalar.indexCast v141
  let c0_59 : Index := 0#32
  let c0_60 : Index := 0#32
  ![v142.toNat, 0, 0]

def k0_chk2 (i : grid0.Coords) (v115 : BitVec 32) : Prop :=
  (∀ a, (k0_off9 v115) a + S1x512x128.size a ≤ S72x512x128.size a) ∧
  (∀ a, (k0_off10 v115) a + S1x512x128.size a ≤ S72x512x128.size a) ∧
  (∀ a, (k0_off11 i v115) a + S1x512x128.size a ≤ S72x512x128.size a) ∧
  (∀ a, (k0_off12 i v115) a + S1x512x128.size a ≤ S72x512x128.size a)
theorem k0_off9_inb : ∀ (i : grid0.Coords) (v115 : BitVec 32) (k0_hw2 : k0_chk2 i v115), ∀ a, (k0_off9 v115) a + S1x512x128.size a ≤ S72x512x128.size a := fun i v115 k0_hw2 => k0_hw2.1
theorem k0_off10_inb : ∀ (i : grid0.Coords) (v115 : BitVec 32) (k0_hw2 : k0_chk2 i v115), ∀ a, (k0_off10 v115) a + S1x512x128.size a ≤ S72x512x128.size a := fun i v115 k0_hw2 => k0_hw2.2.1
theorem k0_off11_inb : ∀ (i : grid0.Coords) (v115 : BitVec 32) (k0_hw2 : k0_chk2 i v115), ∀ a, (k0_off11 i v115) a + S1x512x128.size a ≤ S72x512x128.size a := fun i v115 k0_hw2 => k0_hw2.2.2.1
theorem k0_off12_inb : ∀ (i : grid0.Coords) (v115 : BitVec 32) (k0_hw2 : k0_chk2 i v115), ∀ a, (k0_off12 i v115) a + S1x512x128.size a ≤ S72x512x128.size a := fun i v115 k0_hw2 => k0_hw2.2.2.2

def k0_off13 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  let v174 : Index := Scalar.indexCast v173
  ![v174.toNat]
def k0_off14 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  let c1_i32_69 : BitVec 32 := 1#32
  let v176 : BitVec 32 := Scalar.addi v173 c1_i32_69
  let v177 : Index := Scalar.indexCast v176
  ![v177.toNat]
def k0_off15 (v175 : BitVec 32) : Fin 3 → Nat :=
  let c7_i32_71 : BitVec 32 := 7#32
  let v181 : BitVec 32 := Scalar.shrsi v175 c7_i32_71
  let c31_i32_75 : BitVec 32 := 31#32
  let v186 : BitVec 32 := Scalar.andi v181 c31_i32_75
  let v187 : Index := Scalar.indexCast v186
  let c0_76 : Index := 0#32
  let c0_77 : Index := 0#32
  ![v187.toNat, 0, 0]

def k0_off16 (v175 : BitVec 32) : Fin 3 → Nat :=
  let c7_i32_71 : BitVec 32 := 7#32
  let v181 : BitVec 32 := Scalar.shrsi v175 c7_i32_71
  let c1_i32_78 : BitVec 32 := 1#32
  let v190 : BitVec 32 := Scalar.addi v181 c1_i32_78
  let c31_i32_79 : BitVec 32 := 31#32
  let v191 : BitVec 32 := Scalar.andi v190 c31_i32_79
  let v192 : Index := Scalar.indexCast v191
  let c0_80 : Index := 0#32
  let c0_81 : Index := 0#32
  ![v192.toNat, 0, 0]
def k0_off17 (i : grid0.Coords) (v175 : BitVec 32) : Fin 3 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_73 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  let c128_i32_72 : BitVec 32 := 128#32
  let v182 : BitVec 32 := Scalar.muli v173 c128_i32_72
  let v183 : BitVec 32 := Scalar.subi v182 v175
  let v184 : BitVec 32 := Scalar.subi c2560_i32_73 v183
  let c7_i32_74 : BitVec 32 := 7#32
  let v185 : BitVec 32 := Scalar.shrsi v184 c7_i32_74
  let c19_i32_82 : BitVec 32 := 19#32
  let v195 : BitVec 32 := Scalar.minsi v185 c19_i32_82
  let v196 : BitVec 32 := Scalar.addi v51 v195
  let v197 : Index := Scalar.indexCast v196
  let c0_83 : Index := 0#32
  let c0_84 : Index := 0#32
  ![v197.toNat, 0, 0]
def k0_off18 (i : grid0.Coords) (v175 : BitVec 32) : Fin 3 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_73 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  let c128_i32_72 : BitVec 32 := 128#32
  let v182 : BitVec 32 := Scalar.muli v173 c128_i32_72
  let v183 : BitVec 32 := Scalar.subi v182 v175
  let v184 : BitVec 32 := Scalar.subi c2560_i32_73 v183
  let c7_i32_74 : BitVec 32 := 7#32
  let v185 : BitVec 32 := Scalar.shrsi v184 c7_i32_74
  let v200 : BitVec 32 := Scalar.addi v51 v185
  let c1_i32_85 : BitVec 32 := 1#32
  let v201 : BitVec 32 := Scalar.subi v200 c1_i32_85
  let v202 : Index := Scalar.indexCast v201
  let c0_86 : Index := 0#32
  let c0_87 : Index := 0#32
  ![v202.toNat, 0, 0]

def k0_chk3 (i : grid0.Coords) (v175 : BitVec 32) : Prop :=
  (∀ a, (k0_off15 v175) a + S1x512x128.size a ≤ S72x512x128.size a) ∧
  (∀ a, (k0_off16 v175) a + S1x512x128.size a ≤ S72x512x128.size a) ∧
  (∀ a, (k0_off17 i v175) a + S1x512x128.size a ≤ S72x512x128.size a) ∧
  (∀ a, (k0_off18 i v175) a + S1x512x128.size a ≤ S72x512x128.size a)
theorem k0_off15_inb : ∀ (i : grid0.Coords) (v175 : BitVec 32) (k0_hw3 : k0_chk3 i v175), ∀ a, (k0_off15 v175) a + S1x512x128.size a ≤ S72x512x128.size a := fun i v175 k0_hw3 => k0_hw3.1
theorem k0_off16_inb : ∀ (i : grid0.Coords) (v175 : BitVec 32) (k0_hw3 : k0_chk3 i v175), ∀ a, (k0_off16 v175) a + S1x512x128.size a ≤ S72x512x128.size a := fun i v175 k0_hw3 => k0_hw3.2.1
theorem k0_off17_inb : ∀ (i : grid0.Coords) (v175 : BitVec 32) (k0_hw3 : k0_chk3 i v175), ∀ a, (k0_off17 i v175) a + S1x512x128.size a ≤ S72x512x128.size a := fun i v175 k0_hw3 => k0_hw3.2.2.1
theorem k0_off18_inb : ∀ (i : grid0.Coords) (v175 : BitVec 32) (k0_hw3 : k0_chk3 i v175), ∀ a, (k0_off18 i v175) a + S1x512x128.size a ≤ S72x512x128.size a := fun i v175 k0_hw3 => k0_hw3.2.2.2

def k0_off19 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  let v234 : Index := Scalar.indexCast v233
  ![v234.toNat]
def k0_off20 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  let c1_i32_95 : BitVec 32 := 1#32
  let v236 : BitVec 32 := Scalar.addi v233 c1_i32_95
  let v237 : Index := Scalar.indexCast v236
  ![v237.toNat]
def k0_off21 (v235 : BitVec 32) : Fin 3 → Nat :=
  let c7_i32_97 : BitVec 32 := 7#32
  let v241 : BitVec 32 := Scalar.shrsi v235 c7_i32_97
  let c31_i32_101 : BitVec 32 := 31#32
  let v246 : BitVec 32 := Scalar.andi v241 c31_i32_101
  let v247 : Index := Scalar.indexCast v246
  let c0_102 : Index := 0#32
  let c0_103 : Index := 0#32
  ![v247.toNat, 0, 0]

def k0_off22 (v235 : BitVec 32) : Fin 3 → Nat :=
  let c7_i32_97 : BitVec 32 := 7#32
  let v241 : BitVec 32 := Scalar.shrsi v235 c7_i32_97
  let c1_i32_104 : BitVec 32 := 1#32
  let v250 : BitVec 32 := Scalar.addi v241 c1_i32_104
  let c31_i32_105 : BitVec 32 := 31#32
  let v251 : BitVec 32 := Scalar.andi v250 c31_i32_105
  let v252 : Index := Scalar.indexCast v251
  let c0_106 : Index := 0#32
  let c0_107 : Index := 0#32
  ![v252.toNat, 0, 0]
def k0_off23 (i : grid0.Coords) (v235 : BitVec 32) : Fin 3 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_99 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  let c128_i32_98 : BitVec 32 := 128#32
  let v242 : BitVec 32 := Scalar.muli v233 c128_i32_98
  let v243 : BitVec 32 := Scalar.subi v242 v235
  let v244 : BitVec 32 := Scalar.subi c2560_i32_99 v243
  let c7_i32_100 : BitVec 32 := 7#32
  let v245 : BitVec 32 := Scalar.shrsi v244 c7_i32_100
  let c19_i32_108 : BitVec 32 := 19#32
  let v255 : BitVec 32 := Scalar.minsi v245 c19_i32_108
  let v256 : BitVec 32 := Scalar.addi v51 v255
  let v257 : Index := Scalar.indexCast v256
  let c0_109 : Index := 0#32
  let c0_110 : Index := 0#32
  ![v257.toNat, 0, 0]
def k0_off24 (i : grid0.Coords) (v235 : BitVec 32) : Fin 3 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_99 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  let c128_i32_98 : BitVec 32 := 128#32
  let v242 : BitVec 32 := Scalar.muli v233 c128_i32_98
  let v243 : BitVec 32 := Scalar.subi v242 v235
  let v244 : BitVec 32 := Scalar.subi c2560_i32_99 v243
  let c7_i32_100 : BitVec 32 := 7#32
  let v245 : BitVec 32 := Scalar.shrsi v244 c7_i32_100
  let v260 : BitVec 32 := Scalar.addi v51 v245
  let c1_i32_111 : BitVec 32 := 1#32
  let v261 : BitVec 32 := Scalar.subi v260 c1_i32_111
  let v262 : Index := Scalar.indexCast v261
  let c0_112 : Index := 0#32
  let c0_113 : Index := 0#32
  ![v262.toNat, 0, 0]

def k0_chk4 (i : grid0.Coords) (v235 : BitVec 32) : Prop :=
  (∀ a, (k0_off21 v235) a + S1x512x128.size a ≤ S72x512x128.size a) ∧
  (∀ a, (k0_off22 v235) a + S1x512x128.size a ≤ S72x512x128.size a) ∧
  (∀ a, (k0_off23 i v235) a + S1x512x128.size a ≤ S72x512x128.size a) ∧
  (∀ a, (k0_off24 i v235) a + S1x512x128.size a ≤ S72x512x128.size a)
theorem k0_off21_inb : ∀ (i : grid0.Coords) (v235 : BitVec 32) (k0_hw4 : k0_chk4 i v235), ∀ a, (k0_off21 v235) a + S1x512x128.size a ≤ S72x512x128.size a := fun i v235 k0_hw4 => k0_hw4.1
theorem k0_off22_inb : ∀ (i : grid0.Coords) (v235 : BitVec 32) (k0_hw4 : k0_chk4 i v235), ∀ a, (k0_off22 v235) a + S1x512x128.size a ≤ S72x512x128.size a := fun i v235 k0_hw4 => k0_hw4.2.1
theorem k0_off23_inb : ∀ (i : grid0.Coords) (v235 : BitVec 32) (k0_hw4 : k0_chk4 i v235), ∀ a, (k0_off23 i v235) a + S1x512x128.size a ≤ S72x512x128.size a := fun i v235 k0_hw4 => k0_hw4.2.2.1
theorem k0_off24_inb : ∀ (i : grid0.Coords) (v235 : BitVec 32) (k0_hw4 : k0_chk4 i v235), ∀ a, (k0_off24 i v235) a + S1x512x128.size a ≤ S72x512x128.size a := fun i v235 k0_hw4 => k0_hw4.2.2.2

def k0_cond1 (i : grid0.Coords) : BitVec 1 :=
  let arg0 : BitVec 32 := BitVec.ofNat 32 (i 0).val
  let c228_i32 : BitVec 32 := 228#32
  let v292 : BitVec 1 := Scalar.cmpi .slt arg0 c228_i32
  let v293 : BitVec 32 := Scalar.extui v292
  let c0_i32_120 : BitVec 32 := 0#32
  let v294 : BitVec 1 := Scalar.cmpi .ne v293 c0_i32_120
  v294

def k0_off25 (i : grid0.Coords) (c0_i32_140 : BitVec 32) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c38_i32 : BitVec 32 := 38#32
  let c0_i32_1 : BitVec 32 := 0#32
  let v6 : BitVec 1 := Scalar.cmpi .sgt c38_i32 c0_i32_1
  let v7 : BitVec 32 := Scalar.extui v6
  let c0_i32_2 : BitVec 32 := 0#32
  let v8 : BitVec 1 := Scalar.cmpi .slt c38_i32 c0_i32_2
  let v9 : BitVec 32 := Scalar.extui v8
  let v10 : BitVec 32 := Scalar.subi v7 v9
  let v11 : BitVec 1 := Scalar.cmpi .ne v5 v10
  let v12 : BitVec 32 := Scalar.remsi arg0 c38_i32
  let c0_i32_3 : BitVec 32 := 0#32
  let v13 : BitVec 1 := Scalar.cmpi .ne v12 c0_i32_3
  let v14 : BitVec 1 := Scalar.andi v11 v13
  let v0 : BitVec 32 := Scalar.divsi arg0 c38_i32
  let c1_i32 : BitVec 32 := 1#32
  let v15 : BitVec 32 := Scalar.subi v0 c1_i32
  let v16 : BitVec 32 := Scalar.select v14 v15 v0
  let c38_i32_4 : BitVec 32 := 38#32
  let v17 : BitVec 32 := Scalar.muli v16 c38_i32_4
  let v18 : BitVec 32 := Scalar.subi arg0 v17
  let c5_i32_133 : BitVec 32 := 5#32
  let v329 : BitVec 1 := Scalar.cmpi .slt v18 c5_i32_133
  let c32_i32_136 : BitVec 32 := 32#32
  let c2_i32_134 : BitVec 32 := 2#32
  let v330 : BitVec 32 := Scalar.remsi v16 c2_i32_134
  let c20_i32_135 : BitVec 32 := 20#32
  let v331 : BitVec 32 := Scalar.muli v330 c20_i32_135
  let v332 : BitVec 32 := Scalar.addi c32_i32_136 v331
  let c4_i32_137 : BitVec 32 := 4#32
  let v333 : BitVec 32 := Scalar.muli v18 c4_i32_137
  let v334 : BitVec 32 := Scalar.addi v332 v333
  let c5_i32_138 : BitVec 32 := 5#32
  let v335 : BitVec 32 := Scalar.subi v18 c5_i32_138
  let c8_i32 : BitVec 32 := 8#32
  let v336 : BitVec 32 := Scalar.remsi v335 c8_i32
  let c4_i32_139 : BitVec 32 := 4#32
  let v337 : BitVec 32 := Scalar.muli v336 c4_i32_139
  let v338 : BitVec 32 := Scalar.select v329 v334 v337
  let v340 : BitVec 32 := Scalar.addi v338 c0_i32_140
  let v341 : Index := Scalar.indexCast v340
  let c0_141 : Index := 0#32
  let c0_142 : Index := 0#32
  ![v341.toNat, 0, 0]
def cc0_transform_0 (i : grid0.Coords) : Fin 2 → Nat :=
  let arg0 : BitVec 32 := BitVec.ofNat 32 (i 0).val
  let c227_i32 : BitVec 32 := 227#32
  let v0 : BitVec 32 := Scalar.minsi arg0 c227_i32
  let c38_i32 : BitVec 32 := 38#32
  let v1 : BitVec 32 := Scalar.divsi v0 c38_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c38_i32 c0_i32_1
  let v8 : BitVec 32 := Scalar.extui v7
  let c0_i32_2 : BitVec 32 := 0#32
  let v9 : BitVec 1 := Scalar.cmpi .slt c38_i32 c0_i32_2
  let v10 : BitVec 32 := Scalar.extui v9
  let v11 : BitVec 32 := Scalar.subi v8 v10
  let v12 : BitVec 1 := Scalar.cmpi .ne v6 v11
  let v13 : BitVec 32 := Scalar.remsi v0 c38_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c38_i32_4 : BitVec 32 := 38#32
  let v18 : BitVec 32 := Scalar.muli v17 c38_i32_4
  let v19 : BitVec 32 := Scalar.subi v0 v18
  let c0_i32_5 : BitVec 32 := 0#32
  let c0_i32_6 : BitVec 32 := 0#32
  ![v19.toNat, c0_i32_5.toNat]

def cc0_transform_1 (i : grid0.Coords) : Fin 3 → Nat :=
  let arg0 : BitVec 32 := BitVec.ofNat 32 (i 0).val
  let c227_i32 : BitVec 32 := 227#32
  let v0 : BitVec 32 := Scalar.minsi arg0 c227_i32
  let c38_i32 : BitVec 32 := 38#32
  let v1 : BitVec 32 := Scalar.divsi v0 c38_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c38_i32 c0_i32_1
  let v8 : BitVec 32 := Scalar.extui v7
  let c0_i32_2 : BitVec 32 := 0#32
  let v9 : BitVec 1 := Scalar.cmpi .slt c38_i32 c0_i32_2
  let v10 : BitVec 32 := Scalar.extui v9
  let v11 : BitVec 32 := Scalar.subi v8 v10
  let v12 : BitVec 1 := Scalar.cmpi .ne v6 v11
  let v13 : BitVec 32 := Scalar.remsi v0 c38_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c38_i32_4 : BitVec 32 := 38#32
  let v18 : BitVec 32 := Scalar.muli v17 c38_i32_4
  let v19 : BitVec 32 := Scalar.subi v0 v18
  let c5_i32 : BitVec 32 := 5#32
  let v20 : BitVec 1 := Scalar.cmpi .slt v19 c5_i32
  let c0_i32_5 : BitVec 32 := 0#32
  let c1_i32_6 : BitVec 32 := 1#32
  let v21 : BitVec 32 := Scalar.select v20 c0_i32_5 c1_i32_6
  let c227_i32_7 : BitVec 32 := 227#32
  let v22 : BitVec 32 := Scalar.minsi arg0 c227_i32_7
  let c38_i32_8 : BitVec 32 := 38#32
  let v23 : BitVec 32 := Scalar.divsi v22 c38_i32_8
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c0_i32_11 : BitVec 32 := 0#32
  let v29 : BitVec 1 := Scalar.cmpi .sgt c38_i32_8 c0_i32_11
  let v30 : BitVec 32 := Scalar.extui v29
  let c0_i32_12 : BitVec 32 := 0#32
  let v31 : BitVec 1 := Scalar.cmpi .slt c38_i32_8 c0_i32_12
  let v32 : BitVec 32 := Scalar.extui v31
  let v33 : BitVec 32 := Scalar.subi v30 v32
  let v34 : BitVec 1 := Scalar.cmpi .ne v28 v33
  let v35 : BitVec 32 := Scalar.remsi v22 c38_i32_8
  let c0_i32_13 : BitVec 32 := 0#32
  let v36 : BitVec 1 := Scalar.cmpi .ne v35 c0_i32_13
  let v37 : BitVec 1 := Scalar.andi v34 v36
  let c1_i32_14 : BitVec 32 := 1#32
  let v38 : BitVec 32 := Scalar.subi v23 c1_i32_14
  let v39 : BitVec 32 := Scalar.select v37 v38 v23
  let c38_i32_15 : BitVec 32 := 38#32
  let v40 : BitVec 32 := Scalar.muli v39 c38_i32_15
  let v41 : BitVec 32 := Scalar.subi v22 v40
  let c0_i32_16 : BitVec 32 := 0#32
  let c0_i32_17 : BitVec 32 := 0#32
  ![v21.toNat, v39.toNat, c0_i32_16.toNat]

def cc0_transform_2 (i : grid0.Coords) : Fin 3 → Nat :=
  let arg0 : BitVec 32 := BitVec.ofNat 32 (i 0).val
  let c38_i32 : BitVec 32 := 38#32
  let v0 : BitVec 32 := Scalar.divsi arg0 c38_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c38_i32 c0_i32_1
  let v7 : BitVec 32 := Scalar.extui v6
  let c0_i32_2 : BitVec 32 := 0#32
  let v8 : BitVec 1 := Scalar.cmpi .slt c38_i32 c0_i32_2
  let v9 : BitVec 32 := Scalar.extui v8
  let v10 : BitVec 32 := Scalar.subi v7 v9
  let v11 : BitVec 1 := Scalar.cmpi .ne v5 v10
  let v12 : BitVec 32 := Scalar.remsi arg0 c38_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c38_i32_4 : BitVec 32 := 38#32
  let v17 : BitVec 32 := Scalar.muli v16 c38_i32_4
  let v18 : BitVec 32 := Scalar.subi arg0 v17
  let c5_i32 : BitVec 32 := 5#32
  let v19 : BitVec 1 := Scalar.cmpi .slt v18 c5_i32
  let c1_i32_5 : BitVec 32 := 1#32
  let v20 : BitVec 32 := Scalar.subi v16 c1_i32_5
  let v21 : BitVec 32 := Scalar.select v19 v20 v16
  let c32_i32 : BitVec 32 := 32#32
  let v22 : BitVec 32 := Scalar.addi c32_i32 v18
  let c6_i32 : BitVec 32 := 6#32
  let v23 : BitVec 32 := Scalar.subi v18 c6_i32
  let c0_i32_6 : BitVec 32 := 0#32
  let v24 : BitVec 32 := Scalar.maxsi v23 c0_i32_6
  let v25 : BitVec 32 := Scalar.select v19 v22 v24
  let c0_i32_7 : BitVec 32 := 0#32
  let v26 : BitVec 1 := Scalar.cmpi .slt v21 c0_i32_7
  let c0_i32_8 : BitVec 32 := 0#32
  let v27 : BitVec 32 := Scalar.select v26 c0_i32_8 v21
  let c0_i32_9 : BitVec 32 := 0#32
  let v28 : BitVec 32 := Scalar.select v26 c0_i32_9 v25
  let c0_i32_10 : BitVec 32 := 0#32
  let c0_i32_11 : BitVec 32 := 0#32
  let c0_i32_12 : BitVec 32 := 0#32
  ![v28.toNat, c0_i32_10.toNat, c0_i32_11.toNat]

def cc0_transform_3 (i : grid0.Coords) : Fin 3 → Nat :=
  let arg0 : BitVec 32 := BitVec.ofNat 32 (i 0).val
  let c227_i32 : BitVec 32 := 227#32
  let v0 : BitVec 32 := Scalar.minsi arg0 c227_i32
  let c38_i32 : BitVec 32 := 38#32
  let v1 : BitVec 32 := Scalar.divsi v0 c38_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c38_i32 c0_i32_1
  let v8 : BitVec 32 := Scalar.extui v7
  let c0_i32_2 : BitVec 32 := 0#32
  let v9 : BitVec 1 := Scalar.cmpi .slt c38_i32 c0_i32_2
  let v10 : BitVec 32 := Scalar.extui v9
  let v11 : BitVec 32 := Scalar.subi v8 v10
  let v12 : BitVec 1 := Scalar.cmpi .ne v6 v11
  let v13 : BitVec 32 := Scalar.remsi v0 c38_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c38_i32_4 : BitVec 32 := 38#32
  let v18 : BitVec 32 := Scalar.muli v17 c38_i32_4
  let v19 : BitVec 32 := Scalar.subi v0 v18
  let c5_i32 : BitVec 32 := 5#32
  let v20 : BitVec 1 := Scalar.cmpi .slt v19 c5_i32
  let c0_i32_5 : BitVec 32 := 0#32
  let c1_i32_6 : BitVec 32 := 1#32
  let v21 : BitVec 32 := Scalar.select v20 c0_i32_5 c1_i32_6
  let c227_i32_7 : BitVec 32 := 227#32
  let v22 : BitVec 32 := Scalar.minsi arg0 c227_i32_7
  let c38_i32_8 : BitVec 32 := 38#32
  let v23 : BitVec 32 := Scalar.divsi v22 c38_i32_8
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c0_i32_11 : BitVec 32 := 0#32
  let v29 : BitVec 1 := Scalar.cmpi .sgt c38_i32_8 c0_i32_11
  let v30 : BitVec 32 := Scalar.extui v29
  let c0_i32_12 : BitVec 32 := 0#32
  let v31 : BitVec 1 := Scalar.cmpi .slt c38_i32_8 c0_i32_12
  let v32 : BitVec 32 := Scalar.extui v31
  let v33 : BitVec 32 := Scalar.subi v30 v32
  let v34 : BitVec 1 := Scalar.cmpi .ne v28 v33
  let v35 : BitVec 32 := Scalar.remsi v22 c38_i32_8
  let c0_i32_13 : BitVec 32 := 0#32
  let v36 : BitVec 1 := Scalar.cmpi .ne v35 c0_i32_13
  let v37 : BitVec 1 := Scalar.andi v34 v36
  let c1_i32_14 : BitVec 32 := 1#32
  let v38 : BitVec 32 := Scalar.subi v23 c1_i32_14
  let v39 : BitVec 32 := Scalar.select v37 v38 v23
  let c38_i32_15 : BitVec 32 := 38#32
  let v40 : BitVec 32 := Scalar.muli v39 c38_i32_15
  let v41 : BitVec 32 := Scalar.subi v22 v40
  let c0_i32_16 : BitVec 32 := 0#32
  let c0_i32_17 : BitVec 32 := 0#32
  ![v21.toNat, v39.toNat, c0_i32_16.toNat]

def cc0_transform_4 (i : grid0.Coords) : Fin 3 → Nat :=
  let arg0 : BitVec 32 := BitVec.ofNat 32 (i 0).val
  let c227_i32 : BitVec 32 := 227#32
  let v0 : BitVec 32 := Scalar.minsi arg0 c227_i32
  let c38_i32 : BitVec 32 := 38#32
  let v1 : BitVec 32 := Scalar.divsi v0 c38_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c38_i32 c0_i32_1
  let v8 : BitVec 32 := Scalar.extui v7
  let c0_i32_2 : BitVec 32 := 0#32
  let v9 : BitVec 1 := Scalar.cmpi .slt c38_i32 c0_i32_2
  let v10 : BitVec 32 := Scalar.extui v9
  let v11 : BitVec 32 := Scalar.subi v8 v10
  let v12 : BitVec 1 := Scalar.cmpi .ne v6 v11
  let v13 : BitVec 32 := Scalar.remsi v0 c38_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c38_i32_4 : BitVec 32 := 38#32
  let v18 : BitVec 32 := Scalar.muli v17 c38_i32_4
  let v19 : BitVec 32 := Scalar.subi v0 v18
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 2 → Nat :=
  let arg0 : BitVec 32 := BitVec.ofNat 32 (i 0).val
  let c38_i32 : BitVec 32 := 38#32
  let v0 : BitVec 32 := Scalar.divsi arg0 c38_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c38_i32 c0_i32_1
  let v7 : BitVec 32 := Scalar.extui v6
  let c0_i32_2 : BitVec 32 := 0#32
  let v8 : BitVec 1 := Scalar.cmpi .slt c38_i32 c0_i32_2
  let v9 : BitVec 32 := Scalar.extui v8
  let v10 : BitVec 32 := Scalar.subi v7 v9
  let v11 : BitVec 1 := Scalar.cmpi .ne v5 v10
  let v12 : BitVec 32 := Scalar.remsi arg0 c38_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c38_i32_4 : BitVec 32 := 38#32
  let v17 : BitVec 32 := Scalar.muli v16 c38_i32_4
  let v18 : BitVec 32 := Scalar.subi arg0 v17
  let c5_i32 : BitVec 32 := 5#32
  let v19 : BitVec 1 := Scalar.cmpi .slt v18 c5_i32
  let c1_i32_5 : BitVec 32 := 1#32
  let v20 : BitVec 32 := Scalar.subi v16 c1_i32_5
  let v21 : BitVec 32 := Scalar.select v19 v20 v16
  let c32_i32 : BitVec 32 := 32#32
  let v22 : BitVec 32 := Scalar.addi c32_i32 v18
  let c6_i32 : BitVec 32 := 6#32
  let v23 : BitVec 32 := Scalar.subi v18 c6_i32
  let c0_i32_6 : BitVec 32 := 0#32
  let v24 : BitVec 32 := Scalar.maxsi v23 c0_i32_6
  let v25 : BitVec 32 := Scalar.select v19 v22 v24
  let c0_i32_7 : BitVec 32 := 0#32
  let v26 : BitVec 1 := Scalar.cmpi .slt v21 c0_i32_7
  let c0_i32_8 : BitVec 32 := 0#32
  let v27 : BitVec 32 := Scalar.select v26 c0_i32_8 v21
  let c0_i32_9 : BitVec 32 := 0#32
  let v28 : BitVec 32 := Scalar.select v26 c0_i32_9 v25
  let c0_i32_10 : BitVec 32 := 0#32
  ![v27.toNat, v28.toNat]

abbrev stage0_0 : Fin 2 → Memref sig .tc .vmem S512x1792 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S18944 : Shape := ⟨1, ![18944]⟩
abbrev S19456x1792 : Shape := ⟨2, ![19456, 1792]⟩
abbrev S2x6144x3584 : Shape := ⟨3, ![2, 6144, 3584]⟩
abbrev S2x6144x1 : Shape := ⟨3, ![2, 6144, 1]⟩
abbrev S38x1x512 : Shape := ⟨3, ![38, 1, 512]⟩
abbrev S_ : Shape := ⟨0, ![]⟩
abbrev S148 : Shape := ⟨1, ![148]⟩
abbrev S1 : Shape := ⟨1, ![1]⟩
abbrev S149 : Shape := ⟨1, ![149]⟩
abbrev S37x4x128 : Shape := ⟨3, ![37, 4, 128]⟩
abbrev S6144x18944 : Shape := ⟨2, ![6144, 18944]⟩
abbrev S512x1792 : Shape := ⟨2, ![512, 1792]⟩
abbrev S1x1024x3584 : Shape := ⟨3, ![1, 1024, 3584]⟩
abbrev S1x4x128 : Shape := ⟨3, ![1, 4, 128]⟩
abbrev S1x1024x1 : Shape := ⟨3, ![1, 1024, 1]⟩
abbrev S1x1x512 : Shape := ⟨3, ![1, 1, 512]⟩
abbrev S1024x512 : Shape := ⟨2, ![1024, 512]⟩
abbrev S72x512x128 : Shape := ⟨3, ![72, 512, 128]⟩
abbrev S72x512x2x128 : Shape := ⟨4, ![72, 512, 2, 128]⟩
abbrev S72x512x1x128 : Shape := ⟨4, ![72, 512, 1, 128]⟩
abbrev S512x128 : Shape := ⟨2, ![512, 128]⟩
abbrev S1x512x128 : Shape := ⟨3, ![1, 512, 128]⟩
abbrev S1x512x2x128 : Shape := ⟨4, ![1, 512, 2, 128]⟩
abbrev S1x512x1x128 : Shape := ⟨4, ![1, 512, 1, 128]⟩
abbrev S1024x128 : Shape := ⟨2, ![1024, 128]⟩
abbrev S1x1x128 : Shape := ⟨3, ![1, 1, 128]⟩
abbrev S1x128 : Shape := ⟨2, ![1, 128]⟩
abbrev S1024x128x1 : Shape := ⟨3, ![1024, 128, 1]⟩
abbrev S32x2x8x1792 : Shape := ⟨4, ![32, 2, 8, 1792]⟩
abbrev S32x1x8x1792 : Shape := ⟨4, ![32, 1, 8, 1792]⟩
abbrev S32x8x1792 : Shape := ⟨3, ![32, 8, 1792]⟩
abbrev S32x16x1792 : Shape := ⟨3, ![32, 16, 1792]⟩
abbrev S512x3584 : Shape := ⟨2, ![512, 3584]⟩
abbrev S1024x3584 : Shape := ⟨2, ![1024, 3584]⟩
abbrev S1024x1 : Shape := ⟨2, ![1024, 1]⟩
abbrev S1x512 : Shape := ⟨2, ![1, 512]⟩
abbrev S512x512 : Shape := ⟨2, ![512, 512]⟩

abbrev nBuf : Space → Nat
  | .hbm => 28
  | .vmem => 13
  | .smem => 1
  | _ => 0

abbrev bufTy : (tb : Table) → Fin (tcTables nBuf tb) → BufTy
  | .hbm, ⟨0, _⟩ => ⟨S18944, .i32⟩
  | .hbm, ⟨1, _⟩ => ⟨S19456x1792, .i32⟩
  | .hbm, ⟨2, _⟩ => ⟨S2x6144x3584, .bf16⟩
  | .hbm, ⟨3, _⟩ => ⟨S2x6144x1, .f32⟩
  | .hbm, ⟨4, _⟩ => ⟨S38x1x512, .f32⟩
  | .hbm, ⟨5, _⟩ => ⟨S_, .i32⟩
  | .hbm, ⟨6, _⟩ => ⟨S18944, .i32⟩
  | .hbm, ⟨7, _⟩ => ⟨S18944, .i1⟩
  | .hbm, ⟨8, _⟩ => ⟨S18944, .i32⟩
  | .hbm, ⟨9, _⟩ => ⟨S_, .i32⟩
  | .hbm, ⟨10, _⟩ => ⟨S_, .i32⟩
  | .hbm, ⟨11, _⟩ => ⟨S18944, .i32⟩
  | .hbm, ⟨12, _⟩ => ⟨S18944, .i32⟩
  | .hbm, ⟨13, _⟩ => ⟨S18944, .i32⟩
  | .hbm, ⟨14, _⟩ => ⟨S18944, .i32⟩
  | .hbm, ⟨15, _⟩ => ⟨S18944, .i32⟩
  | .hbm, ⟨16, _⟩ => ⟨S148, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S18944, .i32⟩
  | .hbm, ⟨21, _⟩ => ⟨S18944, .i32⟩
  | .hbm, ⟨22, _⟩ => ⟨S18944, .i32⟩
  | .hbm, ⟨23, _⟩ => ⟨S_, .i32⟩
  | .hbm, ⟨24, _⟩ => ⟨S18944, .i32⟩
  | .hbm, ⟨25, _⟩ => ⟨S18944, .i32⟩
  | .hbm, ⟨26, _⟩ => ⟨S37x4x128, .i32⟩
  | .hbm, ⟨27, _⟩ => ⟨S6144x18944, .bf16⟩
  | .local _ .vmem, ⟨0, _⟩ => ⟨S512x1792, .i32⟩
  | .local _ .vmem, ⟨1, _⟩ => ⟨S512x1792, .i32⟩
  | .local _ .vmem, ⟨2, _⟩ => ⟨S1x1024x3584, .bf16⟩
  | .local _ .vmem, ⟨3, _⟩ => ⟨S1x1024x3584, .bf16⟩
  | .local _ .vmem, ⟨4, _⟩ => ⟨S1x4x128, .i32⟩
  | .local _ .vmem, ⟨5, _⟩ => ⟨S1x4x128, .i32⟩
  | .local _ .vmem, ⟨6, _⟩ => ⟨S1x1024x1, .f32⟩
  | .local _ .vmem, ⟨7, _⟩ => ⟨S1x1024x1, .f32⟩
  | .local _ .vmem, ⟨8, _⟩ => ⟨S1x1x512, .f32⟩
  | .local _ .vmem, ⟨9, _⟩ => ⟨S1x1x512, .f32⟩
  | .local _ .vmem, ⟨10, _⟩ => ⟨S1024x512, .bf16⟩
  | .local _ .vmem, ⟨11, _⟩ => ⟨S1024x512, .bf16⟩
  | .local _ .vmem, ⟨12, _⟩ => ⟨S72x512x2x128, .bf16⟩
  | .local _ .smem, ⟨0, _⟩ => ⟨S149, .i32⟩
  | _, _ => ⟨S18944, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![233], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  let v54 : Index := Scalar.indexCast v53
  ![v54.toNat]
def k0_off2 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  let c1_i32_20 : BitVec 32 := 1#32
  let v56 : BitVec 32 := Scalar.addi v53 c1_i32_20
  let v57 : Index := Scalar.indexCast v56
  ![v57.toNat]
def k0_off3 (v55 : BitVec 32) : Fin 4 → Nat :=
  let c7_i32 : BitVec 32 := 7#32
  let v61 : BitVec 32 := Scalar.shrsi v55 c7_i32
  let c31_i32 : BitVec 32 := 31#32
  let v66 : BitVec 32 := Scalar.andi v61 c31_i32
  let v67 : Index := Scalar.indexCast v66
  let c0 : Index := 0#32
  let c0_22 : Index := 0#32
  ![v67.toNat, 0, 0, 0]

def k0_off4 (v55 : BitVec 32) : Fin 4 → Nat :=
  let c7_i32 : BitVec 32 := 7#32
  let v61 : BitVec 32 := Scalar.shrsi v55 c7_i32
  let c1_i32_23 : BitVec 32 := 1#32
  let v70 : BitVec 32 := Scalar.addi v61 c1_i32_23
  let c31_i32_24 : BitVec 32 := 31#32
  let v71 : BitVec 32 := Scalar.andi v70 c31_i32_24
  let v72 : Index := Scalar.indexCast v71
  let c0_25 : Index := 0#32
  let c0_26 : Index := 0#32
  ![v72.toNat, 0, 0, 0]
def k0_off5 (i : grid0.Coords) (v55 : BitVec 32) : Fin 4 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  let c128_i32 : BitVec 32 := 128#32
  let v62 : BitVec 32 := Scalar.muli v53 c128_i32
  let v63 : BitVec 32 := Scalar.subi v62 v55
  let v64 : BitVec 32 := Scalar.subi c2560_i32 v63
  let c7_i32_21 : BitVec 32 := 7#32
  let v65 : BitVec 32 := Scalar.shrsi v64 c7_i32_21
  let c19_i32 : BitVec 32 := 19#32
  let v75 : BitVec 32 := Scalar.minsi v65 c19_i32
  let v76 : BitVec 32 := Scalar.addi v51 v75
  let v77 : Index := Scalar.indexCast v76
  let c0_27 : Index := 0#32
  let c0_28 : Index := 0#32
  ![v77.toNat, 0, 0, 0]
def k0_off6 (i : grid0.Coords) (v55 : BitVec 32) : Fin 4 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  let c128_i32 : BitVec 32 := 128#32
  let v62 : BitVec 32 := Scalar.muli v53 c128_i32
  let v63 : BitVec 32 := Scalar.subi v62 v55
  let v64 : BitVec 32 := Scalar.subi c2560_i32 v63
  let c7_i32_21 : BitVec 32 := 7#32
  let v65 : BitVec 32 := Scalar.shrsi v64 c7_i32_21
  let v80 : BitVec 32 := Scalar.addi v51 v65
  let c1_i32_29 : BitVec 32 := 1#32
  let v81 : BitVec 32 := Scalar.subi v80 c1_i32_29
  let v82 : Index := Scalar.indexCast v81
  let c0_30 : Index := 0#32
  let c0_31 : Index := 0#32
  ![v82.toNat, 0, 0, 0]

def k0_chk1 (i : grid0.Coords) (v55 : BitVec 32) : Prop :=
  (∀ a, (k0_off3 v55) a + S1x512x2x128.size a ≤ S72x512x2x128.size a) ∧
  (∀ a, (k0_off4 v55) a + S1x512x2x128.size a ≤ S72x512x2x128.size a) ∧
  (∀ a, (k0_off5 i v55) a + S1x512x2x128.size a ≤ S72x512x2x128.size a) ∧
  (∀ a, (k0_off6 i v55) a + S1x512x2x128.size a ≤ S72x512x2x128.size a)
theorem k0_off3_inb : ∀ (i : grid0.Coords) (v55 : BitVec 32) (k0_hw1 : k0_chk1 i v55), ∀ a, (k0_off3 v55) a + S1x512x2x128.size a ≤ S72x512x2x128.size a := fun i v55 k0_hw1 => k0_hw1.1
theorem k0_off4_inb : ∀ (i : grid0.Coords) (v55 : BitVec 32) (k0_hw1 : k0_chk1 i v55), ∀ a, (k0_off4 v55) a + S1x512x2x128.size a ≤ S72x512x2x128.size a := fun i v55 k0_hw1 => k0_hw1.2.1
theorem k0_off5_inb : ∀ (i : grid0.Coords) (v55 : BitVec 32) (k0_hw1 : k0_chk1 i v55), ∀ a, (k0_off5 i v55) a + S1x512x2x128.size a ≤ S72x512x2x128.size a := fun i v55 k0_hw1 => k0_hw1.2.2.1
theorem k0_off6_inb : ∀ (i : grid0.Coords) (v55 : BitVec 32) (k0_hw1 : k0_chk1 i v55), ∀ a, (k0_off6 i v55) a + S1x512x2x128.size a ≤ S72x512x2x128.size a := fun i v55 k0_hw1 => k0_hw1.2.2.2

def k0_off7 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  let v114 : Index := Scalar.indexCast v113
  ![v114.toNat]
def k0_off8 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  let c1_i32_42 : BitVec 32 := 1#32
  let v116 : BitVec 32 := Scalar.addi v113 c1_i32_42
  let v117 : Index := Scalar.indexCast v116
  ![v117.toNat]
def k0_off9 (v115 : BitVec 32) : Fin 4 → Nat :=
  let c7_i32_44 : BitVec 32 := 7#32
  let v121 : BitVec 32 := Scalar.shrsi v115 c7_i32_44
  let c31_i32_48 : BitVec 32 := 31#32
  let v126 : BitVec 32 := Scalar.andi v121 c31_i32_48
  let v127 : Index := Scalar.indexCast v126
  let c0_49 : Index := 0#32
  let c0_50 : Index := 0#32
  ![v127.toNat, 0, 0, 0]

def k0_off10 (v115 : BitVec 32) : Fin 4 → Nat :=
  let c7_i32_44 : BitVec 32 := 7#32
  let v121 : BitVec 32 := Scalar.shrsi v115 c7_i32_44
  let c1_i32_51 : BitVec 32 := 1#32
  let v130 : BitVec 32 := Scalar.addi v121 c1_i32_51
  let c31_i32_52 : BitVec 32 := 31#32
  let v131 : BitVec 32 := Scalar.andi v130 c31_i32_52
  let v132 : Index := Scalar.indexCast v131
  let c0_53 : Index := 0#32
  let c0_54 : Index := 0#32
  ![v132.toNat, 0, 0, 0]
def k0_off11 (i : grid0.Coords) (v115 : BitVec 32) : Fin 4 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_46 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  let c128_i32_45 : BitVec 32 := 128#32
  let v122 : BitVec 32 := Scalar.muli v113 c128_i32_45
  let v123 : BitVec 32 := Scalar.subi v122 v115
  let v124 : BitVec 32 := Scalar.subi c2560_i32_46 v123
  let c7_i32_47 : BitVec 32 := 7#32
  let v125 : BitVec 32 := Scalar.shrsi v124 c7_i32_47
  let c19_i32_55 : BitVec 32 := 19#32
  let v135 : BitVec 32 := Scalar.minsi v125 c19_i32_55
  let v136 : BitVec 32 := Scalar.addi v51 v135
  let v137 : Index := Scalar.indexCast v136
  let c0_56 : Index := 0#32
  let c0_57 : Index := 0#32
  ![v137.toNat, 0, 0, 0]
def k0_off12 (i : grid0.Coords) (v115 : BitVec 32) : Fin 4 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_46 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  let c128_i32_45 : BitVec 32 := 128#32
  let v122 : BitVec 32 := Scalar.muli v113 c128_i32_45
  let v123 : BitVec 32 := Scalar.subi v122 v115
  let v124 : BitVec 32 := Scalar.subi c2560_i32_46 v123
  let c7_i32_47 : BitVec 32 := 7#32
  let v125 : BitVec 32 := Scalar.shrsi v124 c7_i32_47
  let v140 : BitVec 32 := Scalar.addi v51 v125
  let c1_i32_58 : BitVec 32 := 1#32
  let v141 : BitVec 32 := Scalar.subi v140 c1_i32_58
  let v142 : Index := Scalar.indexCast v141
  let c0_59 : Index := 0#32
  let c0_60 : Index := 0#32
  ![v142.toNat, 0, 0, 0]

def k0_chk2 (i : grid0.Coords) (v115 : BitVec 32) : Prop :=
  (∀ a, (k0_off9 v115) a + S1x512x2x128.size a ≤ S72x512x2x128.size a) ∧
  (∀ a, (k0_off10 v115) a + S1x512x2x128.size a ≤ S72x512x2x128.size a) ∧
  (∀ a, (k0_off11 i v115) a + S1x512x2x128.size a ≤ S72x512x2x128.size a) ∧
  (∀ a, (k0_off12 i v115) a + S1x512x2x128.size a ≤ S72x512x2x128.size a)
theorem k0_off9_inb : ∀ (i : grid0.Coords) (v115 : BitVec 32) (k0_hw2 : k0_chk2 i v115), ∀ a, (k0_off9 v115) a + S1x512x2x128.size a ≤ S72x512x2x128.size a := fun i v115 k0_hw2 => k0_hw2.1
theorem k0_off10_inb : ∀ (i : grid0.Coords) (v115 : BitVec 32) (k0_hw2 : k0_chk2 i v115), ∀ a, (k0_off10 v115) a + S1x512x2x128.size a ≤ S72x512x2x128.size a := fun i v115 k0_hw2 => k0_hw2.2.1
theorem k0_off11_inb : ∀ (i : grid0.Coords) (v115 : BitVec 32) (k0_hw2 : k0_chk2 i v115), ∀ a, (k0_off11 i v115) a + S1x512x2x128.size a ≤ S72x512x2x128.size a := fun i v115 k0_hw2 => k0_hw2.2.2.1
theorem k0_off12_inb : ∀ (i : grid0.Coords) (v115 : BitVec 32) (k0_hw2 : k0_chk2 i v115), ∀ a, (k0_off12 i v115) a + S1x512x2x128.size a ≤ S72x512x2x128.size a := fun i v115 k0_hw2 => k0_hw2.2.2.2

def k0_off13 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  let v174 : Index := Scalar.indexCast v173
  ![v174.toNat]
def k0_off14 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  let c1_i32_69 : BitVec 32 := 1#32
  let v176 : BitVec 32 := Scalar.addi v173 c1_i32_69
  let v177 : Index := Scalar.indexCast v176
  ![v177.toNat]
def k0_off15 (v175 : BitVec 32) : Fin 4 → Nat :=
  let c7_i32_71 : BitVec 32 := 7#32
  let v181 : BitVec 32 := Scalar.shrsi v175 c7_i32_71
  let c31_i32_75 : BitVec 32 := 31#32
  let v186 : BitVec 32 := Scalar.andi v181 c31_i32_75
  let v187 : Index := Scalar.indexCast v186
  let c0_76 : Index := 0#32
  let c0_77 : Index := 0#32
  ![v187.toNat, 0, 0, 0]

def k0_off16 (v175 : BitVec 32) : Fin 4 → Nat :=
  let c7_i32_71 : BitVec 32 := 7#32
  let v181 : BitVec 32 := Scalar.shrsi v175 c7_i32_71
  let c1_i32_78 : BitVec 32 := 1#32
  let v190 : BitVec 32 := Scalar.addi v181 c1_i32_78
  let c31_i32_79 : BitVec 32 := 31#32
  let v191 : BitVec 32 := Scalar.andi v190 c31_i32_79
  let v192 : Index := Scalar.indexCast v191
  let c0_80 : Index := 0#32
  let c0_81 : Index := 0#32
  ![v192.toNat, 0, 0, 0]
def k0_off17 (i : grid0.Coords) (v175 : BitVec 32) : Fin 4 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_73 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  let c128_i32_72 : BitVec 32 := 128#32
  let v182 : BitVec 32 := Scalar.muli v173 c128_i32_72
  let v183 : BitVec 32 := Scalar.subi v182 v175
  let v184 : BitVec 32 := Scalar.subi c2560_i32_73 v183
  let c7_i32_74 : BitVec 32 := 7#32
  let v185 : BitVec 32 := Scalar.shrsi v184 c7_i32_74
  let c19_i32_82 : BitVec 32 := 19#32
  let v195 : BitVec 32 := Scalar.minsi v185 c19_i32_82
  let v196 : BitVec 32 := Scalar.addi v51 v195
  let v197 : Index := Scalar.indexCast v196
  let c0_83 : Index := 0#32
  let c0_84 : Index := 0#32
  ![v197.toNat, 0, 0, 0]
def k0_off18 (i : grid0.Coords) (v175 : BitVec 32) : Fin 4 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_73 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  let c128_i32_72 : BitVec 32 := 128#32
  let v182 : BitVec 32 := Scalar.muli v173 c128_i32_72
  let v183 : BitVec 32 := Scalar.subi v182 v175
  let v184 : BitVec 32 := Scalar.subi c2560_i32_73 v183
  let c7_i32_74 : BitVec 32 := 7#32
  let v185 : BitVec 32 := Scalar.shrsi v184 c7_i32_74
  let v200 : BitVec 32 := Scalar.addi v51 v185
  let c1_i32_85 : BitVec 32 := 1#32
  let v201 : BitVec 32 := Scalar.subi v200 c1_i32_85
  let v202 : Index := Scalar.indexCast v201
  let c0_86 : Index := 0#32
  let c0_87 : Index := 0#32
  ![v202.toNat, 0, 0, 0]

def k0_chk3 (i : grid0.Coords) (v175 : BitVec 32) : Prop :=
  (∀ a, (k0_off15 v175) a + S1x512x2x128.size a ≤ S72x512x2x128.size a) ∧
  (∀ a, (k0_off16 v175) a + S1x512x2x128.size a ≤ S72x512x2x128.size a) ∧
  (∀ a, (k0_off17 i v175) a + S1x512x2x128.size a ≤ S72x512x2x128.size a) ∧
  (∀ a, (k0_off18 i v175) a + S1x512x2x128.size a ≤ S72x512x2x128.size a)
theorem k0_off15_inb : ∀ (i : grid0.Coords) (v175 : BitVec 32) (k0_hw3 : k0_chk3 i v175), ∀ a, (k0_off15 v175) a + S1x512x2x128.size a ≤ S72x512x2x128.size a := fun i v175 k0_hw3 => k0_hw3.1
theorem k0_off16_inb : ∀ (i : grid0.Coords) (v175 : BitVec 32) (k0_hw3 : k0_chk3 i v175), ∀ a, (k0_off16 v175) a + S1x512x2x128.size a ≤ S72x512x2x128.size a := fun i v175 k0_hw3 => k0_hw3.2.1
theorem k0_off17_inb : ∀ (i : grid0.Coords) (v175 : BitVec 32) (k0_hw3 : k0_chk3 i v175), ∀ a, (k0_off17 i v175) a + S1x512x2x128.size a ≤ S72x512x2x128.size a := fun i v175 k0_hw3 => k0_hw3.2.2.1
theorem k0_off18_inb : ∀ (i : grid0.Coords) (v175 : BitVec 32) (k0_hw3 : k0_chk3 i v175), ∀ a, (k0_off18 i v175) a + S1x512x2x128.size a ≤ S72x512x2x128.size a := fun i v175 k0_hw3 => k0_hw3.2.2.2

def k0_off19 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  let v234 : Index := Scalar.indexCast v233
  ![v234.toNat]
def k0_off20 (i : grid0.Coords) : Fin 1 → Nat :=
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  let c1_i32_95 : BitVec 32 := 1#32
  let v236 : BitVec 32 := Scalar.addi v233 c1_i32_95
  let v237 : Index := Scalar.indexCast v236
  ![v237.toNat]
def k0_off21 (v235 : BitVec 32) : Fin 4 → Nat :=
  let c7_i32_97 : BitVec 32 := 7#32
  let v241 : BitVec 32 := Scalar.shrsi v235 c7_i32_97
  let c31_i32_101 : BitVec 32 := 31#32
  let v246 : BitVec 32 := Scalar.andi v241 c31_i32_101
  let v247 : Index := Scalar.indexCast v246
  let c0_102 : Index := 0#32
  let c0_103 : Index := 0#32
  ![v247.toNat, 0, 0, 0]

def k0_off22 (v235 : BitVec 32) : Fin 4 → Nat :=
  let c7_i32_97 : BitVec 32 := 7#32
  let v241 : BitVec 32 := Scalar.shrsi v235 c7_i32_97
  let c1_i32_104 : BitVec 32 := 1#32
  let v250 : BitVec 32 := Scalar.addi v241 c1_i32_104
  let c31_i32_105 : BitVec 32 := 31#32
  let v251 : BitVec 32 := Scalar.andi v250 c31_i32_105
  let v252 : Index := Scalar.indexCast v251
  let c0_106 : Index := 0#32
  let c0_107 : Index := 0#32
  ![v252.toNat, 0, 0, 0]
def k0_off23 (i : grid0.Coords) (v235 : BitVec 32) : Fin 4 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_99 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  let c128_i32_98 : BitVec 32 := 128#32
  let v242 : BitVec 32 := Scalar.muli v233 c128_i32_98
  let v243 : BitVec 32 := Scalar.subi v242 v235
  let v244 : BitVec 32 := Scalar.subi c2560_i32_99 v243
  let c7_i32_100 : BitVec 32 := 7#32
  let v245 : BitVec 32 := Scalar.shrsi v244 c7_i32_100
  let c19_i32_108 : BitVec 32 := 19#32
  let v255 : BitVec 32 := Scalar.minsi v245 c19_i32_108
  let v256 : BitVec 32 := Scalar.addi v51 v255
  let v257 : Index := Scalar.indexCast v256
  let c0_109 : Index := 0#32
  let c0_110 : Index := 0#32
  ![v257.toNat, 0, 0, 0]
def k0_off24 (i : grid0.Coords) (v235 : BitVec 32) : Fin 4 → Nat :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_99 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  let c128_i32_98 : BitVec 32 := 128#32
  let v242 : BitVec 32 := Scalar.muli v233 c128_i32_98
  let v243 : BitVec 32 := Scalar.subi v242 v235
  let v244 : BitVec 32 := Scalar.subi c2560_i32_99 v243
  let c7_i32_100 : BitVec 32 := 7#32
  let v245 : BitVec 32 := Scalar.shrsi v244 c7_i32_100
  let v260 : BitVec 32 := Scalar.addi v51 v245
  let c1_i32_111 : BitVec 32 := 1#32
  let v261 : BitVec 32 := Scalar.subi v260 c1_i32_111
  let v262 : Index := Scalar.indexCast v261
  let c0_112 : Index := 0#32
  let c0_113 : Index := 0#32
  ![v262.toNat, 0, 0, 0]

def k0_chk4 (i : grid0.Coords) (v235 : BitVec 32) : Prop :=
  (∀ a, (k0_off21 v235) a + S1x512x2x128.size a ≤ S72x512x2x128.size a) ∧
  (∀ a, (k0_off22 v235) a + S1x512x2x128.size a ≤ S72x512x2x128.size a) ∧
  (∀ a, (k0_off23 i v235) a + S1x512x2x128.size a ≤ S72x512x2x128.size a) ∧
  (∀ a, (k0_off24 i v235) a + S1x512x2x128.size a ≤ S72x512x2x128.size a)
theorem k0_off21_inb : ∀ (i : grid0.Coords) (v235 : BitVec 32) (k0_hw4 : k0_chk4 i v235), ∀ a, (k0_off21 v235) a + S1x512x2x128.size a ≤ S72x512x2x128.size a := fun i v235 k0_hw4 => k0_hw4.1
theorem k0_off22_inb : ∀ (i : grid0.Coords) (v235 : BitVec 32) (k0_hw4 : k0_chk4 i v235), ∀ a, (k0_off22 v235) a + S1x512x2x128.size a ≤ S72x512x2x128.size a := fun i v235 k0_hw4 => k0_hw4.2.1
theorem k0_off23_inb : ∀ (i : grid0.Coords) (v235 : BitVec 32) (k0_hw4 : k0_chk4 i v235), ∀ a, (k0_off23 i v235) a + S1x512x2x128.size a ≤ S72x512x2x128.size a := fun i v235 k0_hw4 => k0_hw4.2.2.1
theorem k0_off24_inb : ∀ (i : grid0.Coords) (v235 : BitVec 32) (k0_hw4 : k0_chk4 i v235), ∀ a, (k0_off24 i v235) a + S1x512x2x128.size a ≤ S72x512x2x128.size a := fun i v235 k0_hw4 => k0_hw4.2.2.2

def k0_cond1 (i : grid0.Coords) : BitVec 1 :=
  let arg0 : BitVec 32 := BitVec.ofNat 32 (i 0).val
  let c228_i32 : BitVec 32 := 228#32
  let v292 : BitVec 1 := Scalar.cmpi .slt arg0 c228_i32
  let v293 : BitVec 32 := Scalar.extui v292
  let c0_i32_120 : BitVec 32 := 0#32
  let v294 : BitVec 1 := Scalar.cmpi .ne v293 c0_i32_120
  v294

def k0_off25 (i : grid0.Coords) (c0_i32_140 : BitVec 32) : Fin 4 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c38_i32 : BitVec 32 := 38#32
  let c0_i32_1 : BitVec 32 := 0#32
  let v6 : BitVec 1 := Scalar.cmpi .sgt c38_i32 c0_i32_1
  let v7 : BitVec 32 := Scalar.extui v6
  let c0_i32_2 : BitVec 32 := 0#32
  let v8 : BitVec 1 := Scalar.cmpi .slt c38_i32 c0_i32_2
  let v9 : BitVec 32 := Scalar.extui v8
  let v10 : BitVec 32 := Scalar.subi v7 v9
  let v11 : BitVec 1 := Scalar.cmpi .ne v5 v10
  let v12 : BitVec 32 := Scalar.remsi arg0 c38_i32
  let c0_i32_3 : BitVec 32 := 0#32
  let v13 : BitVec 1 := Scalar.cmpi .ne v12 c0_i32_3
  let v14 : BitVec 1 := Scalar.andi v11 v13
  let v0 : BitVec 32 := Scalar.divsi arg0 c38_i32
  let c1_i32 : BitVec 32 := 1#32
  let v15 : BitVec 32 := Scalar.subi v0 c1_i32
  let v16 : BitVec 32 := Scalar.select v14 v15 v0
  let c38_i32_4 : BitVec 32 := 38#32
  let v17 : BitVec 32 := Scalar.muli v16 c38_i32_4
  let v18 : BitVec 32 := Scalar.subi arg0 v17
  let c5_i32_133 : BitVec 32 := 5#32
  let v329 : BitVec 1 := Scalar.cmpi .slt v18 c5_i32_133
  let c32_i32_136 : BitVec 32 := 32#32
  let c2_i32_134 : BitVec 32 := 2#32
  let v330 : BitVec 32 := Scalar.remsi v16 c2_i32_134
  let c20_i32_135 : BitVec 32 := 20#32
  let v331 : BitVec 32 := Scalar.muli v330 c20_i32_135
  let v332 : BitVec 32 := Scalar.addi c32_i32_136 v331
  let c4_i32_137 : BitVec 32 := 4#32
  let v333 : BitVec 32 := Scalar.muli v18 c4_i32_137
  let v334 : BitVec 32 := Scalar.addi v332 v333
  let c5_i32_138 : BitVec 32 := 5#32
  let v335 : BitVec 32 := Scalar.subi v18 c5_i32_138
  let c8_i32 : BitVec 32 := 8#32
  let v336 : BitVec 32 := Scalar.remsi v335 c8_i32
  let c4_i32_139 : BitVec 32 := 4#32
  let v337 : BitVec 32 := Scalar.muli v336 c4_i32_139
  let v338 : BitVec 32 := Scalar.select v329 v334 v337
  let v340 : BitVec 32 := Scalar.addi v338 c0_i32_140
  let v341 : Index := Scalar.indexCast v340
  let c0_141 : Index := 0#32
  let c0_142 : Index := 0#32
  ![v341.toNat, 0, 0, 0]
def cc0_transform_0 (i : grid0.Coords) : Fin 2 → Nat :=
  let arg0 : BitVec 32 := BitVec.ofNat 32 (i 0).val
  let c227_i32 : BitVec 32 := 227#32
  let v0 : BitVec 32 := Scalar.minsi arg0 c227_i32
  let c38_i32 : BitVec 32 := 38#32
  let v1 : BitVec 32 := Scalar.divsi v0 c38_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c38_i32 c0_i32_1
  let v8 : BitVec 32 := Scalar.extui v7
  let c0_i32_2 : BitVec 32 := 0#32
  let v9 : BitVec 1 := Scalar.cmpi .slt c38_i32 c0_i32_2
  let v10 : BitVec 32 := Scalar.extui v9
  let v11 : BitVec 32 := Scalar.subi v8 v10
  let v12 : BitVec 1 := Scalar.cmpi .ne v6 v11
  let v13 : BitVec 32 := Scalar.remsi v0 c38_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c38_i32_4 : BitVec 32 := 38#32
  let v18 : BitVec 32 := Scalar.muli v17 c38_i32_4
  let v19 : BitVec 32 := Scalar.subi v0 v18
  let c0_i32_5 : BitVec 32 := 0#32
  let c0_i32_6 : BitVec 32 := 0#32
  ![v19.toNat, c0_i32_5.toNat]

def cc0_transform_1 (i : grid0.Coords) : Fin 3 → Nat :=
  let arg0 : BitVec 32 := BitVec.ofNat 32 (i 0).val
  let c227_i32 : BitVec 32 := 227#32
  let v0 : BitVec 32 := Scalar.minsi arg0 c227_i32
  let c38_i32 : BitVec 32 := 38#32
  let v1 : BitVec 32 := Scalar.divsi v0 c38_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c38_i32 c0_i32_1
  let v8 : BitVec 32 := Scalar.extui v7
  let c0_i32_2 : BitVec 32 := 0#32
  let v9 : BitVec 1 := Scalar.cmpi .slt c38_i32 c0_i32_2
  let v10 : BitVec 32 := Scalar.extui v9
  let v11 : BitVec 32 := Scalar.subi v8 v10
  let v12 : BitVec 1 := Scalar.cmpi .ne v6 v11
  let v13 : BitVec 32 := Scalar.remsi v0 c38_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c38_i32_4 : BitVec 32 := 38#32
  let v18 : BitVec 32 := Scalar.muli v17 c38_i32_4
  let v19 : BitVec 32 := Scalar.subi v0 v18
  let c5_i32 : BitVec 32 := 5#32
  let v20 : BitVec 1 := Scalar.cmpi .slt v19 c5_i32
  let c0_i32_5 : BitVec 32 := 0#32
  let c1_i32_6 : BitVec 32 := 1#32
  let v21 : BitVec 32 := Scalar.select v20 c0_i32_5 c1_i32_6
  let c227_i32_7 : BitVec 32 := 227#32
  let v22 : BitVec 32 := Scalar.minsi arg0 c227_i32_7
  let c38_i32_8 : BitVec 32 := 38#32
  let v23 : BitVec 32 := Scalar.divsi v22 c38_i32_8
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c0_i32_11 : BitVec 32 := 0#32
  let v29 : BitVec 1 := Scalar.cmpi .sgt c38_i32_8 c0_i32_11
  let v30 : BitVec 32 := Scalar.extui v29
  let c0_i32_12 : BitVec 32 := 0#32
  let v31 : BitVec 1 := Scalar.cmpi .slt c38_i32_8 c0_i32_12
  let v32 : BitVec 32 := Scalar.extui v31
  let v33 : BitVec 32 := Scalar.subi v30 v32
  let v34 : BitVec 1 := Scalar.cmpi .ne v28 v33
  let v35 : BitVec 32 := Scalar.remsi v22 c38_i32_8
  let c0_i32_13 : BitVec 32 := 0#32
  let v36 : BitVec 1 := Scalar.cmpi .ne v35 c0_i32_13
  let v37 : BitVec 1 := Scalar.andi v34 v36
  let c1_i32_14 : BitVec 32 := 1#32
  let v38 : BitVec 32 := Scalar.subi v23 c1_i32_14
  let v39 : BitVec 32 := Scalar.select v37 v38 v23
  let c38_i32_15 : BitVec 32 := 38#32
  let v40 : BitVec 32 := Scalar.muli v39 c38_i32_15
  let v41 : BitVec 32 := Scalar.subi v22 v40
  let c0_i32_16 : BitVec 32 := 0#32
  let c0_i32_17 : BitVec 32 := 0#32
  ![v21.toNat, v39.toNat, c0_i32_16.toNat]

def cc0_transform_2 (i : grid0.Coords) : Fin 3 → Nat :=
  let arg0 : BitVec 32 := BitVec.ofNat 32 (i 0).val
  let c38_i32 : BitVec 32 := 38#32
  let v0 : BitVec 32 := Scalar.divsi arg0 c38_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c38_i32 c0_i32_1
  let v7 : BitVec 32 := Scalar.extui v6
  let c0_i32_2 : BitVec 32 := 0#32
  let v8 : BitVec 1 := Scalar.cmpi .slt c38_i32 c0_i32_2
  let v9 : BitVec 32 := Scalar.extui v8
  let v10 : BitVec 32 := Scalar.subi v7 v9
  let v11 : BitVec 1 := Scalar.cmpi .ne v5 v10
  let v12 : BitVec 32 := Scalar.remsi arg0 c38_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c38_i32_4 : BitVec 32 := 38#32
  let v17 : BitVec 32 := Scalar.muli v16 c38_i32_4
  let v18 : BitVec 32 := Scalar.subi arg0 v17
  let c5_i32 : BitVec 32 := 5#32
  let v19 : BitVec 1 := Scalar.cmpi .slt v18 c5_i32
  let c1_i32_5 : BitVec 32 := 1#32
  let v20 : BitVec 32 := Scalar.subi v16 c1_i32_5
  let v21 : BitVec 32 := Scalar.select v19 v20 v16
  let c32_i32 : BitVec 32 := 32#32
  let v22 : BitVec 32 := Scalar.addi c32_i32 v18
  let c6_i32 : BitVec 32 := 6#32
  let v23 : BitVec 32 := Scalar.subi v18 c6_i32
  let c0_i32_6 : BitVec 32 := 0#32
  let v24 : BitVec 32 := Scalar.maxsi v23 c0_i32_6
  let v25 : BitVec 32 := Scalar.select v19 v22 v24
  let c0_i32_7 : BitVec 32 := 0#32
  let v26 : BitVec 1 := Scalar.cmpi .slt v21 c0_i32_7
  let c0_i32_8 : BitVec 32 := 0#32
  let v27 : BitVec 32 := Scalar.select v26 c0_i32_8 v21
  let c0_i32_9 : BitVec 32 := 0#32
  let v28 : BitVec 32 := Scalar.select v26 c0_i32_9 v25
  let c0_i32_10 : BitVec 32 := 0#32
  let c0_i32_11 : BitVec 32 := 0#32
  let c0_i32_12 : BitVec 32 := 0#32
  ![v28.toNat, c0_i32_10.toNat, c0_i32_11.toNat]

def cc0_transform_3 (i : grid0.Coords) : Fin 3 → Nat :=
  let arg0 : BitVec 32 := BitVec.ofNat 32 (i 0).val
  let c227_i32 : BitVec 32 := 227#32
  let v0 : BitVec 32 := Scalar.minsi arg0 c227_i32
  let c38_i32 : BitVec 32 := 38#32
  let v1 : BitVec 32 := Scalar.divsi v0 c38_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c38_i32 c0_i32_1
  let v8 : BitVec 32 := Scalar.extui v7
  let c0_i32_2 : BitVec 32 := 0#32
  let v9 : BitVec 1 := Scalar.cmpi .slt c38_i32 c0_i32_2
  let v10 : BitVec 32 := Scalar.extui v9
  let v11 : BitVec 32 := Scalar.subi v8 v10
  let v12 : BitVec 1 := Scalar.cmpi .ne v6 v11
  let v13 : BitVec 32 := Scalar.remsi v0 c38_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c38_i32_4 : BitVec 32 := 38#32
  let v18 : BitVec 32 := Scalar.muli v17 c38_i32_4
  let v19 : BitVec 32 := Scalar.subi v0 v18
  let c5_i32 : BitVec 32 := 5#32
  let v20 : BitVec 1 := Scalar.cmpi .slt v19 c5_i32
  let c0_i32_5 : BitVec 32 := 0#32
  let c1_i32_6 : BitVec 32 := 1#32
  let v21 : BitVec 32 := Scalar.select v20 c0_i32_5 c1_i32_6
  let c227_i32_7 : BitVec 32 := 227#32
  let v22 : BitVec 32 := Scalar.minsi arg0 c227_i32_7
  let c38_i32_8 : BitVec 32 := 38#32
  let v23 : BitVec 32 := Scalar.divsi v22 c38_i32_8
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c0_i32_11 : BitVec 32 := 0#32
  let v29 : BitVec 1 := Scalar.cmpi .sgt c38_i32_8 c0_i32_11
  let v30 : BitVec 32 := Scalar.extui v29
  let c0_i32_12 : BitVec 32 := 0#32
  let v31 : BitVec 1 := Scalar.cmpi .slt c38_i32_8 c0_i32_12
  let v32 : BitVec 32 := Scalar.extui v31
  let v33 : BitVec 32 := Scalar.subi v30 v32
  let v34 : BitVec 1 := Scalar.cmpi .ne v28 v33
  let v35 : BitVec 32 := Scalar.remsi v22 c38_i32_8
  let c0_i32_13 : BitVec 32 := 0#32
  let v36 : BitVec 1 := Scalar.cmpi .ne v35 c0_i32_13
  let v37 : BitVec 1 := Scalar.andi v34 v36
  let c1_i32_14 : BitVec 32 := 1#32
  let v38 : BitVec 32 := Scalar.subi v23 c1_i32_14
  let v39 : BitVec 32 := Scalar.select v37 v38 v23
  let c38_i32_15 : BitVec 32 := 38#32
  let v40 : BitVec 32 := Scalar.muli v39 c38_i32_15
  let v41 : BitVec 32 := Scalar.subi v22 v40
  let c0_i32_16 : BitVec 32 := 0#32
  let c0_i32_17 : BitVec 32 := 0#32
  ![v21.toNat, v39.toNat, c0_i32_16.toNat]

def cc0_transform_4 (i : grid0.Coords) : Fin 3 → Nat :=
  let arg0 : BitVec 32 := BitVec.ofNat 32 (i 0).val
  let c227_i32 : BitVec 32 := 227#32
  let v0 : BitVec 32 := Scalar.minsi arg0 c227_i32
  let c38_i32 : BitVec 32 := 38#32
  let v1 : BitVec 32 := Scalar.divsi v0 c38_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c38_i32 c0_i32_1
  let v8 : BitVec 32 := Scalar.extui v7
  let c0_i32_2 : BitVec 32 := 0#32
  let v9 : BitVec 1 := Scalar.cmpi .slt c38_i32 c0_i32_2
  let v10 : BitVec 32 := Scalar.extui v9
  let v11 : BitVec 32 := Scalar.subi v8 v10
  let v12 : BitVec 1 := Scalar.cmpi .ne v6 v11
  let v13 : BitVec 32 := Scalar.remsi v0 c38_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c38_i32_4 : BitVec 32 := 38#32
  let v18 : BitVec 32 := Scalar.muli v17 c38_i32_4
  let v19 : BitVec 32 := Scalar.subi v0 v18
  let c0_i32_5 : BitVec 32 := 0#32
  let c0_i32_6 : BitVec 32 := 0#32
  let c0_i32_7 : BitVec 32 := 0#32
  ![v19.toNat, c0_i32_5.toNat, c0_i32_6.toNat]

def cc0_transform_5 (i : grid0.Coords) : Fin 2 → Nat :=
  let arg0 : BitVec 32 := BitVec.ofNat 32 (i 0).val
  let c38_i32 : BitVec 32 := 38#32
  let v0 : BitVec 32 := Scalar.divsi arg0 c38_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c38_i32 c0_i32_1
  let v7 : BitVec 32 := Scalar.extui v6
  let c0_i32_2 : BitVec 32 := 0#32
  let v8 : BitVec 1 := Scalar.cmpi .slt c38_i32 c0_i32_2
  let v9 : BitVec 32 := Scalar.extui v8
  let v10 : BitVec 32 := Scalar.subi v7 v9
  let v11 : BitVec 1 := Scalar.cmpi .ne v5 v10
  let v12 : BitVec 32 := Scalar.remsi arg0 c38_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c38_i32_4 : BitVec 32 := 38#32
  let v17 : BitVec 32 := Scalar.muli v16 c38_i32_4
  let v18 : BitVec 32 := Scalar.subi arg0 v17
  let c5_i32 : BitVec 32 := 5#32
  let v19 : BitVec 1 := Scalar.cmpi .slt v18 c5_i32
  let c1_i32_5 : BitVec 32 := 1#32
  let v20 : BitVec 32 := Scalar.subi v16 c1_i32_5
  let v21 : BitVec 32 := Scalar.select v19 v20 v16
  let c32_i32 : BitVec 32 := 32#32
  let v22 : BitVec 32 := Scalar.addi c32_i32 v18
  let c6_i32 : BitVec 32 := 6#32
  let v23 : BitVec 32 := Scalar.subi v18 c6_i32
  let c0_i32_6 : BitVec 32 := 0#32
  let v24 : BitVec 32 := Scalar.maxsi v23 c0_i32_6
  let v25 : BitVec 32 := Scalar.select v19 v22 v24
  let c0_i32_7 : BitVec 32 := 0#32
  let v26 : BitVec 1 := Scalar.cmpi .slt v21 c0_i32_7
  let c0_i32_8 : BitVec 32 := 0#32
  let v27 : BitVec 32 := Scalar.select v26 c0_i32_8 v21
  let c0_i32_9 : BitVec 32 := 0#32
  let v28 : BitVec 32 := Scalar.select v26 c0_i32_9 v25
  let c0_i32_10 : BitVec 32 := 0#32
  ![v27.toNat, v28.toNat]

abbrev stage0_0 : Fin 2 → Memref sig .tc .vmem S512x1792 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S18944 : Shape := ⟨1, ![18944]⟩
abbrev S19456x1792 : Shape := ⟨2, ![19456, 1792]⟩
abbrev S2x6144x3584 : Shape := ⟨3, ![2, 6144, 3584]⟩
abbrev S2x6144x1 : Shape := ⟨3, ![2, 6144, 1]⟩
abbrev S38x1x512 : Shape := ⟨3, ![38, 1, 512]⟩
abbrev S1216x2x8x1792 : Shape := ⟨4, ![1216, 2, 8, 1792]⟩
abbrev S1216x8x2x1792 : Shape := ⟨4, ![1216, 8, 2, 1792]⟩
abbrev S_ : Shape := ⟨0, ![]⟩
abbrev S19456x3584 : Shape := ⟨2, ![19456, 3584]⟩
abbrev S19456 : Shape := ⟨1, ![19456]⟩
abbrev S2560x3584 : Shape := ⟨2, ![2560, 3584]⟩
abbrev S2560 : Shape := ⟨1, ![2560]⟩
abbrev S1x6144x3584 : Shape := ⟨3, ![1, 6144, 3584]⟩
abbrev S6144x3584 : Shape := ⟨2, ![6144, 3584]⟩
abbrev S6144x2560 : Shape := ⟨2, ![6144, 2560]⟩
abbrev S1x6144x1 : Shape := ⟨3, ![1, 6144, 1]⟩
abbrev S6144x1 : Shape := ⟨2, ![6144, 1]⟩
abbrev S1x2560 : Shape := ⟨2, ![1, 2560]⟩
abbrev S16896x3584 : Shape := ⟨2, ![16896, 3584]⟩
abbrev S16896 : Shape := ⟨1, ![16896]⟩
abbrev S6144x16896 : Shape := ⟨2, ![6144, 16896]⟩
abbrev S1x16896 : Shape := ⟨2, ![1, 16896]⟩
abbrev S6144x19456 : Shape := ⟨2, ![6144, 19456]⟩
abbrev S18944x1 : Shape := ⟨2, ![18944, 1]⟩
abbrev S6144x18944 : Shape := ⟨2, ![6144, 18944]⟩

abbrev nBuf : Space → Nat
  | .hbm => 67
  | .vmem => 0
  | .smem => 0
  | _ => 0

abbrev bufTy : (tb : Table) → Fin (tcTables nBuf tb) → BufTy
  | .hbm, ⟨0, _⟩ => ⟨S18944, .i32⟩
  | .hbm, ⟨1, _⟩ => ⟨S19456x1792, .i32⟩
  | .hbm, ⟨2, _⟩ => ⟨S2x6144x3584, .bf16⟩
  | .hbm, ⟨3, _⟩ => ⟨S2x6144x1, .f32⟩
  | .hbm, ⟨4, _⟩ => ⟨S38x1x512, .f32⟩
  | .hbm, ⟨5, _⟩ => ⟨S1216x2x8x1792, .i32⟩
  | .hbm, ⟨6, _⟩ => ⟨S1216x8x2x1792, .i32⟩
  | .hbm, ⟨7, _⟩ => ⟨S19456x1792, .i32⟩
  | .hbm, ⟨8, _⟩ => ⟨S_, .i32⟩
  | .hbm, ⟨9, _⟩ => ⟨S19456x1792, .i32⟩
  | .hbm, ⟨10, _⟩ => ⟨S19456x1792, .i32⟩
  | .hbm, ⟨11, _⟩ => ⟨S19456x1792, .i16⟩
  | .hbm, ⟨12, _⟩ => ⟨S19456x1792, .bf16⟩
  | .hbm, ⟨13, _⟩ => ⟨S_, .i32⟩
  | .hbm, ⟨14, _⟩ => ⟨S19456x1792, .i32⟩
  | .hbm, ⟨15, _⟩ => ⟨S19456x1792, .i32⟩
  | .hbm, ⟨16, _⟩ => ⟨S19456x1792, .i16⟩
  | .hbm, ⟨17, _⟩ => ⟨S19456x1792, .bf16⟩
  | .hbm, ⟨18, _⟩ => ⟨S19456x3584, .bf16⟩
  | .hbm, ⟨19, _⟩ => ⟨S19456, .f32⟩
  | .hbm, ⟨20, _⟩ => ⟨S2560x3584, .bf16⟩
  | .hbm, ⟨21, _⟩ => ⟨S2560, .f32⟩
  | .hbm, ⟨22, _⟩ => ⟨S1x6144x3584, .bf16⟩
  | .hbm, ⟨23, _⟩ => ⟨S6144x3584, .bf16⟩
  | .hbm, ⟨24, _⟩ => ⟨S6144x2560, .f32⟩
  | .hbm, ⟨25, _⟩ => ⟨S1x6144x1, .f32⟩
  | .hbm, ⟨26, _⟩ => ⟨S6144x1, .f32⟩
  | .hbm, ⟨27, _⟩ => ⟨S6144x2560, .f32⟩
  | .hbm, ⟨28, _⟩ => ⟨S6144x2560, .f32⟩
  | .hbm, ⟨29, _⟩ => ⟨S1x2560, .f32⟩
  | .hbm, ⟨30, _⟩ => ⟨S6144x2560, .f32⟩
  | .hbm, ⟨31, _⟩ => ⟨S6144x2560, .f32⟩
  | .hbm, ⟨32, _⟩ => ⟨S6144x2560, .bf16⟩
  | .hbm, ⟨33, _⟩ => ⟨S16896x3584, .bf16⟩
  | .hbm, ⟨34, _⟩ => ⟨S16896, .f32⟩
  | .hbm, ⟨35, _⟩ => ⟨S1x6144x3584, .bf16⟩
  | .hbm, ⟨36, _⟩ => ⟨S6144x3584, .bf16⟩
  | .hbm, ⟨37, _⟩ => ⟨S6144x16896, .f32⟩
  | .hbm, ⟨38, _⟩ => ⟨S1x6144x1, .f32⟩
  | .hbm, ⟨39, _⟩ => ⟨S6144x1, .f32⟩
  | .hbm, ⟨40, _⟩ => ⟨S6144x16896, .f32⟩
  | .hbm, ⟨41, _⟩ => ⟨S6144x16896, .f32⟩
  | .hbm, ⟨42, _⟩ => ⟨S1x16896, .f32⟩
  | .hbm, ⟨43, _⟩ => ⟨S6144x16896, .f32⟩
  | .hbm, ⟨44, _⟩ => ⟨S6144x16896, .f32⟩
  | .hbm, ⟨45, _⟩ => ⟨S6144x16896, .bf16⟩
  | .hbm, ⟨46, _⟩ => ⟨S6144x19456, .bf16⟩
  | .hbm, ⟨47, _⟩ => ⟨S_, .i32⟩
  | .hbm, ⟨48, _⟩ => ⟨S18944, .i32⟩
  | .hbm, ⟨49, _⟩ => ⟨S18944, .i1⟩
  | .hbm, ⟨50, _⟩ => ⟨S18944, .i32⟩
  | .hbm, ⟨51, _⟩ => ⟨S_, .i32⟩
  | .hbm, ⟨52, _⟩ => ⟨S_, .i32⟩
  | .hbm, ⟨53, _⟩ => ⟨S18944, .i32⟩
  | .hbm, ⟨54, _⟩ => ⟨S18944, .i32⟩
  | .hbm, ⟨55, _⟩ => ⟨S18944, .i32⟩
  | .hbm, ⟨56, _⟩ => ⟨S_, .i32⟩
  | .hbm, ⟨57, _⟩ => ⟨S18944, .i32⟩
  | .hbm, ⟨58, _⟩ => ⟨S18944, .i32⟩
  | .hbm, ⟨59, _⟩ => ⟨S18944, .i32⟩
  | .hbm, ⟨60, _⟩ => ⟨S18944, .i32⟩
  | .hbm, ⟨61, _⟩ => ⟨S_, .i32⟩
  | .hbm, ⟨62, _⟩ => ⟨S18944, .i32⟩
  | .hbm, ⟨63, _⟩ => ⟨S18944, .i32⟩
  | .hbm, ⟨64, _⟩ => ⟨S18944, .i32⟩
  | .hbm, ⟨65, _⟩ => ⟨S18944x1, .i32⟩
  | .hbm, ⟨66, _⟩ => ⟨S6144x18944, .bf16⟩
  | _, _ => ⟨S18944, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_1 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_call0_call0_c : Ref sig .tc := ⟨.hbm, 51, rfl⟩
abbrev main_call0_call0_v0 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_2 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_3 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call2_v0 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Quantise.lean ====
abbrev S6144x3584 : Shape := ⟨2, ![6144, 3584]⟩
abbrev S6144x1 : Shape := ⟨2, ![6144, 1]⟩
abbrev S2x6144x3584 : Shape := ⟨3, ![2, 6144, 3584]⟩
abbrev S256x3584 : Shape := ⟨2, ![256, 3584]⟩
abbrev S256x1 : Shape := ⟨2, ![256, 1]⟩
abbrev S2x256x3584 : Shape := ⟨3, ![2, 256, 3584]⟩
abbrev S256 : Shape := ⟨1, ![256]⟩
abbrev S1x256x3584 : Shape := ⟨3, ![1, 256, 3584]⟩
abbrev S128x3584 : Shape := ⟨2, ![128, 3584]⟩
abbrev S128x128 : Shape := ⟨2, ![128, 128]⟩
abbrev S256x128 : Shape := ⟨2, ![256, 128]⟩
abbrev S1x128 : Shape := ⟨2, ![1, 128]⟩
abbrev S256x128x1 : Shape := ⟨3, ![256, 128, 1]⟩
abbrev S1x256x128 : Shape := ⟨3, ![1, 256, 128]⟩

abbrev nBuf : Space → Nat
  | .hbm => 4
  | .vmem => 8
  | .smem => 0
  | _ => 0

abbrev bufTy : (tb : Table) → Fin (tcTables nBuf tb) → BufTy
  | .hbm, ⟨0, _⟩ => ⟨S6144x3584, .bf16⟩
  | .hbm, ⟨1, _⟩ => ⟨S6144x3584, .i8⟩
  | .hbm, ⟨2, _⟩ => ⟨S6144x1, .f32⟩
  | .hbm, ⟨3, _⟩ => ⟨S2x6144x3584, .bf16⟩
  | .local _ .vmem, ⟨0, _⟩ => ⟨S256x3584, .bf16⟩
  | .local _ .vmem, ⟨1, _⟩ => ⟨S256x3584, .bf16⟩
  | .local _ .vmem, ⟨2, _⟩ => ⟨S256x3584, .i8⟩
  | .local _ .vmem, ⟨3, _⟩ => ⟨S256x3584, .i8⟩
  | .local _ .vmem, ⟨4, _⟩ => ⟨S256x1, .f32⟩
  | .local _ .vmem, ⟨5, _⟩ => ⟨S256x1, .f32⟩
  | .local _ .vmem, ⟨6, _⟩ => ⟨S2x256x3584, .bf16⟩
  | .local _ .vmem, ⟨7, _⟩ => ⟨S2x256x3584, .bf16⟩
  | _, _ => ⟨S6144x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantiseIdeal.lean ====
variable {F : FTy → Type} [FloatOps F]
-- ==== QuantiseReferenceIdeal.lean ====
abbrev S6144x3584 : Shape := ⟨2, ![6144, 3584]⟩
abbrev S6144x1792 : Shape := ⟨2, ![6144, 1792]⟩
abbrev S6144x1 : Shape := ⟨2, ![6144, 1]⟩
abbrev S2x6144x3584 : Shape := ⟨3, ![2, 6144, 3584]⟩
abbrev S6144 : Shape := ⟨1, ![6144]⟩
abbrev S1x6144x3584 : Shape := ⟨3, ![1, 6144, 3584]⟩

abbrev nBuf : Space → Nat
  | .hbm => 7
  | .vmem => 5
  | .smem => 0
  | _ => 0

abbrev bufTy : (tb : Table) → Fin (tcTables nBuf tb) → BufTy
  | .hbm, ⟨0, _⟩ => ⟨S6144x3584, .bf16⟩
  | .hbm, ⟨1, _⟩ => ⟨S6144x1792, .bf16⟩
  | .hbm, ⟨2, _⟩ => ⟨S6144x1792, .bf16⟩
  | .hbm, ⟨3, _⟩ => ⟨S6144x3584, .bf16⟩
  | .hbm, ⟨4, _⟩ => ⟨S6144x3584, .i8⟩
  | .hbm, ⟨5, _⟩ => ⟨S6144x1, .f32⟩
  | .hbm, ⟨6, _⟩ => ⟨S2x6144x3584, .bf16⟩
  | .local _ .vmem, ⟨0, _⟩ => ⟨S6144x3584, .bf16⟩
  | .local _ .vmem, ⟨1, _⟩ => ⟨S6144x3584, .bf16⟩
  | .local _ .vmem, ⟨2, _⟩ => ⟨S6144x3584, .i8⟩
  | .local _ .vmem, ⟨3, _⟩ => ⟨S6144x1, .f32⟩
  | .local _ .vmem, ⟨4, _⟩ => ⟨S2x6144x3584, .bf16⟩
  | _, _ => ⟨S6144x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x6144x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Sched.lean ====
module

public import Idealize.ShloMosaic.Lib.Exec

@[expose] public section

/-! The schedule of the matmul's grid, in natural numbers. Grid point `g` is step `g % 38` of token tile
`g / 38`. It emits one output block and then, for `g < 228`, computes one strip of weight rows. -/
namespace Cert.Sched

/-- The token tile of the emitted block. -/
def em (g : Nat) : Nat := if g % 38 < 5 then g / 38 - 1 else g / 38

/-- The column block of the emitted block. -/
def ej (g : Nat) : Nat := if g % 38 < 5 then (if g < 38 then 0 else 32 + g % 38) else g % 38 - 6

/-- The first slot the 8-bit half of the emitted tile's token is kept in. -/
def ebase (g : Nat) : Nat := 32 + em g % 2 * 20

/-- The first of the four slots the computed strip is stored to. -/
def stBase (g : Nat) : Nat := if g % 38 < 5 then 32 + g / 38 % 2 * 20 + 4 * (g % 38) else (g % 38 - 5) % 8 * 4

end Cert.Sched

end
-- ==== Proof.IPoints.lean ====
module

public import proofs.«01_k».proof.Proof.Sched
public import proofs.«01_k».proof.Proof.Gen.KernelIdeal
public import proofs.«01_k».proof.Proof.Gen.KernelIdeal.Skeleton
public import proofs.«01_k».proof.Proof.Gen.KernelIdeal.Launch
public import Idealize.ShloMosaic.Lib.Exec

@[expose] public section

set_option maxRecDepth 16384

/-! Closed forms of the offsets the matmul's body computes at a grid point. -/
namespace Cert.KernelIdeal.Run

open Cert.KernelIdeal Cert.KernelIdeal.Gen Cert.Sched
open Idealize.ShloMosaic

/-- The grid coordinates of point `x`. -/
def pt (x : Fin 233) : grid0.Coords := fun a => ⟨x.val, by
  have : a = 0 := Fin.ext (by have := a.isLt; simpa [grid0] using this)
  subst this; exact x.isLt⟩

theorem eq_pt (i : grid0.Coords) : i = pt (i 0) := by
  funext a
  have : a = 0 := Fin.ext (by have := a.isLt; simpa [grid0] using this)
  subst this; rfl

theorem lt_point (i : grid0.Coords) : (i 0).val < 233 := (i 0).isLt

theorem off1_eq (i : grid0.Coords) : k0_off1 i = ![4 * ej (i 0).val + 0] := by
  rw [eq_pt i]
  exact (by decide +kernel : ∀ x : Fin 233, k0_off1 (pt x) = ![4 * ej (pt x 0).val + 0]) (i 0)

theorem off2_eq (i : grid0.Coords) : k0_off2 i = ![4 * ej (i 0).val + 1] := by
  rw [eq_pt i]
  exact (by decide +kernel : ∀ x : Fin 233, k0_off2 (pt x) = ![4 * ej (pt x 0).val + 1]) (i 0)

theorem off7_eq (i : grid0.Coords) : k0_off7 i = ![4 * ej (i 0).val + 1] := by
  rw [eq_pt i]
  exact (by decide +kernel : ∀ x : Fin 233, k0_off7 (pt x) = ![4 * ej (pt x 0).val + 1]) (i 0)

theorem off8_eq (i : grid0.Coords) : k0_off8 i = ![4 * ej (i 0).val + 2] := by
  rw [eq_pt i]
  exact (by decide +kernel : ∀ x : Fin 233, k0_off8 (pt x) = ![4 * ej (pt x 0).val + 2]) (i 0)

theorem off13_eq (i : grid0.Coords) : k0_off13 i = ![4 * ej (i 0).val + 2] := by
  rw [eq_pt i]
  exact (by decide +kernel : ∀ x : Fin 233, k0_off13 (pt x) = ![4 * ej (pt x 0).val + 2]) (i 0)

theorem off14_eq (i : grid0.Coords) : k0_off14 i = ![4 * ej (i 0).val + 3] := by
  rw [eq_pt i]
  exact (by decide +kernel : ∀ x : Fin 233, k0_off14 (pt x) = ![4 * ej (pt x 0).val + 3]) (i 0)

theorem off19_eq (i : grid0.Coords) : k0_off19 i = ![4 * ej (i 0).val + 3] := by
  rw [eq_pt i]
  exact (by decide +kernel : ∀ x : Fin 233, k0_off19 (pt x) = ![4 * ej (pt x 0).val + 3]) (i 0)

theorem off20_eq (i : grid0.Coords) : k0_off20 i = ![4 * ej (i 0).val + 4] := by
  rw [eq_pt i]
  exact (by decide +kernel : ∀ x : Fin 233, k0_off20 (pt x) = ![4 * ej (pt x 0).val + 4]) (i 0)

theorem off25_eq (i : grid0.Coords) (r : Fin 4) : k0_off25 i (BitVec.ofNat 32 r.val) = ![stBase (i 0).val + r.val, 0, 0, 0] := by
  rw [eq_pt i]
  exact (by decide +kernel : ∀ (x : Fin 233) (r : Fin 4), k0_off25 (pt x) (BitVec.ofNat 32 r.val) = ![stBase (pt x 0).val + r.val, 0, 0, 0]) (i 0) r

instance (i : grid0.Coords) : ClosedOff (k0_off25 i 0#32) := ⟨![stBase (i 0).val + 0, 0, 0, 0], off25_eq i 0⟩
instance (i : grid0.Coords) : ClosedOff (k0_off25 i 1#32) := ⟨![stBase (i 0).val + 1, 0, 0, 0], off25_eq i 1⟩
instance (i : grid0.Coords) : ClosedOff (k0_off25 i 2#32) := ⟨![stBase (i 0).val + 2, 0, 0, 0], off25_eq i 2⟩
instance (i : grid0.Coords) : ClosedOff (k0_off25 i 3#32) := ⟨![stBase (i 0).val + 3, 0, 0, 0], off25_eq i 3⟩

theorem cond1_iff (i : grid0.Coords) : k0_cond1 i = 1#1 ↔ (i 0).val < 228 := by
  rw [eq_pt i]
  exact (by decide +kernel : ∀ x : Fin 233, k0_cond1 (pt x) = 1#1 ↔ (pt x 0).val < 228) (i 0)

end Cert.KernelIdeal.Run

end
-- ==== Proof.IRun.lean ====
module

public import proofs.«01_k».proof.Proof.IPoints
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.FrameBody
public import Idealize.ShloMosaic.Lib.Writes
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table operand and the scratch operand, whole buffers. -/
abbrev tbM : Memref sig .tc .smem S149 .i32 := Memref.whole main_v10
abbrev scM : Memref sig .tc .vmem S72x512x2x128 .bf16 := Memref.whole cc0_scratch0

/-- The table word the body reads at an offset. -/
abbrev word (T : S149.Idx → Elt F .i32) (off : Fin 1 → Nat) (h : ∀ a, off a + S1.size a ≤ S149.size a) : BitVec 32 :=
  View.readAt (Elt F) tbM.view (Rect.unit (s := S149) off S1.size h).toLoadRect T (Shape.Idx.first (numel1_S1.symm ▸ Nat.one_pos))

set_option backward.proofsInPublic true in
set_option maxHeartbeats 16000000 in
/-- A step that emits an output block and computes a weight strip's tiles: the pieces it stores and what it leaves in the scratch buffer. -/
noncomputable def runA (c : Dev nD) (i : grid0.Coords) (arg2 : Memref sig .tc .vmem S512x1792 .i32) (harg2 : arg2.IsWhole) (arg3 : Memref sig .tc .vmem S1x1024x3584 .bf16) (harg3 : arg3.IsWhole) (arg4 : Memref sig .tc .vmem S1x4x128 .i32) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1024x512 .bf16) (harg7 : arg7.IsWhole)
    (q : PosShare TreeShare) (T : S149.Idx → Elt F .i32) (x2 : Vec F S512x1792 .i32) (x3 : Vec F S1x1024x3584 .bf16) (x4 : Vec F S1x4x128 .i32) (x5 : Vec F S1x1024x1 .f32) (x6 : Vec F S1x1x512 .f32)
    (Y : Buf (Elt F) ((c : Thread nD τ).loc cc0_scratch0))
    (h1 : k0_chk1 i (word T (k0_off1 i) (k0_off1_inb i))) (h2 : k0_chk2 i (word T (k0_off7 i) (k0_off7_inb i)))
    (h3 : k0_chk3 i (word T (k0_off13 i) (k0_off13_inb i))) (h4 : k0_chk4 i (word T (k0_off19 i) (k0_off19_inb i)))
    (hc : k0_cond1 i = 1#1) :
    Σ' (L : List (View.Piece (Elt F) S1024x512 .bf16)), { Y' : Buf (Elt F) ((c : Thread nD τ).loc cc0_scratch0) //
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (tbM.view.loc (c : Thread nD τ) ↦{q} T) ∗ (∃ d, owns (c : Thread nD τ) arg7 fullShare d) ∗ (scM.view.loc (c : Thread nD τ) ↦{fullShare} Y)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (tbM.view.loc (c : Thread nD τ) ↦{q} T) ∗ (∃ f, arg7.view.loc (c : Thread nD τ) ↦[arg7.view.set]{fullShare} arg7.view.writes (Elt F) f L) ∗ (scM.view.loc (c : Thread nD τ) ↦{fullShare} Y')) -∗ K ⟨⟩))
          ⊢ wp frame (wpE (defs₀ (F := F)) Variants.none c none) Set.univ (cc0_matmul i tbM (Memref.isWhole_whole _) arg2 harg2 arg3 harg3 arg4 harg4 arg5 harg5 arg6 harg6 arg7 harg7 scM (Memref.isWhole_whole _)) K } := by
  refine ⟨?_, ?_, fun K => ?run⟩
  case run =>
    rw [cc0_matmul_eq_skeleton]; unfold cc0_matmul_skel
    unfold owns
    iintro ⟨⟨%f2, %hf2, H2⟩, ⟨%f3, %hf3, H3⟩, ⟨%f4, %hf4, H4⟩, ⟨%f5, %hf5, H5⟩, ⟨%f6, %hf6, H6⟩, HT, ⟨%d7, %f7, -, H7⟩, HS, Hk⟩
    obtain rfl := harg2.eq_unread hf2
    obtain rfl := harg3.eq_unread hf3
    obtain rfl := harg4.eq_unread hf4
    obtain rfl := harg5.eq_unread hf5
    obtain rfl := harg6.eq_unread hf6
    have hS : scM.IsWhole := Memref.isWhole_whole _
    have hT : tbM.IsWhole := Memref.isWhole_whole _
    sl_exec!
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [HT]; · iexact HT
    isplitl [H7]; · iexists _; iexact H7
    iexact HS

set_option backward.proofsInPublic true in
set_option maxHeartbeats 16000000 in
/-- A step that only emits an output block (the grid's last five). -/
noncomputable def runB (c : Dev nD) (i : grid0.Coords) (arg2 : Memref sig .tc .vmem S512x1792 .i32) (harg2 : arg2.IsWhole) (arg3 : Memref sig .tc .vmem S1x1024x3584 .bf16) (harg3 : arg3.IsWhole) (arg4 : Memref sig .tc .vmem S1x4x128 .i32) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1024x512 .bf16) (harg7 : arg7.IsWhole)
    (q : PosShare TreeShare) (T : S149.Idx → Elt F .i32) (x2 : Vec F S512x1792 .i32) (x3 : Vec F S1x1024x3584 .bf16) (x4 : Vec F S1x4x128 .i32) (x5 : Vec F S1x1024x1 .f32) (x6 : Vec F S1x1x512 .f32)
    (Y : Buf (Elt F) ((c : Thread nD τ).loc cc0_scratch0))
    (h1 : k0_chk1 i (word T (k0_off1 i) (k0_off1_inb i))) (h2 : k0_chk2 i (word T (k0_off7 i) (k0_off7_inb i)))
    (h3 : k0_chk3 i (word T (k0_off13 i) (k0_off13_inb i))) (h4 : k0_chk4 i (word T (k0_off19 i) (k0_off19_inb i)))
    (hc : ¬(k0_cond1 i = 1#1)) :
    Σ' (L : List (View.Piece (Elt F) S1024x512 .bf16)), { Y' : Buf (Elt F) ((c : Thread nD τ).loc cc0_scratch0) //
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (tbM.view.loc (c : Thread nD τ) ↦{q} T) ∗ (∃ d, owns (c : Thread nD τ) arg7 fullShare d) ∗ (scM.view.loc (c : Thread nD τ) ↦{fullShare} Y)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (tbM.view.loc (c : Thread nD τ) ↦{q} T) ∗ (∃ f, arg7.view.loc (c : Thread nD τ) ↦[arg7.view.set]{fullShare} arg7.view.writes (Elt F) f L) ∗ (scM.view.loc (c : Thread nD τ) ↦{fullShare} Y')) -∗ K ⟨⟩))
          ⊢ wp frame (wpE (defs₀ (F := F)) Variants.none c none) Set.univ (cc0_matmul i tbM (Memref.isWhole_whole _) arg2 harg2 arg3 harg3 arg4 harg4 arg5 harg5 arg6 harg6 arg7 harg7 scM (Memref.isWhole_whole _)) K } := by
  refine ⟨?_, ?_, fun K => ?run⟩
  case run =>
    rw [cc0_matmul_eq_skeleton]; unfold cc0_matmul_skel
    unfold owns
    iintro ⟨⟨%f2, %hf2, H2⟩, ⟨%f3, %hf3, H3⟩, ⟨%f4, %hf4, H4⟩, ⟨%f5, %hf5, H5⟩, ⟨%f6, %hf6, H6⟩, HT, ⟨%d7, %f7, -, H7⟩, HS, Hk⟩
    obtain rfl := harg2.eq_unread hf2
    obtain rfl := harg3.eq_unread hf3
    obtain rfl := harg4.eq_unread hf4
    obtain rfl := harg5.eq_unread hf5
    obtain rfl := harg6.eq_unread hf6
    have hS : scM.IsWhole := Memref.isWhole_whole _
    have hT : tbM.IsWhole := Memref.isWhole_whole _
    sl_exec!
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [HT]; · iexact HT
    isplitl [H7]; · iexists _; iexact H7
    iexact HS

end Cert.KernelIdeal.Run

end
-- ==== Proof.IFrame.lean ====
module

public import proofs.«01_k».proof.Proof.IRun
public import Idealize.ShloMosaic.Lib.Pipeline.Quiescent
public import Idealize.ShloMosaic.Lib.Pipeline.Kit
public import Idealize.ShloMosaic.Lib.Pipeline.Frame
public import Idealize.ShloMosaic.Lib.Pipeline.DatRel
public import Idealize.ShloMosaic.Lib.Pipeline.ArrRel
public import Idealize.ShloMosaic.Lib.Claim

@[expose] public section

set_option maxRecDepth 16384
set_option Elab.async false

noncomputable section

/-! The run of the whole program, with what each step leaves in the scratch buffer and in the output block held to
predicates that the caller states. -/
namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region, stretch by stretch. -/
abbrev opss : List (List (HloOp τ sig (Elt F))) := [hostOps0, hostOps0_1, hostOps0_2, hostOps0_3, hostOps0_4]

theorem opss_fresh : (opss (F := F)).Forall fun ops => ops.Forall fun op => op.fresh = ∅ := by
  simp only [List.Forall]; repeat' constructor

theorem opss_sub : (opss (F := F)).Forall fun ops => ops.Forall fun op => op.bufs ⊆ StableHlo.tcRefs τ sig :=
  ⟨hostOps0_sub, hostOps0_1_sub, hostOps0_2_sub, hostOps0_3_sub, hostOps0_4_sub⟩

/-- The buffers as the region finds them. -/
def V (c : Dev nD) (b : Ref sig .tc) : Buf (Elt F) ((c : Thread nD τ).loc b) :=
  StableHlo.after (opss (F := F)).flatten (fun b => m (c, b)) b

theorem hmain : Pipeline.HMainP (Ix := Unit) (Name := ℕ) (U := UR sig nD τ) (Lvl := ℕ) pcfgs 0 defs₀ Variants.none m (main (F := F)) (V m) :=
  Pipeline.hmainP_prefixes (pcfgs (F := F)) 0 defs₀ Variants.none m main opss opss_sub opss_fresh main_chain

/-- The references the host operations write. -/
abbrev written : List (Ref sig .tc) := [main_c, main_v0, main_v1, main_v2, main_call0_call0_c, main_call0_call0_v0, main_v3, main_v4, main_v5, main_v6, main_v7, main_v8, main_c_0, main_v9, main_v10, main_c_1, main_v11, main_v12, main_v13, main_c_2, main_v14, main_v15, main_v16]

theorem opss_writes : ((opss (F := F)).flatten).Forall fun op => op.writes ⊆ (written.map (Proc.devRef (τ := τ) .tc)).toFinset :=
  StableHlo.forall_writes_sub_of_map rfl

theorem V_main_arg0 (c : Dev nD) : V m c main_arg0 = m ((c : Thread nD τ).loc main_arg0) :=
  StableHlo.after_of_writes_sub (opss (F := F)).flatten _ opss_writes (by decide)
theorem V_main_arg1 (c : Dev nD) : V m c main_arg1 = m ((c : Thread nD τ).loc main_arg1) :=
  StableHlo.after_of_writes_sub (opss (F := F)).flatten _ opss_writes (by decide)
theorem V_main_arg2 (c : Dev nD) : V m c main_arg2 = m ((c : Thread nD τ).loc main_arg2) :=
  StableHlo.after_of_writes_sub (opss (F := F)).flatten _ opss_writes (by decide)
theorem V_main_arg3 (c : Dev nD) : V m c main_arg3 = m ((c : Thread nD τ).loc main_arg3) :=
  StableHlo.after_of_writes_sub (opss (F := F)).flatten _ opss_writes (by decide)
theorem V_main_arg4 (c : Dev nD) : V m c main_arg4 = m ((c : Thread nD τ).loc main_arg4) :=
  StableHlo.after_of_writes_sub (opss (F := F)).flatten _ opss_writes (by decide)

/-- The prefetched table as the region finds it. -/
def adm : (pcfg0 (F := F)).Adm := ⟨fun | 0 => V m 0 main_v10 | ⟨_ + 1, h⟩ => absurd h (Nat.not_lt.2 (Nat.le_add_left _ _)), trivial⟩

abbrev cfgA : Cfg sig Λ₀ := cfg0 (F := F) (adm m)
abbrev pcs : Fin 1 → Cfg sig Λ₀ := Pipeline.pin (pcfgs (F := F)) fun _ => adm m

/-- The table's words. -/
abbrev tab : S149.Idx → Elt F .i32 := V m 0 main_v10

abbrev crd (t : Fin (cfgA m).N) : grid0.Coords := grid0.coords t
abbrev ms0 (t : Fin (cfgA m).N) : Memref sig .tc .vmem S512x1792 .i32 := spec0_0.stage ((cfgA m).slots t (0 : Fin 6))
abbrev hs0 (t : Fin (cfgA m).N) : (ms0 m t).IsWhole := hstage0_0 (((cfgA m).slots t (0 : Fin 6)).cast nbuf0_0)
abbrev ms1 (t : Fin (cfgA m).N) : Memref sig .tc .vmem S1x1024x3584 .bf16 := spec0_1.stage ((cfgA m).slots t (1 : Fin 6))
abbrev hs1 (t : Fin (cfgA m).N) : (ms1 m t).IsWhole := hstage0_1 (((cfgA m).slots t (1 : Fin 6)).cast nbuf0_1)
abbrev ms2 (t : Fin (cfgA m).N) : Memref sig .tc .vmem S1x4x128 .i32 := spec0_2.stage ((cfgA m).slots t (2 : Fin 6))
abbrev hs2 (t : Fin (cfgA m).N) : (ms2 m t).IsWhole := hstage0_2 (((cfgA m).slots t (2 : Fin 6)).cast nbuf0_2)
abbrev ms3 (t : Fin (cfgA m).N) : Memref sig .tc .vmem S1x1024x1 .f32 := spec0_3.stage ((cfgA m).slots t (3 : Fin 6))
abbrev hs3 (t : Fin (cfgA m).N) : (ms3 m t).IsWhole := hstage0_3 (((cfgA m).slots t (3 : Fin 6)).cast nbuf0_3)
abbrev ms4 (t : Fin (cfgA m).N) : Memref sig .tc .vmem S1x1x512 .f32 := spec0_4.stage ((cfgA m).slots t (4 : Fin 6))
abbrev hs4 (t : Fin (cfgA m).N) : (ms4 m t).IsWhole := hstage0_4 (((cfgA m).slots t (4 : Fin 6)).cast nbuf0_4)
abbrev ms5 (t : Fin (cfgA m).N) : Memref sig .tc .vmem S1024x512 .bf16 := spec0_5.stage ((cfgA m).slots t (5 : Fin 6))
abbrev hs5 (t : Fin (cfgA m).N) : (ms5 m t).IsWhole := hstage0_5 (((cfgA m).slots t (5 : Fin 6)).cast nbuf0_5)

/-- An input window's block at a point. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The side conditions the body assumes of the table's words, at every point. -/
structure Checks : Prop where
  h1 : ∀ i, k0_chk1 i (word (F := F) (tab m) (k0_off1 i) (k0_off1_inb i))
  h2 : ∀ i, k0_chk2 i (word (F := F) (tab m) (k0_off7 i) (k0_off7_inb i))
  h3 : ∀ i, k0_chk3 i (word (F := F) (tab m) (k0_off13 i) (k0_off13_inb i))
  h4 : ∀ i, k0_chk4 i (word (F := F) (tab m) (k0_off19 i) (k0_off19_inb i))

variable (hk : Checks m)

/-- The run of a computing step at point `t`, from scratch contents `Y`. -/
abbrev atA (c : Dev nD) (t : Fin (cfgA m).N) (Y : Buf (Elt F) ((c : Thread nD τ).loc cc0_scratch0)) (hc : k0_cond1 (crd m t) = 1#1) :=
  runA c (crd m t) (ms0 m t) (hs0 m t) (ms1 m t) (hs1 m t) (ms2 m t) (hs2 m t) (ms3 m t) (hs3 m t) (ms4 m t) (hs4 m t) (ms5 m t) (hs5 m t)
    fullShare.right (tab m) (iblk m c (0 : Fin 6) t) (iblk m c (1 : Fin 6) t) (iblk m c (2 : Fin 6) t) (iblk m c (3 : Fin 6) t) (iblk m c (4 : Fin 6) t) Y
    (hk.h1 _) (hk.h2 _) (hk.h3 _) (hk.h4 _) hc

/-- The run of an emitting step at point `t`, from scratch contents `Y`. -/
abbrev atB (c : Dev nD) (t : Fin (cfgA m).N) (Y : Buf (Elt F) ((c : Thread nD τ).loc cc0_scratch0)) (hc : ¬(k0_cond1 (crd m t) = 1#1)) :=
  runB c (crd m t) (ms0 m t) (hs0 m t) (ms1 m t) (hs1 m t) (ms2 m t) (hs2 m t) (ms3 m t) (hs3 m t) (ms4 m t) (hs4 m t) (ms5 m t) (hs5 m t)
    fullShare.right (tab m) (iblk m c (0 : Fin 6) t) (iblk m c (1 : Fin 6) t) (iblk m c (2 : Fin 6) t) (iblk m c (3 : Fin 6) t) (iblk m c (4 : Fin 6) t) Y
    (hk.h1 _) (hk.h2 _) (hk.h3 _) (hk.h4 _) hc

variable (Inv : (c : Dev nD) → Nat → Buf (Elt F) ((c : Thread nD τ).loc cc0_scratch0) → Prop)
variable (Out : (c : Dev nD) → Fin (cfgA m).N → (S1024x512.Idx → Elt F .bf16) → Prop)

/-- The steps keep the scratch predicate and establish the block predicate. -/
structure Steps : Prop where
  zero : ∀ c Y, Inv c 0 Y
  invA : ∀ c t Y hc, Inv c t.val Y → Inv c (t.val + 1) (atA m hk c t Y hc).2.1
  outA : ∀ c t Y hc f, Inv c t.val Y → Out c t ((ms5 m t).view.read (Elt F) ((ms5 m t).view.writes (Elt F) f (atA m hk c t Y hc).1))
  invB : ∀ c t Y hc, Inv c t.val Y → Inv c (t.val + 1) (atB m hk c t Y hc).2.1
  outB : ∀ c t Y hc f, Inv c t.val Y → Out c t ((ms5 m t).view.read (Elt F) ((ms5 m t).view.writes (Elt F) f (atB m hk c t Y hc).1))

/-- What is said of the scratch buffer, the generator and the table before point `t`. -/
def Phi (c : Dev nD) (t : Nat) : sProp 𝕄 :=
  iprop((∃ Y, ⌜Inv c t Y⌝ ∗ (scM.view.loc (c : Thread nD τ) ↦{fullShare} Y)) ∗ (∃ r, prngReg c r) ∗ (tbM.view.loc (c : Thread nD τ) ↦{fullShare.right} tab m))

/-- The proof data of the one pipeline on core `c`; the output window's contents are not named here. -/
def dat (c : Dev nD) : Dat τ (Elt F) Unit ℕ (UR sig nD τ) ℕ (cfgA m) c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => iblk m c (5 : Fin 6) t
  Φ t := Phi m Inv c t.val
  q _ := fullShare
  owed _ := 0

/-- The output window alone is held to a predicate. -/
abbrev marked : Fin 6 → Bool := fun | 5 => true | _ => false

/-- The predicate of the output window, as the library takes it. -/
def Rl (c : Dev nD) (w : Fin (cfgA m).W) (t : Fin (cfgA m).N) : (((cfgA m).win w).block.Idx → Elt F ((cfgA m).win w).elt) → Prop :=
  match w with
  | ⟨5, _⟩ => fun X => Out c t X
  | _ => fun _ => True

abbrev rdat (c : Dev nD) : RDat τ (Elt F) Unit ℕ (UR sig nD τ) ℕ (cfgA m) c := (dat m Inv c).toRRel marked (Rl m Out c)

theorem after_0 (c : Dev nD) (t : Fin (cfgA m).N) : (dat m Inv c).after (0 : Fin 6) t = iblk m c (0 : Fin 6) t := by dsimp only [dat]
theorem before_0 (c : Dev nD) (t : Fin (cfgA m).N) (d) : (dat m Inv c).before (0 : Fin 6) t d = iblk m c (0 : Fin 6) t :=
  ((dat m Inv c).before_in_eq_fetched (0 : Fin 6) rfl (fun _ => rfl) (fun _ _ _ => rfl) (fun t => by rw [after_0]; unfold Dat.blockOf iblk; rfl) t d).trans
    (by unfold Dat.fetched Dat.blockOf iblk; rfl)
theorem after_1 (c : Dev nD) (t : Fin (cfgA m).N) : (dat m Inv c).after (1 : Fin 6) t = iblk m c (1 : Fin 6) t := by dsimp only [dat]
theorem before_1 (c : Dev nD) (t : Fin (cfgA m).N) (d) : (dat m Inv c).before (1 : Fin 6) t d = iblk m c (1 : Fin 6) t :=
  ((dat m Inv c).before_in_eq_fetched (1 : Fin 6) rfl (fun _ => rfl) (fun _ _ _ => rfl) (fun t => by rw [after_1]; unfold Dat.blockOf iblk; rfl) t d).trans
    (by unfold Dat.fetched Dat.blockOf iblk; rfl)
theorem after_2 (c : Dev nD) (t : Fin (cfgA m).N) : (dat m Inv c).after (2 : Fin 6) t = iblk m c (2 : Fin 6) t := by dsimp only [dat]
theorem before_2 (c : Dev nD) (t : Fin (cfgA m).N) (d) : (dat m Inv c).before (2 : Fin 6) t d = iblk m c (2 : Fin 6) t :=
  ((dat m Inv c).before_in_eq_fetched (2 : Fin 6) rfl (fun _ => rfl) (fun _ _ _ => rfl) (fun t => by rw [after_2]; unfold Dat.blockOf iblk; rfl) t d).trans
    (by unfold Dat.fetched Dat.blockOf iblk; rfl)
theorem after_3 (c : Dev nD) (t : Fin (cfgA m).N) : (dat m Inv c).after (3 : Fin 6) t = iblk m c (3 : Fin 6) t := by dsimp only [dat]
theorem before_3 (c : Dev nD) (t : Fin (cfgA m).N) (d) : (dat m Inv c).before (3 : Fin 6) t d = iblk m c (3 : Fin 6) t :=
  ((dat m Inv c).before_in_eq_fetched (3 : Fin 6) rfl (fun _ => rfl) (fun _ _ _ => rfl) (fun t => by rw [after_3]; unfold Dat.blockOf iblk; rfl) t d).trans
    (by unfold Dat.fetched Dat.blockOf iblk; rfl)
theorem after_4 (c : Dev nD) (t : Fin (cfgA m).N) : (dat m Inv c).after (4 : Fin 6) t = iblk m c (4 : Fin 6) t := by dsimp only [dat]
theorem before_4 (c : Dev nD) (t : Fin (cfgA m).N) (d) : (dat m Inv c).before (4 : Fin 6) t d = iblk m c (4 : Fin 6) t :=
  ((dat m Inv c).before_in_eq_fetched (4 : Fin 6) rfl (fun _ => rfl) (fun _ _ _ => rfl) (fun t => by rw [after_4]; unfold Dat.blockOf iblk; rfl) t d).trans
    (by unfold Dat.fetched Dat.blockOf iblk; rfl)

variable {m hk Inv Out}

set_option maxHeartbeats 4000000 in
theorem sound_body (hs : Steps m hk Inv Out) (c : Dev nD) : BodyObligationRel (dat m Inv c) (defs₀ (F := F)) Variants.none () Set.univ marked (Rl m Out c) := fun t => by
  rw [bigSep_W0, bigSep_W0]
  show iprop(Phi m Inv c t.val ∗ (dat m Inv c).owesAt () t.castSucc
      ∗ (∃ d, owns (c : Thread nD τ) (ms0 m t) fullShare ((dat m Inv c).before (0 : Fin 6) t d))
      ∗ (∃ d, owns (c : Thread nD τ) (ms1 m t) fullShare ((dat m Inv c).before (1 : Fin 6) t d))
      ∗ (∃ d, owns (c : Thread nD τ) (ms2 m t) fullShare ((dat m Inv c).before (2 : Fin 6) t d))
      ∗ (∃ d, owns (c : Thread nD τ) (ms3 m t) fullShare ((dat m Inv c).before (3 : Fin 6) t d))
      ∗ (∃ d, owns (c : Thread nD τ) (ms4 m t) fullShare ((dat m Inv c).before (4 : Fin 6) t d))
      ∗ (∃ Y, ⌜((dat m Inv c).toRRel marked (Rl m Out c)).Finds (5 : Fin 6) t Y⌝ ∗ owns (c : Thread nD τ) (ms5 m t) fullShare Y))
    ⊢ wp frame (wpE (defs₀ (F := F)) Variants.none c none) Set.univ (cc0_matmul (crd m t) tbM (Memref.isWhole_whole _) (ms0 m t) (hs0 m t) (ms1 m t) (hs1 m t) (ms2 m t) (hs2 m t) (ms3 m t) (hs3 m t) (ms4 m t) (hs4 m t) (ms5 m t) (hs5 m t) scM (Memref.isWhole_whole _)) fun _ =>
      iprop(Phi m Inv c (t.val + 1) ∗ (dat m Inv c).owesAt () t.castSucc
      ∗ owns (c : Thread nD τ) (ms0 m t) fullShare ((dat m Inv c).after (0 : Fin 6) t)
      ∗ owns (c : Thread nD τ) (ms1 m t) fullShare ((dat m Inv c).after (1 : Fin 6) t)
      ∗ owns (c : Thread nD τ) (ms2 m t) fullShare ((dat m Inv c).after (2 : Fin 6) t)
      ∗ owns (c : Thread nD τ) (ms3 m t) fullShare ((dat m Inv c).after (3 : Fin 6) t)
      ∗ owns (c : Thread nD τ) (ms4 m t) fullShare ((dat m Inv c).after (4 : Fin 6) t)
      ∗ (∃ X, ⌜Out c t X⌝ ∗ owns (c : Thread nD τ) (ms5 m t) fullShare X))
  simp only [before_0, before_1, before_2, before_3, before_4, after_0, after_1, after_2, after_3, after_4]
  unfold Phi
  iintro ⟨⟨⟨%Y, %hY, HS⟩, Hg, HT⟩, Ho, ⟨%d0, H0⟩, ⟨%d1, H1⟩, ⟨%d2, H2⟩, ⟨%d3, H3⟩, ⟨%d4, H4⟩, ⟨%Y5, -, H5⟩⟩
  by_cases hc : k0_cond1 (crd m t) = 1#1
  · iapply ((atA m hk c t Y hc).2.2 _)
    isplitl [H0]; · iexact H0
    isplitl [H1]; · iexact H1
    isplitl [H2]; · iexact H2
    isplitl [H3]; · iexact H3
    isplitl [H4]; · iexact H4
    isplitl [HT]; · iexact HT
    isplitl [H5]; · iexists _; iexact H5
    isplitl [HS]; · iexact HS
    iintro ⟨H0, H1, H2, H3, H4, HT, ⟨%f5, H5⟩, HS⟩
    isplitl [HS Hg HT]
    · isplitl [HS]
      · iexists _; isplitr; swap
        · iexact HS
        · ipureintro; exact hs.invA c t Y hc hY
      isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    iexists _; isplitr; swap
    · unfold owns; iexists _; isplitr; swap
      · iexact H5
      · ipureintro; rfl
    · ipureintro; exact hs.outA c t Y hc f5 hY
  · iapply ((atB m hk c t Y hc).2.2 _)
    isplitl [H0]; · iexact H0
    isplitl [H1]; · iexact H1
    isplitl [H2]; · iexact H2
    isplitl [H3]; · iexact H3
    isplitl [H4]; · iexact H4
    isplitl [HT]; · iexact HT
    isplitl [H5]; · iexists _; iexact H5
    isplitl [HS]; · iexact HS
    iintro ⟨H0, H1, H2, H3, H4, HT, ⟨%f5, H5⟩, HS⟩
    isplitl [HS Hg HT]
    · isplitl [HS]
      · iexists _; isplitr; swap
        · iexact HS
        · ipureintro; exact hs.invB c t Y hc hY
      isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    iexists _; isplitr; swap
    · unfold owns; iexists _; isplitr; swap
      · iexact H5
      · ipureintro; rfl
    · ipureintro; exact hs.outB c t Y hc f5 hY

/-! ## The launch -/

theorem share_eq (c : Dev nD) (w : Fin (cfgA m).W) : (rdat m Inv Out c).share w = fullShare := by
  show (dat m Inv c).share w = fullShare
  unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v10) ↦{q 0} v 0)) := by
  unfold Pipeline.prefHeld
  rw [show (Finset.univ : Finset (Fin 1)) = {(0 : Fin 1)} from by decide, bigSep_singleton]
  rfl

theorem phi_intro (hs : Steps m hk Inv Out) (c : Dev nD) : iprop(Pipeline.ΦA spec0 c ∗ Pipeline.ΦT pre0 (adm m).1 c) ⊢ Phi m Inv c 0 := by
  unfold Pipeline.ΦA Pipeline.ΦT
  rw [prefHeld_eq, scopedRest0_eq]
  unfold Phi
  iintro ⟨⟨⟨%Y, HS⟩, Hg⟩, HT⟩
  isplitl [HS]
  · iexists Y; isplitr; swap
    · iexact HS
    · ipureintro; exact hs.zero c Y
  isplitl [Hg]; · iexact Hg
  iexact HT

theorem phi_exit (c : Dev nD) (n : Nat) : Phi m Inv c n ⊢ Pipeline.ΦA spec0 c := by
  unfold Pipeline.ΦA
  rw [scopedRest0_eq]
  unfold Phi
  iintro ⟨⟨%Y, -, HS⟩, Hg, -⟩
  isplitl [HS]
  · iexists Y; iexact HS
  iexact Hg

theorem V_pre (c : Dev nD) (k : Fin 1) : V m c (pre0.ref k) = (adm m).1 k := by
  obtain rfl : k = 0 := Subsingleton.elim _ _
  obtain rfl : c = 0 := Subsingleton.elim _ _
  rfl

set_option backward.isDefEq.respectTransparency.types false in
set_option maxHeartbeats 4000000 in
/-- From any memory whose table words pass the checks, every execution ends, each output block left at a point is as `Out`
    says, and the counters are at zero. -/
theorem run_main (hs : Steps m hk Inv Out) : θ_run (defs (F := F)) (onTc (τ := τ) (main (F := F))) ⟨m, fun _ => 0, ρ⟩
    (fun r => RDat.FramePost (cfgA m) (rdat m Inv Out) (V m) r ∧ r.2.sem = fun _ => 0) :=
  Pipeline.RDat.θ_run_frameP_track (pcfgs (F := F)) (fun _ => adm m) (0 : Fin 1) launch0 defs₀ Variants.none (rdat m Inv Out) m ρ main
    (hbody := fun c => (sound_body hs c).toRRel) (hshare := fun c w => share_eq c w) (howed := fun _ _ => rfl) (V := V m) (hmain := hmain m)
    (hA := fun _ _ => rfl) (hpf := fun c k => V_pre c k) (hin := fun c => phi_intro hs c) (hout := fun c => phi_exit c _)
    (Q' := fun r => RDat.FramePost (cfgA m) (rdat m Inv Out) (V m) r ∧ r.2.sem = fun _ => 0) (hQ' := fun _ h => h)

set_option maxHeartbeats 4000000 in
/-- The frame: the arguments are unchanged and the counters at zero. -/
theorem frame (hs : Steps m hk Inv Out) : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (show main_arg0 ∈ Pipeline.restRefs sig spec0 by decide)).trans (V_main_arg0 m c),
     ((congrFun ((rdat m Inv Out c).ArrAt_in (0 : Fin 6) rfl _) _).mp ((h.1 c).1 (0 : Fin 6))).trans (V_main_arg1 m c),
     ((congrFun ((rdat m Inv Out c).ArrAt_in (1 : Fin 6) rfl _) _).mp ((h.1 c).1 (1 : Fin 6))).trans (V_main_arg2 m c),
     ((congrFun ((rdat m Inv Out c).ArrAt_in (3 : Fin 6) rfl _) _).mp ((h.1 c).1 (3 : Fin 6))).trans (V_main_arg3 m c),
     ((congrFun ((rdat m Inv Out c).ArrAt_in (4 : Fin 6) rfl _) _).mp ((h.1 c).1 (4 : Fin 6))).trans (V_main_arg4 m c)⟩, h.2⟩) (run_main (ρ := ρ) hs)

end Cert.KernelIdeal.Run

end
-- ==== Proof.Prefix.lean ====
module

public import Idealize.ShloMosaic.Lib.Routing.Ops
public import Idealize.ShloMosaic.Lib.Routing.Words
public import Idealize.ShloMosaic.Lib.Routing.BitFacts
public import Idealize.ShloMosaic.Lib.Routing.Count
public import Idealize.ShloMosaic.Lib.WordCmp
public import Idealize.ShloMosaic.Lib.Pipeline.Value

@[expose] public section

set_option maxRecDepth 16384

noncomputable section

/-! The tables the host computes from the channel order: for each output channel, how many earlier channels are
8-bit and how many are 4-bit. -/
namespace Cert.Prefix

open Idealize.ShloMosaic Idealize.ShloMosaic.ValueIdx Idealize.ShloMosaic.Routing Idealize.ShloMosaic.WordCmp

/-- The shape of a vector over the output channels. -/
abbrev C : Shape := ⟨1, ![18944]⟩
/-- The shape of a scalar. -/
abbrev U : Shape := ⟨0, ![]⟩

variable (x : IVec C 32)

/-- Channel `n` is one of the 8-bit channels. -/
def low (n : Nat) : Prop := ∃ h : n < 18944, (x (ix1 (⟨n, h⟩ : Fin 18944))).toInt < 2368

instance : DecidablePred (low x) := fun _ => Classical.propDecidable _

/-- The 8-bit channels before channel `n`. -/
def b8 (n : Nat) : Nat := Nat.count (low x) n
/-- The 4-bit channels before channel `n`. -/
def b4 (n : Nat) : Nat := n - b8 x n

theorem b8_le (n : Nat) : b8 x n ≤ n := Nat.count_le _

theorem b8_mono {a b : Nat} (h : a ≤ b) : b8 x a ≤ b8 x b := Nat.count_monotone _ h

theorem b8_succ (n : Nat) : b8 x (n + 1) = b8 x n + if low x n then 1 else 0 := Nat.count_succ _ _

theorem b8_add_le (n k : Nat) : b8 x (n + k) ≤ b8 x n + k := by
  induction k with
  | zero => exact Nat.le_refl _
  | succ k ih => rw [← Nat.add_assoc, b8_succ]; split <;> omega

theorem b4_mono {a b : Nat} (h : a ≤ b) : b4 x a ≤ b4 x b := by
  have h1 := b8_add_le x a (b - a)
  have h2 := b8_le x a
  rw [Nat.add_sub_cancel' h] at h1
  unfold b4; omega

theorem b8_add_b4 (n : Nat) : b8 x n + b4 x n = n := by
  have := b8_le x n; unfold b4; omega

/-- The host's mask of the 8-bit channels. -/
def mask : IVec C 1 := cmpi .slt x (broadcastInDim C ![] (by decide) (constantI U 32 2368#32))

/-- The host's running count of the 8-bit channels before each channel. -/
def before8 : IVec C 32 :=
  subi (Host.reduceWindow IntOp.addi ![18944] ![1] ![18943] ![0] (extui 32 (mask x) (by decide))
      (broadcastInDim U ![] (by decide) (constantI U 32 0#32)) (by decide) (by decide)) (extui 32 (mask x) (by decide))

/-- The host's running count of the 4-bit channels before each channel. -/
def before4 : IVec C 32 := subi (iotaInDim C 32 0) (before8 x)

/-- The table of 4-bit counts at every 128th channel, and at the end. -/
def table : IVec ⟨1, ![149]⟩ 32 :=
  concatenate (⟨1, ![149]⟩ : Shape) 0 [⟨⟨1, ![148]⟩, Host.slice (⟨1, ![148]⟩ : Shape) ![0] ![128] (before4 x) (by decide)⟩,
    ⟨⟨1, ![1]⟩, broadcastInDim (⟨1, ![1]⟩ : Shape) ![] (by decide) (constantI U 32 16576#32)⟩]
    (by decide : Shape.Concatenates [⟨1, ![148]⟩, ⟨1, ![1]⟩] ⟨1, ![149]⟩ 0)

/-- The lane of each channel within its register row. -/
def lanes : IVec ⟨3, ![37, 4, 128]⟩ 32 :=
  shapeCast (⟨3, ![37, 4, 128]⟩ : Shape) (andi (select (mask x)
    (subi (broadcastInDim C ![] (by decide) (constantI U 32 4294967295#32)) (before8 x)) (before4 x))
    (broadcastInDim C ![] (by decide) (constantI U 32 127#32))) (by decide)

theorem mask_ap (i : Fin 18944) : mask x (ix1 i) = BitVec.ofBool (decide (low x i.val)) := by
  have e : mask x (ix1 i) = BitVec.ofBool ((x (ix1 i)).slt 2368#32) := rfl
  rw [e, BitVec.slt]
  congr 1
  have : (2368#32 : BitVec 32).toInt = 2368 := by decide
  rw [this]
  refine decide_eq_decide.2 ⟨fun h => ⟨i.isLt, h⟩, fun h => h.2⟩

theorem before8_ap (i : Fin 18944) : before8 x (ix1 i) = BitVec.ofNat 32 (b8 x i.val) := by
  unfold before8
  rw [subi_ap, cumsum1 (by rfl) _ (fun c => if low x c then 1 else 0)
    (fun c => by rw [extui_at, mask_ap, setWidth_ofBool]) _ (by rw [bc0]; rfl), sum_map_ite, extui_at, mask_ap, setWidth_ofBool]
  have h := b8_succ x i.val
  rw [show Nat.count (low x) (i.val + 1) = b8 x (i.val + 1) from rfl, h, ofNat32_sub (by omega)]
  congr 1; omega

theorem before4_ap (i : Fin 18944) : before4 x (ix1 i) = BitVec.ofNat 32 (b4 x i.val) := by
  unfold before4
  rw [subi_ap, before8_ap, iota1_ap, ofNat32_sub (b8_le x _)]; rfl

/-- The table's word at `o < 148`. -/
theorem table_lt (o : Fin 149) (h : o.val < 148) : table x (ix1 o) = BitVec.ofNat 32 (b4 x (128 * o.val)) := by
  have e : table x (ix1 o) = before4 x (ix1 (⟨128 * o.val, by omega⟩ : Fin 18944)) := by
    unfold table
    refine (concatenate_pair_apply_left (s₁ := ⟨1, ![148]⟩) 0 _ _ _ (ix1 o) rfl (ix1 (⟨o.val, h⟩ : Fin 148)) ?_).trans ?_
    · intro b; match b with | ⟨0, _⟩ => rfl
    · refine congrArg (before4 x) (funext fun b => Fin.ext ?_)
      match b with
      | ⟨0, _⟩ => show 0 + 128 * o.val = 128 * o.val; omega
  rw [e, before4_ap]

theorem table_last : table x (ix1 (148 : Fin 149)) = 16576#32 := by
  unfold table
  refine (concatenate_pair_apply_right (s₁ := ⟨1, ![148]⟩) (s₂ := ⟨1, ![1]⟩) 0 _ _ _ (ix1 (148 : Fin 149)) rfl rfl (ix1 (0 : Fin 1)) ?_ ?_).trans ?_
  · intro b; match b with | ⟨0, _⟩ => intro h; exact absurd rfl h
  · rfl
  · rfl

/-- The channel order has the promised number of 8-bit channels. -/
def Split : Prop := b8 x 18944 = 2368

theorem eq_of_cmpi (a b : BitVec 32) (h : IntOp.cmpi .eq a b = 1#1) : a = b := by
  have e : IntOp.cmpi .eq a b = BitVec.ofBool (a == b) := rfl
  rw [e] at h
  cases hh : a == b with
  | true => exact eq_of_beq hh
  | false => rw [hh] at h; exact absurd h (by decide)

theorem split_of (hb) (h1) (h2 : C.ReducesTo [0] U) (h3)
    (h : cmpi .eq (Host.reduce IntOp.addi (extui 32 (cmpi .slt x (broadcastInDim C ![] hb (constantI U 32 2368#32))) h1) (constantI U 32 0#32) h2 h3)
      (constantI U 32 2368#32) = fun _ => 1#1) : Split x := by
  have h := congrFun h ix0
  rw [cmpi_at, reduce_sum _ (fun c => if low x c then 1 else 0)
    (fun c => by rw [extui_at]; exact (congrArg _ (mask_ap x c)).trans (setWidth_ofBool _)), sum_map_ite] at h
  have hle : Nat.count (low x) 18944 ≤ 18944 := Nat.count_le _
  have : BitVec.ofNat 32 (Nat.count (low x) 18944) = 2368#32 := by
    exact eq_of_cmpi _ _ h
  have := congrArg BitVec.toNat this
  unfold Split b8
  rw [BitVec.toNat_ofNat, BitVec.toNat_ofNat] at this
  omega

variable {x} (hs : Split x)

include hs in
theorem table_ap (o : Fin 149) : table x (ix1 o) = BitVec.ofNat 32 (b4 x (128 * o.val)) := by
  by_cases h : o.val < 148
  · exact table_lt x o h
  · obtain rfl : o = 148 := Fin.ext (by have := o.isLt; show o.val = 148; omega)
    rw [table_last]
    unfold b4
    rw [show 128 * (148 : Fin 149).val = 18944 from rfl, hs]

include hs in
theorem b8_le_split {n : Nat} (h : n ≤ 18944) : b8 x n ≤ 2368 := hs ▸ b8_mono x h

/-- The lane of channel `n`: counted up from the start of the 4-bit channels, or down from the end of the 8-bit ones. -/
def lane (x : IVec C 32) (n : Nat) : Nat := if low x n then 127 - b8 x n % 128 else b4 x n % 128

theorem lane_lt (x : IVec C 32) (n : Nat) : lane x n < 128 := by unfold lane; split <;> omega

theorem and127 (a : Nat) : BitVec.ofNat 32 a &&& 127#32 = BitVec.ofNat 32 (a % 128) := by
  apply BitVec.eq_of_toNat_eq
  rw [BitVec.toNat_and, BitVec.toNat_ofNat, BitVec.toNat_ofNat, show 127 % 2 ^ 32 = 2 ^ 7 - 1 from rfl, Nat.and_two_pow_sub_one_eq_mod, BitVec.toNat_ofNat]
  omega

theorem and31 (a : Nat) : BitVec.ofNat 32 a &&& 31#32 = BitVec.ofNat 32 (a % 32) := by
  apply BitVec.eq_of_toNat_eq
  rw [BitVec.toNat_and, BitVec.toNat_ofNat, BitVec.toNat_ofNat, show 31 % 2 ^ 32 = 2 ^ 5 - 1 from rfl, Nat.and_two_pow_sub_one_eq_mod, BitVec.toNat_ofNat]
  omega

theorem neg_and127 (b : Nat) : (4294967295#32 - BitVec.ofNat 32 b) &&& 127#32 = BitVec.ofNat 32 (127 - b % 128) := by
  apply BitVec.eq_of_toNat_eq
  rw [BitVec.toNat_and, BitVec.toNat_sub, BitVec.toNat_ofNat, BitVec.toNat_ofNat, show (127#32).toNat = 2 ^ 7 - 1 from rfl, Nat.and_two_pow_sub_one_eq_mod, BitVec.toNat_ofNat]
  omega

theorem lanes_ap (x : IVec C 32) (j : Fin 37) (r : Fin 4) (l : Fin 128) :
    lanes x (ix3 j r l) = BitVec.ofNat 32 (lane x (512 * j.val + 128 * r.val + l.val)) := by
  have hn : 512 * j.val + 128 * r.val + l.val < 18944 := by have := j.isLt; have := r.isLt; have := l.isLt; omega
  unfold lanes
  rw [cast13 (n := 18944) _ _ j r l ⟨512 * j.val + 128 * r.val + l.val, hn⟩ (by show 512 * j.val + 128 * r.val + l.val = (j.val * 4 + r.val) * 128 + l.val; omega)]
  rw [andi_at, select_at, mask_ap, select_decide, subi_ap, before8_ap, before4_ap, bc0, bc0, constantI_at, constantI_at]
  unfold lane
  split
  · exact neg_and127 _
  · exact and127 _

/-! ## The words the body computes from the table -/

theorem shr7 {a : Nat} (h : a < 2 ^ 31) : Scalar.shrsi (BitVec.ofNat 32 a) 7#32 = BitVec.ofNat 32 (a / 128) := by
  have e : Scalar.shrsi (BitVec.ofNat 32 a) 7#32 = (BitVec.ofNat 32 a).sshiftRight 7 := rfl
  have hm : (BitVec.ofNat 32 a).msb = false := by
    rw [BitVec.msb_eq_decide, BitVec.toNat_ofNat]; simp; omega
  rw [e, BitVec.sshiftRight_eq_of_msb_false hm]
  apply BitVec.eq_of_toNat_eq
  rw [BitVec.toNat_ushiftRight, BitVec.toNat_ofNat, BitVec.toNat_ofNat, Nat.shiftRight_eq_div_pow]
  omega

theorem slt_ofNat {a b : Nat} (ha : a < 2 ^ 31) (hb : b < 2 ^ 31) : (BitVec.ofNat 32 a).slt (BitVec.ofNat 32 b) = decide (a < b) := by
  rw [BitVec.slt, StableHlo.Predicate.toInt_ofNat_small _ ha, StableHlo.Predicate.toInt_ofNat_small _ hb]
  exact decide_eq_decide.2 (by omega)

/-- The register row of a 4-bit count, in the ring of 32. -/
def lo3 (a : BitVec 32) : BitVec 32 := Scalar.andi (Scalar.shrsi a 7#32) 31#32
/-- The register row after it. -/
def lo4 (a : BitVec 32) : BitVec 32 := Scalar.andi (Scalar.addi (Scalar.shrsi a 7#32) 1#32) 31#32
/-- The register row, of the 8-bit rows, of the last row counted down. -/
def hi5 (b v a : BitVec 32) : BitVec 32 :=
  Scalar.addi b (Scalar.minsi (Scalar.shrsi (Scalar.subi 2560#32 (Scalar.subi (Scalar.muli v 128#32) a)) 7#32) 19#32)
/-- The register row before it. -/
def hi6 (b v a : BitVec 32) : BitVec 32 :=
  Scalar.subi (Scalar.addi b (Scalar.shrsi (Scalar.subi 2560#32 (Scalar.subi (Scalar.muli v 128#32) a)) 7#32)) 1#32

theorem lo3_eq {a : Nat} (h : a < 2 ^ 31) : (lo3 (BitVec.ofNat 32 a)).toNat = a / 128 % 32 := by
  unfold lo3
  rw [shr7 h]
  refine (congrArg BitVec.toNat (and31 _)).trans ?_
  rw [BitVec.toNat_ofNat]; omega

theorem lo4_eq {a : Nat} (h : a < 2 ^ 31) : (lo4 (BitVec.ofNat 32 a)).toNat = (a / 128 + 1) % 32 := by
  unfold lo4
  rw [shr7 h]
  have e : Scalar.addi (BitVec.ofNat 32 (a / 128)) 1#32 = BitVec.ofNat 32 (a / 128 + 1) := (BitVec.ofNat_add_ofNat _ _)
  rw [e]
  refine (congrArg BitVec.toNat (and31 _)).trans ?_
  rw [BitVec.toNat_ofNat]; omega

theorem hi_word {o a : Nat} (ho : o < 149) (ha : a ≤ 128 * o) (hd : 128 * o - a ≤ 2560) :
    Scalar.shrsi (Scalar.subi 2560#32 (Scalar.subi (Scalar.muli (BitVec.ofNat 32 o) 128#32) (BitVec.ofNat 32 a))) 7#32
      = BitVec.ofNat 32 ((2560 - (128 * o - a)) / 128) := by
  have e1 : Scalar.muli (BitVec.ofNat 32 o) 128#32 = BitVec.ofNat 32 (128 * o) := by
    apply BitVec.eq_of_toNat_eq
    show (BitVec.ofNat 32 o * 128#32).toNat = _
    rw [BitVec.toNat_mul, BitVec.toNat_ofNat, BitVec.toNat_ofNat]; simp; omega
  have e2 : Scalar.subi (BitVec.ofNat 32 (128 * o)) (BitVec.ofNat 32 a) = BitVec.ofNat 32 (128 * o - a) := ofNat32_sub ha
  have e3 : Scalar.subi 2560#32 (BitVec.ofNat 32 (128 * o - a)) = BitVec.ofNat 32 (2560 - (128 * o - a)) := ofNat32_sub (a := 2560) hd
  rw [e1, e2, e3, shr7 (by omega)]

theorem hi5_eq {b o a : Nat} (hb : b ≤ 52) (ho : o < 149) (ha : a ≤ 128 * o) (hd : 128 * o - a ≤ 2560) :
    (hi5 (BitVec.ofNat 32 b) (BitVec.ofNat 32 o) (BitVec.ofNat 32 a)).toNat = b + min ((2560 - (128 * o - a)) / 128) 19 := by
  unfold hi5
  rw [hi_word ho ha hd]
  have e : Scalar.minsi (BitVec.ofNat 32 ((2560 - (128 * o - a)) / 128)) 19#32 = BitVec.ofNat 32 (min ((2560 - (128 * o - a)) / 128) 19) := by
    show (if (BitVec.ofNat 32 ((2560 - (128 * o - a)) / 128)).slt (BitVec.ofNat 32 19) then _ else _) = _
    rw [slt_ofNat (by omega) (by omega)]
    by_cases h : (2560 - (128 * o - a)) / 128 < 19
    · rw [if_pos (decide_eq_true h), Nat.min_eq_left (by omega)]
    · rw [if_neg (by simpa using h), Nat.min_eq_right (by omega)]
  rw [e]
  show (BitVec.ofNat 32 b + _).toNat = _
  rw [BitVec.toNat_add, BitVec.toNat_ofNat, BitVec.toNat_ofNat]; omega

theorem hi6_eq {b o a : Nat} (hb : b ≤ 52) (ho : o < 149) (ha : a ≤ 128 * o) (hd : 128 * o - a ≤ 2432) :
    (hi6 (BitVec.ofNat 32 b) (BitVec.ofNat 32 o) (BitVec.ofNat 32 a)).toNat = b + (2560 - (128 * o - a)) / 128 - 1 := by
  unfold hi6
  rw [hi_word ho ha (by omega)]
  show (BitVec.ofNat 32 b + BitVec.ofNat 32 _ - BitVec.ofNat 32 1).toNat = _
  rw [BitVec.ofNat_add_ofNat, ofNat32_sub (by omega), BitVec.toNat_ofNat]; omega

end Cert.Prefix

end
-- ==== Proof.ITables.lean ====
module

public import proofs.«01_k».proof.Proof.IFrame
public import proofs.«01_k».proof.Proof.IPoints
public import proofs.«01_k».proof.Proof.Prefix
public import proofs.«01_k».proof.Proof.Gen.Pre_split
public import Idealize.ShloMosaic.Lib.StableHlo.RunRead

@[expose] public section

set_option maxRecDepth 16384
set_option Elab.async false

noncomputable section

/-! The table's words, the offsets the body computes from them, and that these offsets are in range when the channel
order has the promised number of 8-bit channels. -/
namespace Cert.KernelIdeal.Run

open Cert.KernelIdeal Cert.KernelIdeal.Gen Cert.Sched Cert.Prefix
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The channel order. -/
abbrev ord : IVec C 32 := m ((0 : Dev nD).tc.loc main_arg0)

section
attribute [local irreducible] Host.reduceWindow broadcastInDim constantI cmpi extui subi select andi concatenate Host.slice shapeCast iotaInDim

/-- The table the host computes. -/
theorem tab_eq : tab m = Prefix.table (ord m) := by
  show StableHlo.after (opss (F := F)).flatten _ (Proc.devRef .tc main_v10) = _
  simp only [List.flatten_cons, List.flatten_nil, List.append_nil]
  after_reads_simp
  try simp -implicitDefEqProofs only [StableHlo.TRef.toBuf, StableHlo.TRef.ofBuf, cast_cast, cast_eq]
  unfold Prefix.table Prefix.before4 Prefix.before8 Prefix.mask
  rfl

/-- The lane indices the host computes. -/
theorem V_lanes (c : Dev nD) : V m c main_v16 = Prefix.lanes (ord m) := by
  obtain rfl : c = 0 := Subsingleton.elim _ _
  show StableHlo.after (opss (F := F)).flatten _ (Proc.devRef .tc main_v16) = _
  simp only [List.flatten_cons, List.flatten_nil, List.append_nil]
  after_reads_simp
  try simp -implicitDefEqProofs only [StableHlo.TRef.toBuf, StableHlo.TRef.ofBuf, cast_cast, cast_eq]
  unfold Prefix.lanes Prefix.before4 Prefix.before8 Prefix.mask
  rfl

end

/-- The word the body computes for the first slot of the emitted tile's 8-bit half. -/
def wbase (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  v51

/-- The word the body computes for register row 0 of the emitted block. -/
def wrow0 (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  v53

theorem wrow0_eq (i : grid0.Coords) : wrow0 i = BitVec.ofNat 32 (4 * ej (i 0).val + 0) := by
  rw [eq_pt i]
  exact (by decide +kernel : ∀ x : Fin 233, wrow0 (pt x) = BitVec.ofNat 32 (4 * ej (pt x 0).val + 0)) (i 0)

/-- The word the body computes for register row 1 of the emitted block. -/
def wrow1 (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_46 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  v113

theorem wrow1_eq (i : grid0.Coords) : wrow1 i = BitVec.ofNat 32 (4 * ej (i 0).val + 1) := by
  rw [eq_pt i]
  exact (by decide +kernel : ∀ x : Fin 233, wrow1 (pt x) = BitVec.ofNat 32 (4 * ej (pt x 0).val + 1)) (i 0)

/-- The word the body computes for register row 2 of the emitted block. -/
def wrow2 (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_73 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  v173

theorem wrow2_eq (i : grid0.Coords) : wrow2 i = BitVec.ofNat 32 (4 * ej (i 0).val + 2) := by
  rw [eq_pt i]
  exact (by decide +kernel : ∀ x : Fin 233, wrow2 (pt x) = BitVec.ofNat 32 (4 * ej (pt x 0).val + 2)) (i 0)

/-- The word the body computes for register row 3 of the emitted block. -/
def wrow3 (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_99 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  v233

theorem wrow3_eq (i : grid0.Coords) : wrow3 i = BitVec.ofNat 32 (4 * ej (i 0).val + 3) := by
  rw [eq_pt i]
  exact (by decide +kernel : ∀ x : Fin 233, wrow3 (pt x) = BitVec.ofNat 32 (4 * ej (pt x 0).val + 3)) (i 0)

theorem wbase_eq (i : grid0.Coords) : wbase i = BitVec.ofNat 32 (ebase (i 0).val) := by
  rw [eq_pt i]
  exact (by decide +kernel : ∀ x : Fin 233, wbase (pt x) = BitVec.ofNat 32 (ebase (pt x 0).val)) (i 0)

theorem ej_lt (i : grid0.Coords) : ej (i 0).val ≤ 36 := by
  have := lt_point i; unfold ej; split <;> [split; skip] <;> omega

theorem ebase_le (g : Nat) : ebase g ≤ 52 := by unfold ebase; omega

/-- A word of the table. -/
theorem word_eq (hs : Split (ord m)) (o : Nat) (off : Fin 1 → Nat) (h) (ho : o < 149) (he : off = ![o]) :
    word (F := F) (tab m) off h = BitVec.ofNat 32 (b4 (ord m) (128 * o)) := by
  subst he
  rw [tab_eq]
  refine Eq.trans ?_ (table_ap hs ⟨o, ho⟩)
  refine congrArg (Prefix.table (ord m)) (funext fun a => Fin.ext ?_)
  match a with
  | ⟨0, _⟩ => show o + 1 * 0 = o; omega

theorem b4_bounds (hs : Split (ord m)) (o : Nat) (ho : o < 149) :
    b4 (ord m) (128 * o) ≤ 128 * o ∧ 128 * o - b4 (ord m) (128 * o) = b8 (ord m) (128 * o) ∧ b8 (ord m) (128 * o) ≤ 2368 := by
  have h1 := b8_add_b4 (ord m) (128 * o)
  have h2 := b8_le_split hs (n := 128 * o) (by omega)
  omega

/-- The four slots register row 0 of the emitted block is read from. -/
theorem slots0 (hs : Split (ord m)) (i : grid0.Coords) :
    k0_off3 (word (F := F) (tab m) (k0_off1 i) (k0_off1_inb i)) = ![b4 (ord m) (128 * (4 * ej (i 0).val + 0)) / 128 % 32, 0, 0, 0]
    ∧ k0_off4 (word (F := F) (tab m) (k0_off1 i) (k0_off1_inb i)) = ![(b4 (ord m) (128 * (4 * ej (i 0).val + 0)) / 128 + 1) % 32, 0, 0, 0]
    ∧ k0_off5 i (word (F := F) (tab m) (k0_off1 i) (k0_off1_inb i))
        = ![ebase (i 0).val + min ((2560 - b8 (ord m) (128 * (4 * ej (i 0).val + 0))) / 128) 19, 0, 0, 0]
    ∧ k0_off6 i (word (F := F) (tab m) (k0_off1 i) (k0_off1_inb i))
        = ![ebase (i 0).val + (2560 - b8 (ord m) (128 * (4 * ej (i 0).val + 0))) / 128 - 1, 0, 0, 0] := by
  have hj := ej_lt i
  have hb := ebase_le (i 0).val
  obtain ⟨h1, h2, h3⟩ := b4_bounds m hs (4 * ej (i 0).val + 0) (by omega)
  rw [word_eq m hs (4 * ej (i 0).val + 0) _ _ (by omega) (off1_eq i)]
  generalize hA : b4 (ord m) (128 * (4 * ej (i 0).val + 0)) = A at *
  generalize hB : b8 (ord m) (128 * (4 * ej (i 0).val + 0)) = B at *
  refine ⟨?_, ?_, ?_, ?_⟩
  · show ![(lo3 (BitVec.ofNat 32 A)).toNat, 0, 0, 0] = _
    rw [lo3_eq (by omega)]
  · show ![(lo4 (BitVec.ofNat 32 A)).toNat, 0, 0, 0] = _
    rw [lo4_eq (by omega)]
  · show ![(hi5 (wbase i) (wrow0 i) (BitVec.ofNat 32 A)).toNat, 0, 0, 0] = _
    rw [wbase_eq, wrow0_eq, hi5_eq hb (by omega) (by omega) (by omega), h2]
  · show ![(hi6 (wbase i) (wrow0 i) (BitVec.ofNat 32 A)).toNat, 0, 0, 0] = _
    rw [wbase_eq, wrow0_eq, hi6_eq hb (by omega) (by omega) (by omega), h2]

/-- The four slots register row 1 of the emitted block is read from. -/
theorem slots1 (hs : Split (ord m)) (i : grid0.Coords) :
    k0_off9 (word (F := F) (tab m) (k0_off7 i) (k0_off7_inb i)) = ![b4 (ord m) (128 * (4 * ej (i 0).val + 1)) / 128 % 32, 0, 0, 0]
    ∧ k0_off10 (word (F := F) (tab m) (k0_off7 i) (k0_off7_inb i)) = ![(b4 (ord m) (128 * (4 * ej (i 0).val + 1)) / 128 + 1) % 32, 0, 0, 0]
    ∧ k0_off11 i (word (F := F) (tab m) (k0_off7 i) (k0_off7_inb i))
        = ![ebase (i 0).val + min ((2560 - b8 (ord m) (128 * (4 * ej (i 0).val + 1))) / 128) 19, 0, 0, 0]
    ∧ k0_off12 i (word (F := F) (tab m) (k0_off7 i) (k0_off7_inb i))
        = ![ebase (i 0).val + (2560 - b8 (ord m) (128 * (4 * ej (i 0).val + 1))) / 128 - 1, 0, 0, 0] := by
  have hj := ej_lt i
  have hb := ebase_le (i 0).val
  obtain ⟨h1, h2, h3⟩ := b4_bounds m hs (4 * ej (i 0).val + 1) (by omega)
  rw [word_eq m hs (4 * ej (i 0).val + 1) _ _ (by omega) (off7_eq i)]
  generalize hA : b4 (ord m) (128 * (4 * ej (i 0).val + 1)) = A at *
  generalize hB : b8 (ord m) (128 * (4 * ej (i 0).val + 1)) = B at *
  refine ⟨?_, ?_, ?_, ?_⟩
  · show ![(lo3 (BitVec.ofNat 32 A)).toNat, 0, 0, 0] = _
    rw [lo3_eq (by omega)]
  · show ![(lo4 (BitVec.ofNat 32 A)).toNat, 0, 0, 0] = _
    rw [lo4_eq (by omega)]
  · show ![(hi5 (wbase i) (wrow1 i) (BitVec.ofNat 32 A)).toNat, 0, 0, 0] = _
    rw [wbase_eq, wrow1_eq, hi5_eq hb (by omega) (by omega) (by omega), h2]
  · show ![(hi6 (wbase i) (wrow1 i) (BitVec.ofNat 32 A)).toNat, 0, 0, 0] = _
    rw [wbase_eq, wrow1_eq, hi6_eq hb (by omega) (by omega) (by omega), h2]

/-- The four slots register row 2 of the emitted block is read from. -/
theorem slots2 (hs : Split (ord m)) (i : grid0.Coords) :
    k0_off15 (word (F := F) (tab m) (k0_off13 i) (k0_off13_inb i)) = ![b4 (ord m) (128 * (4 * ej (i 0).val + 2)) / 128 % 32, 0, 0, 0]
    ∧ k0_off16 (word (F := F) (tab m) (k0_off13 i) (k0_off13_inb i)) = ![(b4 (ord m) (128 * (4 * ej (i 0).val + 2)) / 128 + 1) % 32, 0, 0, 0]
    ∧ k0_off17 i (word (F := F) (tab m) (k0_off13 i) (k0_off13_inb i))
        = ![ebase (i 0).val + min ((2560 - b8 (ord m) (128 * (4 * ej (i 0).val + 2))) / 128) 19, 0, 0, 0]
    ∧ k0_off18 i (word (F := F) (tab m) (k0_off13 i) (k0_off13_inb i))
        = ![ebase (i 0).val + (2560 - b8 (ord m) (128 * (4 * ej (i 0).val + 2))) / 128 - 1, 0, 0, 0] := by
  have hj := ej_lt i
  have hb := ebase_le (i 0).val
  obtain ⟨h1, h2, h3⟩ := b4_bounds m hs (4 * ej (i 0).val + 2) (by omega)
  rw [word_eq m hs (4 * ej (i 0).val + 2) _ _ (by omega) (off13_eq i)]
  generalize hA : b4 (ord m) (128 * (4 * ej (i 0).val + 2)) = A at *
  generalize hB : b8 (ord m) (128 * (4 * ej (i 0).val + 2)) = B at *
  refine ⟨?_, ?_, ?_, ?_⟩
  · show ![(lo3 (BitVec.ofNat 32 A)).toNat, 0, 0, 0] = _
    rw [lo3_eq (by omega)]
  · show ![(lo4 (BitVec.ofNat 32 A)).toNat, 0, 0, 0] = _
    rw [lo4_eq (by omega)]
  · show ![(hi5 (wbase i) (wrow2 i) (BitVec.ofNat 32 A)).toNat, 0, 0, 0] = _
    rw [wbase_eq, wrow2_eq, hi5_eq hb (by omega) (by omega) (by omega), h2]
  · show ![(hi6 (wbase i) (wrow2 i) (BitVec.ofNat 32 A)).toNat, 0, 0, 0] = _
    rw [wbase_eq, wrow2_eq, hi6_eq hb (by omega) (by omega) (by omega), h2]

/-- The four slots register row 3 of the emitted block is read from. -/
theorem slots3 (hs : Split (ord m)) (i : grid0.Coords) :
    k0_off21 (word (F := F) (tab m) (k0_off19 i) (k0_off19_inb i)) = ![b4 (ord m) (128 * (4 * ej (i 0).val + 3)) / 128 % 32, 0, 0, 0]
    ∧ k0_off22 (word (F := F) (tab m) (k0_off19 i) (k0_off19_inb i)) = ![(b4 (ord m) (128 * (4 * ej (i 0).val + 3)) / 128 + 1) % 32, 0, 0, 0]
    ∧ k0_off23 i (word (F := F) (tab m) (k0_off19 i) (k0_off19_inb i))
        = ![ebase (i 0).val + min ((2560 - b8 (ord m) (128 * (4 * ej (i 0).val + 3))) / 128) 19, 0, 0, 0]
    ∧ k0_off24 i (word (F := F) (tab m) (k0_off19 i) (k0_off19_inb i))
        = ![ebase (i 0).val + (2560 - b8 (ord m) (128 * (4 * ej (i 0).val + 3))) / 128 - 1, 0, 0, 0] := by
  have hj := ej_lt i
  have hb := ebase_le (i 0).val
  obtain ⟨h1, h2, h3⟩ := b4_bounds m hs (4 * ej (i 0).val + 3) (by omega)
  rw [word_eq m hs (4 * ej (i 0).val + 3) _ _ (by omega) (off19_eq i)]
  generalize hA : b4 (ord m) (128 * (4 * ej (i 0).val + 3)) = A at *
  generalize hB : b8 (ord m) (128 * (4 * ej (i 0).val + 3)) = B at *
  refine ⟨?_, ?_, ?_, ?_⟩
  · show ![(lo3 (BitVec.ofNat 32 A)).toNat, 0, 0, 0] = _
    rw [lo3_eq (by omega)]
  · show ![(lo4 (BitVec.ofNat 32 A)).toNat, 0, 0, 0] = _
    rw [lo4_eq (by omega)]
  · show ![(hi5 (wbase i) (wrow3 i) (BitVec.ofNat 32 A)).toNat, 0, 0, 0] = _
    rw [wbase_eq, wrow3_eq, hi5_eq hb (by omega) (by omega) (by omega), h2]
  · show ![(hi6 (wbase i) (wrow3 i) (BitVec.ofNat 32 A)).toNat, 0, 0, 0] = _
    rw [wbase_eq, wrow3_eq, hi6_eq hb (by omega) (by omega) (by omega), h2]

theorem inb_slot (off : Fin 4 → Nat) (k : Nat) (he : off = ![k, 0, 0, 0]) (hk : k < 72) : ∀ a, off a + S1x512x2x128.size a ≤ S72x512x2x128.size a := by
  subst he
  intro a
  match a with
  | ⟨0, _⟩ => show k + 1 ≤ 72; omega
  | ⟨1, _⟩ => exact Nat.le_of_eq (Nat.zero_add _)
  | ⟨2, _⟩ => exact Nat.le_of_eq (Nat.zero_add _)
  | ⟨3, _⟩ => exact Nat.le_of_eq (Nat.zero_add _)

/-- Every offset read from the table is in range. -/
theorem checks (hs : Split (ord m)) : Checks m where
  h1 i := by
    have hb := ebase_le (i 0).val
    obtain ⟨e1, e2, e3, e4⟩ := slots0 m hs i
    exact ⟨inb_slot _ _ e1 (by omega), inb_slot _ _ e2 (by omega), inb_slot _ _ e3 (by omega), inb_slot _ _ e4 (by omega)⟩
  h2 i := by
    have hb := ebase_le (i 0).val
    obtain ⟨e1, e2, e3, e4⟩ := slots1 m hs i
    exact ⟨inb_slot _ _ e1 (by omega), inb_slot _ _ e2 (by omega), inb_slot _ _ e3 (by omega), inb_slot _ _ e4 (by omega)⟩
  h3 i := by
    have hb := ebase_le (i 0).val
    obtain ⟨e1, e2, e3, e4⟩ := slots2 m hs i
    exact ⟨inb_slot _ _ e1 (by omega), inb_slot _ _ e2 (by omega), inb_slot _ _ e3 (by omega), inb_slot _ _ e4 (by omega)⟩
  h4 i := by
    have hb := ebase_le (i 0).val
    obtain ⟨e1, e2, e3, e4⟩ := slots3 m hs i
    exact ⟨inb_slot _ _ e1 (by omega), inb_slot _ _ e2 (by omega), inb_slot _ _ e3 (by omega), inb_slot _ _ e4 (by omega)⟩

/-- The precondition, as a count. -/
theorem split_pre (h : Cert.Pre_split.fn (F := F) (m ((0 : Dev nD).tc.loc main_arg0)) (m ((0 : Dev nD).tc.loc main_arg1)) (m ((0 : Dev nD).tc.loc main_arg2))
    (m ((0 : Dev nD).tc.loc main_arg3)) (m ((0 : Dev nD).tc.loc main_arg4)) = fun _ => 1#1) : Split (ord m) :=
  Prefix.split_of _ _ _ _ _ h

end Cert.KernelIdeal.Run

end
-- ==== Proof.KPoints.lean ====
module

public import proofs.«01_k».proof.Proof.Sched
public import proofs.«01_k».proof.Proof.Gen.Kernel
public import proofs.«01_k».proof.Proof.Gen.Kernel.Skeleton
public import proofs.«01_k».proof.Proof.Gen.Kernel.Launch
public import Idealize.ShloMosaic.Lib.Exec

@[expose] public section

set_option maxRecDepth 16384

/-! Closed forms of the offsets the matmul's body computes at a grid point. -/
namespace Cert.Kernel.Run

open Cert.Kernel Cert.Kernel.Gen Cert.Sched
open Idealize.ShloMosaic

/-- The grid coordinates of point `x`. -/
def pt (x : Fin 233) : grid0.Coords := fun a => ⟨x.val, by
  have : a = 0 := Fin.ext (by have := a.isLt; simpa [grid0] using this)
  subst this; exact x.isLt⟩

theorem eq_pt (i : grid0.Coords) : i = pt (i 0) := by
  funext a
  have : a = 0 := Fin.ext (by have := a.isLt; simpa [grid0] using this)
  subst this; rfl

theorem lt_point (i : grid0.Coords) : (i 0).val < 233 := (i 0).isLt

theorem off1_eq (i : grid0.Coords) : k0_off1 i = ![4 * ej (i 0).val + 0] := by
  rw [eq_pt i]
  exact (by decide +kernel : ∀ x : Fin 233, k0_off1 (pt x) = ![4 * ej (pt x 0).val + 0]) (i 0)

theorem off2_eq (i : grid0.Coords) : k0_off2 i = ![4 * ej (i 0).val + 1] := by
  rw [eq_pt i]
  exact (by decide +kernel : ∀ x : Fin 233, k0_off2 (pt x) = ![4 * ej (pt x 0).val + 1]) (i 0)

theorem off7_eq (i : grid0.Coords) : k0_off7 i = ![4 * ej (i 0).val + 1] := by
  rw [eq_pt i]
  exact (by decide +kernel : ∀ x : Fin 233, k0_off7 (pt x) = ![4 * ej (pt x 0).val + 1]) (i 0)

theorem off8_eq (i : grid0.Coords) : k0_off8 i = ![4 * ej (i 0).val + 2] := by
  rw [eq_pt i]
  exact (by decide +kernel : ∀ x : Fin 233, k0_off8 (pt x) = ![4 * ej (pt x 0).val + 2]) (i 0)

theorem off13_eq (i : grid0.Coords) : k0_off13 i = ![4 * ej (i 0).val + 2] := by
  rw [eq_pt i]
  exact (by decide +kernel : ∀ x : Fin 233, k0_off13 (pt x) = ![4 * ej (pt x 0).val + 2]) (i 0)

theorem off14_eq (i : grid0.Coords) : k0_off14 i = ![4 * ej (i 0).val + 3] := by
  rw [eq_pt i]
  exact (by decide +kernel : ∀ x : Fin 233, k0_off14 (pt x) = ![4 * ej (pt x 0).val + 3]) (i 0)

theorem off19_eq (i : grid0.Coords) : k0_off19 i = ![4 * ej (i 0).val + 3] := by
  rw [eq_pt i]
  exact (by decide +kernel : ∀ x : Fin 233, k0_off19 (pt x) = ![4 * ej (pt x 0).val + 3]) (i 0)

theorem off20_eq (i : grid0.Coords) : k0_off20 i = ![4 * ej (i 0).val + 4] := by
  rw [eq_pt i]
  exact (by decide +kernel : ∀ x : Fin 233, k0_off20 (pt x) = ![4 * ej (pt x 0).val + 4]) (i 0)

theorem off25_eq (i : grid0.Coords) (r : Fin 4) : k0_off25 i (BitVec.ofNat 32 r.val) = ![stBase (i 0).val + r.val, 0, 0] := by
  rw [eq_pt i]
  exact (by decide +kernel : ∀ (x : Fin 233) (r : Fin 4), k0_off25 (pt x) (BitVec.ofNat 32 r.val) = ![stBase (pt x 0).val + r.val, 0, 0]) (i 0) r

instance (i : grid0.Coords) : ClosedOff (k0_off25 i 0#32) := ⟨![stBase (i 0).val + 0, 0, 0], off25_eq i 0⟩
instance (i : grid0.Coords) : ClosedOff (k0_off25 i 1#32) := ⟨![stBase (i 0).val + 1, 0, 0], off25_eq i 1⟩
instance (i : grid0.Coords) : ClosedOff (k0_off25 i 2#32) := ⟨![stBase (i 0).val + 2, 0, 0], off25_eq i 2⟩
instance (i : grid0.Coords) : ClosedOff (k0_off25 i 3#32) := ⟨![stBase (i 0).val + 3, 0, 0], off25_eq i 3⟩

theorem cond1_iff (i : grid0.Coords) : k0_cond1 i = 1#1 ↔ (i 0).val < 228 := by
  rw [eq_pt i]
  exact (by decide +kernel : ∀ x : Fin 233, k0_cond1 (pt x) = 1#1 ↔ (pt x 0).val < 228) (i 0)

end Cert.Kernel.Run

end
-- ==== Proof.KRun.lean ====
module

public import proofs.«01_k».proof.Proof.KPoints
public import proofs.«01_k».proof.Proof.Gen.Kernel
public import proofs.«01_k».proof.Proof.Gen.Kernel.Skeleton
public import proofs.«01_k».proof.Proof.Gen.Kernel.Launch
public import Idealize.ShloMosaic.Lib.Pipeline.FrameBody
public import Idealize.ShloMosaic.Lib.Writes
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

/-- The table operand and the scratch operand, whole buffers. -/
abbrev tbM : Memref sig .tc .smem S149 .i32 := Memref.whole main_v10
abbrev scM : Memref sig .tc .vmem S72x512x128 .i32 := Memref.whole cc0_scratch0

/-- The table word the body reads at an offset. -/
abbrev word (T : S149.Idx → Elt F .i32) (off : Fin 1 → Nat) (h : ∀ a, off a + S1.size a ≤ S149.size a) : BitVec 32 :=
  View.readAt (Elt F) tbM.view (Rect.unit (s := S149) off S1.size h).toLoadRect T (Shape.Idx.first (numel1_S1.symm ▸ Nat.one_pos))

set_option backward.proofsInPublic true in
set_option maxHeartbeats 16000000 in
/-- A step that emits an output block and computes a weight strip's tiles: the pieces it stores and what it leaves in the scratch buffer. -/
noncomputable def runA (c : Dev nD) (i : grid0.Coords) (arg2 : Memref sig .tc .vmem S512x1792 .i32) (harg2 : arg2.IsWhole) (arg3 : Memref sig .tc .vmem S1x1024x3584 .bf16) (harg3 : arg3.IsWhole) (arg4 : Memref sig .tc .vmem S1x4x128 .i32) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1024x512 .bf16) (harg7 : arg7.IsWhole)
    (q : PosShare TreeShare) (T : S149.Idx → Elt F .i32) (x2 : Vec F S512x1792 .i32) (x3 : Vec F S1x1024x3584 .bf16) (x4 : Vec F S1x4x128 .i32) (x5 : Vec F S1x1024x1 .f32) (x6 : Vec F S1x1x512 .f32)
    (Y : Buf (Elt F) ((c : Thread nD τ).loc cc0_scratch0))
    (h1 : k0_chk1 i (word T (k0_off1 i) (k0_off1_inb i))) (h2 : k0_chk2 i (word T (k0_off7 i) (k0_off7_inb i)))
    (h3 : k0_chk3 i (word T (k0_off13 i) (k0_off13_inb i))) (h4 : k0_chk4 i (word T (k0_off19 i) (k0_off19_inb i)))
    (hc : k0_cond1 i = 1#1) :
    Σ' (L : List (View.Piece (Elt F) S1024x512 .bf16)), { Y' : Buf (Elt F) ((c : Thread nD τ).loc cc0_scratch0) //
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (tbM.view.loc (c : Thread nD τ) ↦{q} T) ∗ (∃ d, owns (c : Thread nD τ) arg7 fullShare d) ∗ (scM.view.loc (c : Thread nD τ) ↦{fullShare} Y)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (tbM.view.loc (c : Thread nD τ) ↦{q} T) ∗ (∃ f, arg7.view.loc (c : Thread nD τ) ↦[arg7.view.set]{fullShare} arg7.view.writes (Elt F) f L) ∗ (scM.view.loc (c : Thread nD τ) ↦{fullShare} Y')) -∗ K ⟨⟩))
          ⊢ wp frame (wpE (defs₀ (F := F)) Variants.none c none) Set.univ (cc0_matmul i tbM (Memref.isWhole_whole _) arg2 harg2 arg3 harg3 arg4 harg4 arg5 harg5 arg6 harg6 arg7 harg7 scM (Memref.isWhole_whole _)) K } := by
  refine ⟨?_, ?_, fun K => ?run⟩
  case run =>
    rw [cc0_matmul_eq_skeleton]; unfold cc0_matmul_skel
    unfold owns
    iintro ⟨⟨%f2, %hf2, H2⟩, ⟨%f3, %hf3, H3⟩, ⟨%f4, %hf4, H4⟩, ⟨%f5, %hf5, H5⟩, ⟨%f6, %hf6, H6⟩, HT, ⟨%d7, %f7, -, H7⟩, HS, Hk⟩
    obtain rfl := harg2.eq_unread hf2
    obtain rfl := harg3.eq_unread hf3
    obtain rfl := harg4.eq_unread hf4
    obtain rfl := harg5.eq_unread hf5
    obtain rfl := harg6.eq_unread hf6
    have hS : scM.IsWhole := Memref.isWhole_whole _
    have hT : tbM.IsWhole := Memref.isWhole_whole _
    sl_exec!
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [HT]; · iexact HT
    isplitl [H7]; · iexists _; iexact H7
    iexact HS

set_option backward.proofsInPublic true in
set_option maxHeartbeats 16000000 in
/-- A step that only emits an output block (the grid's last five). -/
noncomputable def runB (c : Dev nD) (i : grid0.Coords) (arg2 : Memref sig .tc .vmem S512x1792 .i32) (harg2 : arg2.IsWhole) (arg3 : Memref sig .tc .vmem S1x1024x3584 .bf16) (harg3 : arg3.IsWhole) (arg4 : Memref sig .tc .vmem S1x4x128 .i32) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1024x512 .bf16) (harg7 : arg7.IsWhole)
    (q : PosShare TreeShare) (T : S149.Idx → Elt F .i32) (x2 : Vec F S512x1792 .i32) (x3 : Vec F S1x1024x3584 .bf16) (x4 : Vec F S1x4x128 .i32) (x5 : Vec F S1x1024x1 .f32) (x6 : Vec F S1x1x512 .f32)
    (Y : Buf (Elt F) ((c : Thread nD τ).loc cc0_scratch0))
    (h1 : k0_chk1 i (word T (k0_off1 i) (k0_off1_inb i))) (h2 : k0_chk2 i (word T (k0_off7 i) (k0_off7_inb i)))
    (h3 : k0_chk3 i (word T (k0_off13 i) (k0_off13_inb i))) (h4 : k0_chk4 i (word T (k0_off19 i) (k0_off19_inb i)))
    (hc : ¬(k0_cond1 i = 1#1)) :
    Σ' (L : List (View.Piece (Elt F) S1024x512 .bf16)), { Y' : Buf (Elt F) ((c : Thread nD τ).loc cc0_scratch0) //
      ∀ (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (tbM.view.loc (c : Thread nD τ) ↦{q} T) ∗ (∃ d, owns (c : Thread nD τ) arg7 fullShare d) ∗ (scM.view.loc (c : Thread nD τ) ↦{fullShare} Y)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (tbM.view.loc (c : Thread nD τ) ↦{q} T) ∗ (∃ f, arg7.view.loc (c : Thread nD τ) ↦[arg7.view.set]{fullShare} arg7.view.writes (Elt F) f L) ∗ (scM.view.loc (c : Thread nD τ) ↦{fullShare} Y')) -∗ K ⟨⟩))
          ⊢ wp frame (wpE (defs₀ (F := F)) Variants.none c none) Set.univ (cc0_matmul i tbM (Memref.isWhole_whole _) arg2 harg2 arg3 harg3 arg4 harg4 arg5 harg5 arg6 harg6 arg7 harg7 scM (Memref.isWhole_whole _)) K } := by
  refine ⟨?_, ?_, fun K => ?run⟩
  case run =>
    rw [cc0_matmul_eq_skeleton]; unfold cc0_matmul_skel
    unfold owns
    iintro ⟨⟨%f2, %hf2, H2⟩, ⟨%f3, %hf3, H3⟩, ⟨%f4, %hf4, H4⟩, ⟨%f5, %hf5, H5⟩, ⟨%f6, %hf6, H6⟩, HT, ⟨%d7, %f7, -, H7⟩, HS, Hk⟩
    obtain rfl := harg2.eq_unread hf2
    obtain rfl := harg3.eq_unread hf3
    obtain rfl := harg4.eq_unread hf4
    obtain rfl := harg5.eq_unread hf5
    obtain rfl := harg6.eq_unread hf6
    have hS : scM.IsWhole := Memref.isWhole_whole _
    have hT : tbM.IsWhole := Memref.isWhole_whole _
    sl_exec!
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [HT]; · iexact HT
    isplitl [H7]; · iexists _; iexact H7
    iexact HS

end Cert.Kernel.Run

end
-- ==== Proof.KFrame.lean ====
module

public import proofs.«01_k».proof.Proof.KRun
public import Idealize.ShloMosaic.Lib.Pipeline.Quiescent
public import Idealize.ShloMosaic.Lib.Pipeline.Kit
public import Idealize.ShloMosaic.Lib.Pipeline.Frame
public import Idealize.ShloMosaic.Lib.Pipeline.DatRel
public import Idealize.ShloMosaic.Lib.Pipeline.ArrRel
public import Idealize.ShloMosaic.Lib.Claim

@[expose] public section

set_option maxRecDepth 16384
set_option Elab.async false

noncomputable section

/-! The run of the whole program, with what each step leaves in the scratch buffer and in the output block held to
predicates that the caller states. -/
namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [BitOps F]

local notation "𝕄" => MT nD τ sig Unit (Elt F) ℕ (UR sig nD τ) ℕ

variable (m : (ℓ : Loc nD τ sig) → Buf (Elt F) ℓ) (ρ : Dev nD → PrngReg)

/-- The host operations before the region, stretch by stretch. -/
abbrev opss : List (List (HloOp τ sig (Elt F))) := [hostOps0, hostOps0_1, hostOps0_2, hostOps0_3, hostOps0_4]

theorem opss_fresh : (opss (F := F)).Forall fun ops => ops.Forall fun op => op.fresh = ∅ := by
  simp only [List.Forall]; repeat' constructor

theorem opss_sub : (opss (F := F)).Forall fun ops => ops.Forall fun op => op.bufs ⊆ StableHlo.tcRefs τ sig :=
  ⟨hostOps0_sub, hostOps0_1_sub, hostOps0_2_sub, hostOps0_3_sub, hostOps0_4_sub⟩

/-- The buffers as the region finds them. -/
def V (c : Dev nD) (b : Ref sig .tc) : Buf (Elt F) ((c : Thread nD τ).loc b) :=
  StableHlo.after (opss (F := F)).flatten (fun b => m (c, b)) b

theorem hmain : Pipeline.HMainP (Ix := Unit) (Name := ℕ) (U := UR sig nD τ) (Lvl := ℕ) pcfgs 0 defs₀ Variants.none m (main (F := F)) (V m) :=
  Pipeline.hmainP_prefixes (pcfgs (F := F)) 0 defs₀ Variants.none m main opss opss_sub opss_fresh main_chain

/-- The references the host operations write. -/
abbrev written : List (Ref sig .tc) := [main_c, main_v0, main_v1, main_v2, main_call0_call0_c, main_call0_call0_v0, main_v3, main_v4, main_v5, main_v6, main_v7, main_v8, main_c_0, main_v9, main_v10, main_c_1, main_v11, main_v12, main_v13, main_c_2, main_v14, main_v15, main_v16]

theorem opss_writes : ((opss (F := F)).flatten).Forall fun op => op.writes ⊆ (written.map (Proc.devRef (τ := τ) .tc)).toFinset :=
  StableHlo.forall_writes_sub_of_map rfl

theorem V_main_arg0 (c : Dev nD) : V m c main_arg0 = m ((c : Thread nD τ).loc main_arg0) :=
  StableHlo.after_of_writes_sub (opss (F := F)).flatten _ opss_writes (by decide)
theorem V_main_arg1 (c : Dev nD) : V m c main_arg1 = m ((c : Thread nD τ).loc main_arg1) :=
  StableHlo.after_of_writes_sub (opss (F := F)).flatten _ opss_writes (by decide)
theorem V_main_arg2 (c : Dev nD) : V m c main_arg2 = m ((c : Thread nD τ).loc main_arg2) :=
  StableHlo.after_of_writes_sub (opss (F := F)).flatten _ opss_writes (by decide)
theorem V_main_arg3 (c : Dev nD) : V m c main_arg3 = m ((c : Thread nD τ).loc main_arg3) :=
  StableHlo.after_of_writes_sub (opss (F := F)).flatten _ opss_writes (by decide)
theorem V_main_arg4 (c : Dev nD) : V m c main_arg4 = m ((c : Thread nD τ).loc main_arg4) :=
  StableHlo.after_of_writes_sub (opss (F := F)).flatten _ opss_writes (by decide)

/-- The prefetched table as the region finds it. -/
def adm : (pcfg0 (F := F)).Adm := ⟨fun | 0 => V m 0 main_v10 | ⟨_ + 1, h⟩ => absurd h (Nat.not_lt.2 (Nat.le_add_left _ _)), trivial⟩

abbrev cfgA : Cfg sig Λ₀ := cfg0 (F := F) (adm m)
abbrev pcs : Fin 1 → Cfg sig Λ₀ := Pipeline.pin (pcfgs (F := F)) fun _ => adm m

/-- The table's words. -/
abbrev tab : S149.Idx → Elt F .i32 := V m 0 main_v10

abbrev crd (t : Fin (cfgA m).N) : grid0.Coords := grid0.coords t
abbrev ms0 (t : Fin (cfgA m).N) : Memref sig .tc .vmem S512x1792 .i32 := spec0_0.stage ((cfgA m).slots t (0 : Fin 6))
abbrev hs0 (t : Fin (cfgA m).N) : (ms0 m t).IsWhole := hstage0_0 (((cfgA m).slots t (0 : Fin 6)).cast nbuf0_0)
abbrev ms1 (t : Fin (cfgA m).N) : Memref sig .tc .vmem S1x1024x3584 .bf16 := spec0_1.stage ((cfgA m).slots t (1 : Fin 6))
abbrev hs1 (t : Fin (cfgA m).N) : (ms1 m t).IsWhole := hstage0_1 (((cfgA m).slots t (1 : Fin 6)).cast nbuf0_1)
abbrev ms2 (t : Fin (cfgA m).N) : Memref sig .tc .vmem S1x4x128 .i32 := spec0_2.stage ((cfgA m).slots t (2 : Fin 6))
abbrev hs2 (t : Fin (cfgA m).N) : (ms2 m t).IsWhole := hstage0_2 (((cfgA m).slots t (2 : Fin 6)).cast nbuf0_2)
abbrev ms3 (t : Fin (cfgA m).N) : Memref sig .tc .vmem S1x1024x1 .f32 := spec0_3.stage ((cfgA m).slots t (3 : Fin 6))
abbrev hs3 (t : Fin (cfgA m).N) : (ms3 m t).IsWhole := hstage0_3 (((cfgA m).slots t (3 : Fin 6)).cast nbuf0_3)
abbrev ms4 (t : Fin (cfgA m).N) : Memref sig .tc .vmem S1x1x512 .f32 := spec0_4.stage ((cfgA m).slots t (4 : Fin 6))
abbrev hs4 (t : Fin (cfgA m).N) : (ms4 m t).IsWhole := hstage0_4 (((cfgA m).slots t (4 : Fin 6)).cast nbuf0_4)
abbrev ms5 (t : Fin (cfgA m).N) : Memref sig .tc .vmem S1024x512 .bf16 := spec0_5.stage ((cfgA m).slots t (5 : Fin 6))
abbrev hs5 (t : Fin (cfgA m).N) : (ms5 m t).IsWhole := hstage0_5 (((cfgA m).slots t (5 : Fin 6)).cast nbuf0_5)

/-- An input window's block at a point. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The side conditions the body assumes of the table's words, at every point. -/
structure Checks : Prop where
  h1 : ∀ i, k0_chk1 i (word (F := F) (tab m) (k0_off1 i) (k0_off1_inb i))
  h2 : ∀ i, k0_chk2 i (word (F := F) (tab m) (k0_off7 i) (k0_off7_inb i))
  h3 : ∀ i, k0_chk3 i (word (F := F) (tab m) (k0_off13 i) (k0_off13_inb i))
  h4 : ∀ i, k0_chk4 i (word (F := F) (tab m) (k0_off19 i) (k0_off19_inb i))

variable (hk : Checks m)

/-- The run of a computing step at point `t`, from scratch contents `Y`. -/
abbrev atA (c : Dev nD) (t : Fin (cfgA m).N) (Y : Buf (Elt F) ((c : Thread nD τ).loc cc0_scratch0)) (hc : k0_cond1 (crd m t) = 1#1) :=
  runA c (crd m t) (ms0 m t) (hs0 m t) (ms1 m t) (hs1 m t) (ms2 m t) (hs2 m t) (ms3 m t) (hs3 m t) (ms4 m t) (hs4 m t) (ms5 m t) (hs5 m t)
    fullShare.right (tab m) (iblk m c (0 : Fin 6) t) (iblk m c (1 : Fin 6) t) (iblk m c (2 : Fin 6) t) (iblk m c (3 : Fin 6) t) (iblk m c (4 : Fin 6) t) Y
    (hk.h1 _) (hk.h2 _) (hk.h3 _) (hk.h4 _) hc

/-- The run of an emitting step at point `t`, from scratch contents `Y`. -/
abbrev atB (c : Dev nD) (t : Fin (cfgA m).N) (Y : Buf (Elt F) ((c : Thread nD τ).loc cc0_scratch0)) (hc : ¬(k0_cond1 (crd m t) = 1#1)) :=
  runB c (crd m t) (ms0 m t) (hs0 m t) (ms1 m t) (hs1 m t) (ms2 m t) (hs2 m t) (ms3 m t) (hs3 m t) (ms4 m t) (hs4 m t) (ms5 m t) (hs5 m t)
    fullShare.right (tab m) (iblk m c (0 : Fin 6) t) (iblk m c (1 : Fin 6) t) (iblk m c (2 : Fin 6) t) (iblk m c (3 : Fin 6) t) (iblk m c (4 : Fin 6) t) Y
    (hk.h1 _) (hk.h2 _) (hk.h3 _) (hk.h4 _) hc

variable (Inv : (c : Dev nD) → Nat → Buf (Elt F) ((c : Thread nD τ).loc cc0_scratch0) → Prop)
variable (Out : (c : Dev nD) → Fin (cfgA m).N → (S1024x512.Idx → Elt F .bf16) → Prop)

/-- The steps keep the scratch predicate and establish the block predicate. -/
structure Steps : Prop where
  zero : ∀ c Y, Inv c 0 Y
  invA : ∀ c t Y hc, Inv c t.val Y → Inv c (t.val + 1) (atA m hk c t Y hc).2.1
  outA : ∀ c t Y hc f, Inv c t.val Y → Out c t ((ms5 m t).view.read (Elt F) ((ms5 m t).view.writes (Elt F) f (atA m hk c t Y hc).1))
  invB : ∀ c t Y hc, Inv c t.val Y → Inv c (t.val + 1) (atB m hk c t Y hc).2.1
  outB : ∀ c t Y hc f, Inv c t.val Y → Out c t ((ms5 m t).view.read (Elt F) ((ms5 m t).view.writes (Elt F) f (atB m hk c t Y hc).1))

/-- What is said of the scratch buffer, the generator and the table before point `t`. -/
def Phi (c : Dev nD) (t : Nat) : sProp 𝕄 :=
  iprop((∃ Y, ⌜Inv c t Y⌝ ∗ (scM.view.loc (c : Thread nD τ) ↦{fullShare} Y)) ∗ (∃ r, prngReg c r) ∗ (tbM.view.loc (c : Thread nD τ) ↦{fullShare.right} tab m))

/-- The proof data of the one pipeline on core `c`; the output window's contents are not named here. -/
def dat (c : Dev nD) : Dat τ (Elt F) Unit ℕ (UR sig nD τ) ℕ (cfgA m) c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => iblk m c (5 : Fin 6) t
  Φ t := Phi m Inv c t.val
  q _ := fullShare
  owed _ := 0

/-- The output window alone is held to a predicate. -/
abbrev marked : Fin 6 → Bool := fun | 5 => true | _ => false

/-- The predicate of the output window, as the library takes it. -/
def Rl (c : Dev nD) (w : Fin (cfgA m).W) (t : Fin (cfgA m).N) : (((cfgA m).win w).block.Idx → Elt F ((cfgA m).win w).elt) → Prop :=
  match w with
  | ⟨5, _⟩ => fun X => Out c t X
  | _ => fun _ => True

abbrev rdat (c : Dev nD) : RDat τ (Elt F) Unit ℕ (UR sig nD τ) ℕ (cfgA m) c := (dat m Inv c).toRRel marked (Rl m Out c)

theorem after_0 (c : Dev nD) (t : Fin (cfgA m).N) : (dat m Inv c).after (0 : Fin 6) t = iblk m c (0 : Fin 6) t := by dsimp only [dat]
theorem before_0 (c : Dev nD) (t : Fin (cfgA m).N) (d) : (dat m Inv c).before (0 : Fin 6) t d = iblk m c (0 : Fin 6) t :=
  ((dat m Inv c).before_in_eq_fetched (0 : Fin 6) rfl (fun _ => rfl) (fun _ _ _ => rfl) (fun t => by rw [after_0]; unfold Dat.blockOf iblk; rfl) t d).trans
    (by unfold Dat.fetched Dat.blockOf iblk; rfl)
theorem after_1 (c : Dev nD) (t : Fin (cfgA m).N) : (dat m Inv c).after (1 : Fin 6) t = iblk m c (1 : Fin 6) t := by dsimp only [dat]
theorem before_1 (c : Dev nD) (t : Fin (cfgA m).N) (d) : (dat m Inv c).before (1 : Fin 6) t d = iblk m c (1 : Fin 6) t :=
  ((dat m Inv c).before_in_eq_fetched (1 : Fin 6) rfl (fun _ => rfl) (fun _ _ _ => rfl) (fun t => by rw [after_1]; unfold Dat.blockOf iblk; rfl) t d).trans
    (by unfold Dat.fetched Dat.blockOf iblk; rfl)
theorem after_2 (c : Dev nD) (t : Fin (cfgA m).N) : (dat m Inv c).after (2 : Fin 6) t = iblk m c (2 : Fin 6) t := by dsimp only [dat]
theorem before_2 (c : Dev nD) (t : Fin (cfgA m).N) (d) : (dat m Inv c).before (2 : Fin 6) t d = iblk m c (2 : Fin 6) t :=
  ((dat m Inv c).before_in_eq_fetched (2 : Fin 6) rfl (fun _ => rfl) (fun _ _ _ => rfl) (fun t => by rw [after_2]; unfold Dat.blockOf iblk; rfl) t d).trans
    (by unfold Dat.fetched Dat.blockOf iblk; rfl)
theorem after_3 (c : Dev nD) (t : Fin (cfgA m).N) : (dat m Inv c).after (3 : Fin 6) t = iblk m c (3 : Fin 6) t := by dsimp only [dat]
theorem before_3 (c : Dev nD) (t : Fin (cfgA m).N) (d) : (dat m Inv c).before (3 : Fin 6) t d = iblk m c (3 : Fin 6) t :=
  ((dat m Inv c).before_in_eq_fetched (3 : Fin 6) rfl (fun _ => rfl) (fun _ _ _ => rfl) (fun t => by rw [after_3]; unfold Dat.blockOf iblk; rfl) t d).trans
    (by unfold Dat.fetched Dat.blockOf iblk; rfl)
theorem after_4 (c : Dev nD) (t : Fin (cfgA m).N) : (dat m Inv c).after (4 : Fin 6) t = iblk m c (4 : Fin 6) t := by dsimp only [dat]
theorem before_4 (c : Dev nD) (t : Fin (cfgA m).N) (d) : (dat m Inv c).before (4 : Fin 6) t d = iblk m c (4 : Fin 6) t :=
  ((dat m Inv c).before_in_eq_fetched (4 : Fin 6) rfl (fun _ => rfl) (fun _ _ _ => rfl) (fun t => by rw [after_4]; unfold Dat.blockOf iblk; rfl) t d).trans
    (by unfold Dat.fetched Dat.blockOf iblk; rfl)

variable {m hk Inv Out}

set_option maxHeartbeats 4000000 in
theorem sound_body (hs : Steps m hk Inv Out) (c : Dev nD) : BodyObligationRel (dat m Inv c) (defs₀ (F := F)) Variants.none () Set.univ marked (Rl m Out c) := fun t => by
  rw [bigSep_W0, bigSep_W0]
  show iprop(Phi m Inv c t.val ∗ (dat m Inv c).owesAt () t.castSucc
      ∗ (∃ d, owns (c : Thread nD τ) (ms0 m t) fullShare ((dat m Inv c).before (0 : Fin 6) t d))
      ∗ (∃ d, owns (c : Thread nD τ) (ms1 m t) fullShare ((dat m Inv c).before (1 : Fin 6) t d))
      ∗ (∃ d, owns (c : Thread nD τ) (ms2 m t) fullShare ((dat m Inv c).before (2 : Fin 6) t d))
      ∗ (∃ d, owns (c : Thread nD τ) (ms3 m t) fullShare ((dat m Inv c).before (3 : Fin 6) t d))
      ∗ (∃ d, owns (c : Thread nD τ) (ms4 m t) fullShare ((dat m Inv c).before (4 : Fin 6) t d))
      ∗ (∃ Y, ⌜((dat m Inv c).toRRel marked (Rl m Out c)).Finds (5 : Fin 6) t Y⌝ ∗ owns (c : Thread nD τ) (ms5 m t) fullShare Y))
    ⊢ wp frame (wpE (defs₀ (F := F)) Variants.none c none) Set.univ (cc0_matmul (crd m t) tbM (Memref.isWhole_whole _) (ms0 m t) (hs0 m t) (ms1 m t) (hs1 m t) (ms2 m t) (hs2 m t) (ms3 m t) (hs3 m t) (ms4 m t) (hs4 m t) (ms5 m t) (hs5 m t) scM (Memref.isWhole_whole _)) fun _ =>
      iprop(Phi m Inv c (t.val + 1) ∗ (dat m Inv c).owesAt () t.castSucc
      ∗ owns (c : Thread nD τ) (ms0 m t) fullShare ((dat m Inv c).after (0 : Fin 6) t)
      ∗ owns (c : Thread nD τ) (ms1 m t) fullShare ((dat m Inv c).after (1 : Fin 6) t)
      ∗ owns (c : Thread nD τ) (ms2 m t) fullShare ((dat m Inv c).after (2 : Fin 6) t)
      ∗ owns (c : Thread nD τ) (ms3 m t) fullShare ((dat m Inv c).after (3 : Fin 6) t)
      ∗ owns (c : Thread nD τ) (ms4 m t) fullShare ((dat m Inv c).after (4 : Fin 6) t)
      ∗ (∃ X, ⌜Out c t X⌝ ∗ owns (c : Thread nD τ) (ms5 m t) fullShare X))
  simp only [before_0, before_1, before_2, before_3, before_4, after_0, after_1, after_2, after_3, after_4]
  unfold Phi
  iintro ⟨⟨⟨%Y, %hY, HS⟩, Hg, HT⟩, Ho, ⟨%d0, H0⟩, ⟨%d1, H1⟩, ⟨%d2, H2⟩, ⟨%d3, H3⟩, ⟨%d4, H4⟩, ⟨%Y5, -, H5⟩⟩
  by_cases hc : k0_cond1 (crd m t) = 1#1
  · iapply ((atA m hk c t Y hc).2.2 _)
    isplitl [H0]; · iexact H0
    isplitl [H1]; · iexact H1
    isplitl [H2]; · iexact H2
    isplitl [H3]; · iexact H3
    isplitl [H4]; · iexact H4
    isplitl [HT]; · iexact HT
    isplitl [H5]; · iexists _; iexact H5
    isplitl [HS]; · iexact HS
    iintro ⟨H0, H1, H2, H3, H4, HT, ⟨%f5, H5⟩, HS⟩
    isplitl [HS Hg HT]
    · isplitl [HS]
      · iexists _; isplitr; swap
        · iexact HS
        · ipureintro; exact hs.invA c t Y hc hY
      isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    iexists _; isplitr; swap
    · unfold owns; iexists _; isplitr; swap
      · iexact H5
      · ipureintro; rfl
    · ipureintro; exact hs.outA c t Y hc f5 hY
  · iapply ((atB m hk c t Y hc).2.2 _)
    isplitl [H0]; · iexact H0
    isplitl [H1]; · iexact H1
    isplitl [H2]; · iexact H2
    isplitl [H3]; · iexact H3
    isplitl [H4]; · iexact H4
    isplitl [HT]; · iexact HT
    isplitl [H5]; · iexists _; iexact H5
    isplitl [HS]; · iexact HS
    iintro ⟨H0, H1, H2, H3, H4, HT, ⟨%f5, H5⟩, HS⟩
    isplitl [HS Hg HT]
    · isplitl [HS]
      · iexists _; isplitr; swap
        · iexact HS
        · ipureintro; exact hs.invB c t Y hc hY
      isplitl [Hg]; · iexact Hg
      iexact HT
    isplitl [Ho]; · iexact Ho
    isplitl [H0]; · iexact H0
    isplitl [H1]; · iexact H1
    isplitl [H2]; · iexact H2
    isplitl [H3]; · iexact H3
    isplitl [H4]; · iexact H4
    iexists _; isplitr; swap
    · unfold owns; iexists _; isplitr; swap
      · iexact H5
      · ipureintro; rfl
    · ipureintro; exact hs.outB c t Y hc f5 hY

/-! ## The launch -/

theorem share_eq (c : Dev nD) (w : Fin (cfgA m).W) : (rdat m Inv Out c).share w = fullShare := by
  show (dat m Inv c).share w = fullShare
  unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v10) ↦{q 0} v 0)) := by
  unfold Pipeline.prefHeld
  rw [show (Finset.univ : Finset (Fin 1)) = {(0 : Fin 1)} from by decide, bigSep_singleton]
  rfl

theorem phi_intro (hs : Steps m hk Inv Out) (c : Dev nD) : iprop(Pipeline.ΦA spec0 c ∗ Pipeline.ΦT pre0 (adm m).1 c) ⊢ Phi m Inv c 0 := by
  unfold Pipeline.ΦA Pipeline.ΦT
  rw [prefHeld_eq, scopedRest0_eq]
  unfold Phi
  iintro ⟨⟨⟨%Y, HS⟩, Hg⟩, HT⟩
  isplitl [HS]
  · iexists Y; isplitr; swap
    · iexact HS
    · ipureintro; exact hs.zero c Y
  isplitl [Hg]; · iexact Hg
  iexact HT

theorem phi_exit (c : Dev nD) (n : Nat) : Phi m Inv c n ⊢ Pipeline.ΦA spec0 c := by
  unfold Pipeline.ΦA
  rw [scopedRest0_eq]
  unfold Phi
  iintro ⟨⟨%Y, -, HS⟩, Hg, -⟩
  isplitl [HS]
  · iexists Y; iexact HS
  iexact Hg

theorem V_pre (c : Dev nD) (k : Fin 1) : V m c (pre0.ref k) = (adm m).1 k := by
  obtain rfl : k = 0 := Subsingleton.elim _ _
  obtain rfl : c = 0 := Subsingleton.elim _ _
  rfl

set_option backward.isDefEq.respectTransparency.types false in
set_option maxHeartbeats 4000000 in
/-- From any memory whose table words pass the checks, every execution ends, each output block left at a point is as `Out`
    says, and the counters are at zero. -/
theorem run_main (hs : Steps m hk Inv Out) : θ_run (defs (F := F)) (onTc (τ := τ) (main (F := F))) ⟨m, fun _ => 0, ρ⟩
    (fun r => RDat.FramePost (cfgA m) (rdat m Inv Out) (V m) r ∧ r.2.sem = fun _ => 0) :=
  Pipeline.RDat.θ_run_frameP_track (pcfgs (F := F)) (fun _ => adm m) (0 : Fin 1) launch0 defs₀ Variants.none (rdat m Inv Out) m ρ main
    (hbody := fun c => (sound_body hs c).toRRel) (hshare := fun c w => share_eq c w) (howed := fun _ _ => rfl) (V := V m) (hmain := hmain m)
    (hA := fun _ _ => rfl) (hpf := fun c k => V_pre c k) (hin := fun c => phi_intro hs c) (hout := fun c => phi_exit c _)
    (Q' := fun r => RDat.FramePost (cfgA m) (rdat m Inv Out) (V m) r ∧ r.2.sem = fun _ => 0) (hQ' := fun _ h => h)

set_option maxHeartbeats 4000000 in
/-- The frame: the arguments are unchanged and the counters at zero. -/
theorem frame (hs : Steps m hk Inv Out) : θ_run (defs (F := F)) (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (show main_arg0 ∈ Pipeline.restRefs sig spec0 by decide)).trans (V_main_arg0 m c),
     ((congrFun ((rdat m Inv Out c).ArrAt_in (0 : Fin 6) rfl _) _).mp ((h.1 c).1 (0 : Fin 6))).trans (V_main_arg1 m c),
     ((congrFun ((rdat m Inv Out c).ArrAt_in (1 : Fin 6) rfl _) _).mp ((h.1 c).1 (1 : Fin 6))).trans (V_main_arg2 m c),
     ((congrFun ((rdat m Inv Out c).ArrAt_in (3 : Fin 6) rfl _) _).mp ((h.1 c).1 (3 : Fin 6))).trans (V_main_arg3 m c),
     ((congrFun ((rdat m Inv Out c).ArrAt_in (4 : Fin 6) rfl _) _).mp ((h.1 c).1 (4 : Fin 6))).trans (V_main_arg4 m c)⟩, h.2⟩) (run_main (ρ := ρ) hs)

end Cert.Kernel.Run

end
-- ==== Proof.KTables.lean ====
module

public import proofs.«01_k».proof.Proof.KFrame
public import proofs.«01_k».proof.Proof.KPoints
public import proofs.«01_k».proof.Proof.Prefix
public import proofs.«01_k».proof.Proof.Gen.Pre_split
public import Idealize.ShloMosaic.Lib.StableHlo.RunRead

@[expose] public section

set_option maxRecDepth 16384
set_option Elab.async false

noncomputable section

/-! The table's words, the offsets the body computes from them, and that these offsets are in range when the channel
order has the promised number of 8-bit channels. -/
namespace Cert.Kernel.Run

open Cert.Kernel Cert.Kernel.Gen Cert.Sched Cert.Prefix
open Idealize.ShloMosaic Idealize.ShloMosaic.TcCoe Idealize.ShloMosaic.ValueIdx
open Idealize.SL.Sem

variable {F : FTy → Type} [FloatOps F] [BitOps F]
variable (m : (ℓ : Loc nD τ sig) → Buf (Elt F) ℓ)

/-- The channel order. -/
abbrev ord : IVec C 32 := m ((0 : Dev nD).tc.loc main_arg0)

section
attribute [local irreducible] Host.reduceWindow broadcastInDim constantI cmpi extui subi select andi concatenate Host.slice shapeCast iotaInDim

/-- The table the host computes. -/
theorem tab_eq : tab m = Prefix.table (ord m) := by
  show StableHlo.after (opss (F := F)).flatten _ (Proc.devRef .tc main_v10) = _
  simp only [List.flatten_cons, List.flatten_nil, List.append_nil]
  after_reads_simp
  try simp -implicitDefEqProofs only [StableHlo.TRef.toBuf, StableHlo.TRef.ofBuf, cast_cast, cast_eq]
  unfold Prefix.table Prefix.before4 Prefix.before8 Prefix.mask
  rfl

/-- The lane indices the host computes. -/
theorem V_lanes (c : Dev nD) : V m c main_v16 = Prefix.lanes (ord m) := by
  obtain rfl : c = 0 := Subsingleton.elim _ _
  show StableHlo.after (opss (F := F)).flatten _ (Proc.devRef .tc main_v16) = _
  simp only [List.flatten_cons, List.flatten_nil, List.append_nil]
  after_reads_simp
  try simp -implicitDefEqProofs only [StableHlo.TRef.toBuf, StableHlo.TRef.ofBuf, cast_cast, cast_eq]
  unfold Prefix.lanes Prefix.before4 Prefix.before8 Prefix.mask
  rfl

end

/-- The word the body computes for the first slot of the emitted tile's 8-bit half. -/
def wbase (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  v51

/-- The word the body computes for register row 0 of the emitted block. -/
def wrow0 (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32 : BitVec 32 := 4#32
  let v52 : BitVec 32 := Scalar.muli v47 c4_i32
  let c0_i32_19 : BitVec 32 := 0#32
  let v53 : BitVec 32 := Scalar.addi v52 c0_i32_19
  v53

theorem wrow0_eq (i : grid0.Coords) : wrow0 i = BitVec.ofNat 32 (4 * ej (i 0).val + 0) := by
  rw [eq_pt i]
  exact (by decide +kernel : ∀ x : Fin 233, wrow0 (pt x) = BitVec.ofNat 32 (4 * ej (pt x 0).val + 0)) (i 0)

/-- The word the body computes for register row 1 of the emitted block. -/
def wrow1 (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_46 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_40 : BitVec 32 := 4#32
  let v112 : BitVec 32 := Scalar.muli v47 c4_i32_40
  let c1_i32_41 : BitVec 32 := 1#32
  let v113 : BitVec 32 := Scalar.addi v112 c1_i32_41
  v113

theorem wrow1_eq (i : grid0.Coords) : wrow1 i = BitVec.ofNat 32 (4 * ej (i 0).val + 1) := by
  rw [eq_pt i]
  exact (by decide +kernel : ∀ x : Fin 233, wrow1 (pt x) = BitVec.ofNat 32 (4 * ej (pt x 0).val + 1)) (i 0)

/-- The word the body computes for register row 2 of the emitted block. -/
def wrow2 (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_73 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_67 : BitVec 32 := 4#32
  let v172 : BitVec 32 := Scalar.muli v47 c4_i32_67
  let c2_i32_68 : BitVec 32 := 2#32
  let v173 : BitVec 32 := Scalar.addi v172 c2_i32_68
  v173

theorem wrow2_eq (i : grid0.Coords) : wrow2 i = BitVec.ofNat 32 (4 * ej (i 0).val + 2) := by
  rw [eq_pt i]
  exact (by decide +kernel : ∀ x : Fin 233, wrow2 (pt x) = BitVec.ofNat 32 (4 * ej (pt x 0).val + 2)) (i 0)

/-- The word the body computes for register row 3 of the emitted block. -/
def wrow3 (i : grid0.Coords) : BitVec 32 :=
  let c32_i32_18 : BitVec 32 := 32#32
  let arg0 : BitVec 32 := BitVec.ofNat 32 (i 0).val
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c38_i32_5 : BitVec 32 := 38#32
  let c0_i32_8 : BitVec 32 := 0#32
  let v25 : BitVec 1 := Scalar.cmpi .sgt c38_i32_5 c0_i32_8
  let v26 : BitVec 32 := Scalar.extui v25
  let c0_i32_9 : BitVec 32 := 0#32
  let v27 : BitVec 1 := Scalar.cmpi .slt c38_i32_5 c0_i32_9
  let v28 : BitVec 32 := Scalar.extui v27
  let v29 : BitVec 32 := Scalar.subi v26 v28
  let v30 : BitVec 1 := Scalar.cmpi .ne v24 v29
  let v31 : BitVec 32 := Scalar.remsi arg0 c38_i32_5
  let c0_i32_10 : BitVec 32 := 0#32
  let v32 : BitVec 1 := Scalar.cmpi .ne v31 c0_i32_10
  let v33 : BitVec 1 := Scalar.andi v30 v32
  let v19 : BitVec 32 := Scalar.divsi arg0 c38_i32_5
  let c1_i32_11 : BitVec 32 := 1#32
  let v34 : BitVec 32 := Scalar.subi v19 c1_i32_11
  let v35 : BitVec 32 := Scalar.select v33 v34 v19
  let c38_i32_12 : BitVec 32 := 38#32
  let v36 : BitVec 32 := Scalar.muli v35 c38_i32_12
  let v37 : BitVec 32 := Scalar.subi arg0 v36
  let c5_i32 : BitVec 32 := 5#32
  let v38 : BitVec 1 := Scalar.cmpi .slt v37 c5_i32
  let c1_i32_13 : BitVec 32 := 1#32
  let v39 : BitVec 32 := Scalar.subi v35 c1_i32_13
  let v40 : BitVec 32 := Scalar.select v38 v39 v35
  let c0_i32_15 : BitVec 32 := 0#32
  let v45 : BitVec 1 := Scalar.cmpi .slt v40 c0_i32_15
  let c0_i32_16 : BitVec 32 := 0#32
  let v46 : BitVec 32 := Scalar.select v45 c0_i32_16 v40
  let c2_i32 : BitVec 32 := 2#32
  let v49 : BitVec 32 := Scalar.remsi v46 c2_i32
  let c20_i32 : BitVec 32 := 20#32
  let v50 : BitVec 32 := Scalar.muli v49 c20_i32
  let v51 : BitVec 32 := Scalar.addi c32_i32_18 v50
  let c2560_i32_99 : BitVec 32 := 2560#32
  let c0_i32_17 : BitVec 32 := 0#32
  let c32_i32 : BitVec 32 := 32#32
  let v41 : BitVec 32 := Scalar.addi c32_i32 v37
  let c6_i32 : BitVec 32 := 6#32
  let v42 : BitVec 32 := Scalar.subi v37 c6_i32
  let c0_i32_14 : BitVec 32 := 0#32
  let v43 : BitVec 32 := Scalar.maxsi v42 c0_i32_14
  let v44 : BitVec 32 := Scalar.select v38 v41 v43
  let v47 : BitVec 32 := Scalar.select v45 c0_i32_17 v44
  let c4_i32_94 : BitVec 32 := 4#32
  let v232 : BitVec 32 := Scalar.muli v47 c4_i32_94
  let c3_i32 : BitVec 32 := 3#32
  let v233 : BitVec 32 := Scalar.addi v232 c3_i32
  v233

theorem wrow3_eq (i : grid0.Coords) : wrow3 i = BitVec.ofNat 32 (4 * ej (i 0).val + 3) := by
  rw [eq_pt i]
  exact (by decide +kernel : ∀ x : Fin 233, wrow3 (pt x) = BitVec.ofNat 32 (4 * ej (pt x 0).val + 3)) (i 0)

theorem wbase_eq (i : grid0.Coords) : wbase i = BitVec.ofNat 32 (ebase (i 0).val) := by
  rw [eq_pt i]
  exact (by decide +kernel : ∀ x : Fin 233, wbase (pt x) = BitVec.ofNat 32 (ebase (pt x 0).val)) (i 0)

theorem ej_lt (i : grid0.Coords) : ej (i 0).val ≤ 36 := by
  have := lt_point i; unfold ej; split <;> [split; skip] <;> omega

theorem ebase_le (g : Nat) : ebase g ≤ 52 := by unfold ebase; omega

/-- A word of the table. -/
theorem word_eq (hs : Split (ord m)) (o : Nat) (off : Fin 1 → Nat) (h) (ho : o < 149) (he : off = ![o]) :
    word (F := F) (tab m) off h = BitVec.ofNat 32 (b4 (ord m) (128 * o)) := by
  subst he
  rw [tab_eq]
  refine Eq.trans ?_ (table_ap hs ⟨o, ho⟩)
  refine congrArg (Prefix.table (ord m)) (funext fun a => Fin.ext ?_)
  match a with
  | ⟨0, _⟩ => show o + 1 * 0 = o; omega

theorem b4_bounds (hs : Split (ord m)) (o : Nat) (ho : o < 149) :
    b4 (ord m) (128 * o) ≤ 128 * o ∧ 128 * o - b4 (ord m) (128 * o) = b8 (ord m) (128 * o) ∧ b8 (ord m) (128 * o) ≤ 2368 := by
  have h1 := b8_add_b4 (ord m) (128 * o)
  have h2 := b8_le_split hs (n := 128 * o) (by omega)
  omega

/-- The four slots register row 0 of the emitted block is read from. -/
theorem slots0 (hs : Split (ord m)) (i : grid0.Coords) :
    k0_off3 (word (F := F) (tab m) (k0_off1 i) (k0_off1_inb i)) = ![b4 (ord m) (128 * (4 * ej (i 0).val + 0)) / 128 % 32, 0, 0]
    ∧ k0_off4 (word (F := F) (tab m) (k0_off1 i) (k0_off1_inb i)) = ![(b4 (ord m) (128 * (4 * ej (i 0).val + 0)) / 128 + 1) % 32, 0, 0]
    ∧ k0_off5 i (word (F := F) (tab m) (k0_off1 i) (k0_off1_inb i))
        = ![ebase (i 0).val + min ((2560 - b8 (ord m) (128 * (4 * ej (i 0).val + 0))) / 128) 19, 0, 0]
    ∧ k0_off6 i (word (F := F) (tab m) (k0_off1 i) (k0_off1_inb i))
        = ![ebase (i 0).val + (2560 - b8 (ord m) (128 * (4 * ej (i 0).val + 0))) / 128 - 1, 0, 0] := by
  have hj := ej_lt i
  have hb := ebase_le (i 0).val
  obtain ⟨h1, h2, h3⟩ := b4_bounds m hs (4 * ej (i 0).val + 0) (by omega)
  rw [word_eq m hs (4 * ej (i 0).val + 0) _ _ (by omega) (off1_eq i)]
  generalize hA : b4 (ord m) (128 * (4 * ej (i 0).val + 0)) = A at *
  generalize hB : b8 (ord m) (128 * (4 * ej (i 0).val + 0)) = B at *
  refine ⟨?_, ?_, ?_, ?_⟩
  · show ![(lo3 (BitVec.ofNat 32 A)).toNat, 0, 0] = _
    rw [lo3_eq (by omega)]
  · show ![(lo4 (BitVec.ofNat 32 A)).toNat, 0, 0] = _
    rw [lo4_eq (by omega)]
  · show ![(hi5 (wbase i) (wrow0 i) (BitVec.ofNat 32 A)).toNat, 0, 0] = _
    rw [wbase_eq, wrow0_eq, hi5_eq hb (by omega) (by omega) (by omega), h2]
  · show ![(hi6 (wbase i) (wrow0 i) (BitVec.ofNat 32 A)).toNat, 0, 0] = _
    rw [wbase_eq, wrow0_eq, hi6_eq hb (by omega) (by omega) (by omega), h2]

/-- The four slots register row 1 of the emitted block is read from. -/
theorem slots1 (hs : Split (ord m)) (i : grid0.Coords) :
    k0_off9 (word (F := F) (tab m) (k0_off7 i) (k0_off7_inb i)) = ![b4 (ord m) (128 * (4 * ej (i 0).val + 1)) / 128 % 32, 0, 0]
    ∧ k0_off10 (word (F := F) (tab m) (k0_off7 i) (k0_off7_inb i)) = ![(b4 (ord m) (128 * (4 * ej (i 0).val + 1)) / 128 + 1) % 32, 0, 0]
    ∧ k0_off11 i (word (F := F) (tab m) (k0_off7 i) (k0_off7_inb i))
        = ![ebase (i 0).val + min ((2560 - b8 (ord m) (128 * (4 * ej (i 0).val + 1))) / 128) 19, 0, 0]
    ∧ k0_off12 i (word (F := F) (tab m) (k0_off7 i) (k0_off7_inb i))
        = ![ebase (i 0).val + (2560 - b8 (ord m) (128 * (4 * ej (i 0).val + 1))) / 128 - 1, 0, 0] := by
  have hj := ej_lt i
  have hb := ebase_le (i 0).val
  obtain ⟨h1, h2, h3⟩ := b4_bounds m hs (4 * ej (i 0).val + 1) (by omega)
  rw [word_eq m hs (4 * ej (i 0).val + 1) _ _ (by omega) (off7_eq i)]
  generalize hA : b4 (ord m) (128 * (4 * ej (i 0).val + 1)) = A at *
  generalize hB : b8 (ord m) (128 * (4 * ej (i 0).val + 1)) = B at *
  refine ⟨?_, ?_, ?_, ?_⟩
  · show ![(lo3 (BitVec.ofNat 32 A)).toNat, 0, 0] = _
    rw [lo3_eq (by omega)]
  · show ![(lo4 (BitVec.ofNat 32 A)).toNat, 0, 0] = _
    rw [lo4_eq (by omega)]
  · show ![(hi5 (wbase i) (wrow1 i) (BitVec.ofNat 32 A)).toNat, 0, 0] = _
    rw [wbase_eq, wrow1_eq, hi5_eq hb (by omega) (by omega) (by omega), h2]
  · show ![(hi6 (wbase i) (wrow1 i) (BitVec.ofNat 32 A)).toNat, 0, 0] = _
    rw [wbase_eq, wrow1_eq, hi6_eq hb (by omega) (by omega) (by omega), h2]

/-- The four slots register row 2 of the emitted block is read from. -/
theorem slots2 (hs : Split (ord m)) (i : grid0.Coords) :
    k0_off15 (word (F := F) (tab m) (k0_off13 i) (k0_off13_inb i)) = ![b4 (ord m) (128 * (4 * ej (i 0).val + 2)) / 128 % 32, 0, 0]
    ∧ k0_off16 (word (F := F) (tab m) (k0_off13 i) (k0_off13_inb i)) = ![(b4 (ord m) (128 * (4 * ej (i 0).val + 2)) / 128 + 1) % 32, 0, 0]
    ∧ k0_off17 i (word (F := F) (tab m) (k0_off13 i) (k0_off13_inb i))
        = ![ebase (i 0).val + min ((2560 - b8 (ord m) (128 * (4 * ej (i 0).val + 2))) / 128) 19, 0, 0]
    ∧ k0_off18 i (word (F := F) (tab m) (k0_off13 i) (k0_off13_inb i))
        = ![ebase (i 0).val + (2560 - b8 (ord m) (128 * (4 * ej (i 0).val + 2))) / 128 - 1, 0, 0] := by
  have hj := ej_lt i
  have hb := ebase_le (i 0).val
  obtain ⟨h1, h2, h3⟩ := b4_bounds m hs (4 * ej (i 0).val + 2) (by omega)
  rw [word_eq m hs (4 * ej (i 0).val + 2) _ _ (by omega) (off13_eq i)]
  generalize hA : b4 (ord m) (128 * (4 * ej (i 0).val + 2)) = A at *
  generalize hB : b8 (ord m) (128 * (4 * ej (i 0).val + 2)) = B at *
  refine ⟨?_, ?_, ?_, ?_⟩
  · show ![(lo3 (BitVec.ofNat 32 A)).toNat, 0, 0] = _
    rw [lo3_eq (by omega)]
  · show ![(lo4 (BitVec.ofNat 32 A)).toNat, 0, 0] = _
    rw [lo4_eq (by omega)]
  · show ![(hi5 (wbase i) (wrow2 i) (BitVec.ofNat 32 A)).toNat, 0, 0] = _
    rw [wbase_eq, wrow2_eq, hi5_eq hb (by omega) (by omega) (by omega), h2]
  · show ![(hi6 (wbase i) (wrow2 i) (BitVec.ofNat 32 A)).toNat, 0, 0] = _
    rw [wbase_eq, wrow2_eq, hi6_eq hb (by omega) (by omega) (by omega), h2]

/-- The four slots register row 3 of the emitted block is read from. -/
theorem slots3 (hs : Split (ord m)) (i : grid0.Coords) :
    k0_off21 (word (F := F) (tab m) (k0_off19 i) (k0_off19_inb i)) = ![b4 (ord m) (128 * (4 * ej (i 0).val + 3)) / 128 % 32, 0, 0]
    ∧ k0_off22 (word (F := F) (tab m) (k0_off19 i) (k0_off19_inb i)) = ![(b4 (ord m) (128 * (4 * ej (i 0).val + 3)) / 128 + 1) % 32, 0, 0]
    ∧ k0_off23 i (word (F := F) (tab m) (k0_off19 i) (k0_off19_inb i))
        = ![ebase (i 0).val + min ((2560 - b8 (ord m) (128 * (4 * ej (i 0).val + 3))) / 128) 19, 0, 0]
    ∧ k0_off24 i (word (F := F) (tab m) (k0_off19 i) (k0_off19_inb i))
        = ![ebase (i 0).val + (2560 - b8 (ord m) (128 * (4 * ej (i 0).val + 3))) / 128 - 1, 0, 0] := by
  have hj := ej_lt i
  have hb := ebase_le (i 0).val
  obtain ⟨h1, h2, h3⟩ := b4_bounds m hs (4 * ej (i 0).val + 3) (by omega)
  rw [word_eq m hs (4 * ej (i 0).val + 3) _ _ (by omega) (off19_eq i)]
  generalize hA : b4 (ord m) (128 * (4 * ej (i 0).val + 3)) = A at *
  generalize hB : b8 (ord m) (128 * (4 * ej (i 0).val + 3)) = B at *
  refine ⟨?_, ?_, ?_, ?_⟩
  · show ![(lo3 (BitVec.ofNat 32 A)).toNat, 0, 0] = _
    rw [lo3_eq (by omega)]
  · show ![(lo4 (BitVec.ofNat 32 A)).toNat, 0, 0] = _
    rw [lo4_eq (by omega)]
  · show ![(hi5 (wbase i) (wrow3 i) (BitVec.ofNat 32 A)).toNat, 0, 0] = _
    rw [wbase_eq, wrow3_eq, hi5_eq hb (by omega) (by omega) (by omega), h2]
  · show ![(hi6 (wbase i) (wrow3 i) (BitVec.ofNat 32 A)).toNat, 0, 0] = _
    rw [wbase_eq, wrow3_eq, hi6_eq hb (by omega) (by omega) (by omega), h2]

theorem inb_slot (off : Fin 3 → Nat) (k : Nat) (he : off = ![k, 0, 0]) (hk : k < 72) : ∀ a, off a + S1x512x128.size a ≤ S72x512x128.size a := by
  subst he
  intro a
  match a with
  | ⟨0, _⟩ => show k + 1 ≤ 72; omega
  | ⟨1, _⟩ => exact Nat.le_of_eq (Nat.zero_add _)
  | ⟨2, _⟩ => exact Nat.le_of_eq (Nat.zero_add _)

/-- Every offset read from the table is in range. -/
theorem checks (hs : Split (ord m)) : Checks m where
  h1 i := by
    have hb := ebase_le (i 0).val
    obtain ⟨e1, e2, e3, e4⟩ := slots0 m hs i
    exact ⟨inb_slot _ _ e1 (by omega), inb_slot _ _ e2 (by omega), inb_slot _ _ e3 (by omega), inb_slot _ _ e4 (by omega)⟩
  h2 i := by
    have hb := ebase_le (i 0).val
    obtain ⟨e1, e2, e3, e4⟩ := slots1 m hs i
    exact ⟨inb_slot _ _ e1 (by omega), inb_slot _ _ e2 (by omega), inb_slot _ _ e3 (by omega), inb_slot _ _ e4 (by omega)⟩
  h3 i := by
    have hb := ebase_le (i 0).val
    obtain ⟨e1, e2, e3, e4⟩ := slots2 m hs i
    exact ⟨inb_slot _ _ e1 (by omega), inb_slot _ _ e2 (by omega), inb_slot _ _ e3 (by omega), inb_slot _ _ e4 (by omega)⟩
  h4 i := by
    have hb := ebase_le (i 0).val
    obtain ⟨e1, e2, e3, e4⟩ := slots3 m hs i
    exact ⟨inb_slot _ _ e1 (by omega), inb_slot _ _ e2 (by omega), inb_slot _ _ e3 (by omega), inb_slot _ _ e4 (by omega)⟩

/-- The precondition, as a count. -/
theorem split_pre (h : Cert.Pre_split.fn (F := F) (m ((0 : Dev nD).tc.loc main_arg0)) (m ((0 : Dev nD).tc.loc main_arg1)) (m ((0 : Dev nD).tc.loc main_arg2))
    (m ((0 : Dev nD).tc.loc main_arg3)) (m ((0 : Dev nD).tc.loc main_arg4)) = fun _ => 1#1) : Split (ord m) :=
  Prefix.split_of _ _ _ _ _ h

end Cert.Kernel.Run

end
-- ==== Proof.Claims.lean ====
module

public import proofs.«01_k».proof.Defs
public import proofs.«01_k».proof.Proof.ITables
public import proofs.«01_k».proof.Proof.KTables
public import proofs.«01_k».proof.Proof.Gen.ReferenceIdeal
public import proofs.«01_k».proof.Proof.Gen.ReferenceIdeal.Run
public import Idealize.ShloMosaic.Lib.Bf16PairInverse
public import Idealize.ShloMosaic.Lib.Quiescent

@[expose] public section

set_option maxRecDepth 16384

noncomputable section

/-! The frames, and that the idealized kernel keeps the kernel's bits. -/
namespace Cert.Proof

open Idealize.ShloMosaic Idealize.SL.Sem

theorem frame_kernel : Cert.quiescent_Kernel := fun m g h =>
  Cert.Kernel.Run.frame (m := m) (ρ := g) (hk := Cert.Kernel.Run.checks m (Cert.Kernel.Run.split_pre m (h 0))) (Inv := fun _ _ _ => True) (Out := fun _ _ _ => True)
    { zero := fun _ _ => trivial, invA := fun _ _ _ _ _ => trivial, outA := fun _ _ _ _ _ _ => trivial
      invB := fun _ _ _ _ _ => trivial, outB := fun _ _ _ _ _ _ => trivial }

theorem frame_kernelIdeal : Cert.quiescent_KernelIdeal := fun m g h =>
  Cert.KernelIdeal.Run.frame (m := m) (ρ := g) (hk := Cert.KernelIdeal.Run.checks m (Cert.KernelIdeal.Run.split_pre m (h 0))) (Inv := fun _ _ _ => True) (Out := fun _ _ _ => True)
    { zero := fun _ _ => trivial, invA := fun _ _ _ _ _ => trivial, outA := fun _ _ _ _ _ _ => trivial
      invB := fun _ _ _ _ _ => trivial, outB := fun _ _ _ _ _ _ => trivial }

theorem frame_referenceIdeal : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

theorem frame_referenceIdeal_split : Cert.quiescent_ReferenceIdeal_pre_split := fun m g _ => frame_referenceIdeal m g trivial

theorem preserves_kernel : Cert.preserves_Kernel_KernelIdeal :=
  open Cert.KernelIdeal IdealRules.bf16_pair in
  ⟨bufferStatement S72x512x2x128 S72x512x1x128, statement S1x512x2x128 S1x512x1x128, statement S1024x128 S512x128,
    statement S1024x512 S512x512⟩

end Cert.Proof

end
-- ==== Proof.Merge.lean ====
module

public import proofs.«01_k».proof.Proof.IRun
public import Idealize.ShloMosaic.Lib.ValueIdx
public import Idealize.ShloMosaic.Lib.Pipeline.Value

@[expose] public section

set_option maxRecDepth 16384
set_option Elab.async false

noncomputable section
namespace Cert.KernelIdeal.Run
open Cert.KernelIdeal Cert.KernelIdeal.Gen
open Idealize.ShloMosaic Idealize.ShloMosaic.TcCoe Idealize.ShloMosaic.ValueIdx

/-! One column of an output tile: four ring rows merged by the lane masks, then gathered lane by lane. -/

section Halves
variable {α : Type}

/-- The even rows of a ring tile, as a matrix. -/
theorem half0 (x : S1x512x2x128.Idx → α) (h h' h'') (r : Fin 512) (l : Fin 128) :
    shapeCast S512x128 (shapeCast S1x512x128 (rowsOfParity 0 S1x512x1x128 x h) h') h'' (ix2 r l) = x (ix4 0 r 0 l) := by
  rw [shapeCast_apply _ _ _ (ix3 (0 : Fin 1) r l) (by
        simp only [Shape.rowMajor_val_two, Shape.rowMajor_val_three]; simp [ix3, ix2]),
    shapeCast_apply _ _ _ (ix4 (0 : Fin 1) r (0 : Fin 1) l) (by
        simp only [Shape.rowMajor_val_four, Shape.rowMajor_val_three]; simp [ix3, ix4])]
  unfold rowsOfParity
  refine congrArg x (funext fun a => Fin.ext ?_)
  fin_cases a <;> rfl

/-- The odd rows of a ring tile, as a matrix. -/
theorem half1 (x : S1x512x2x128.Idx → α) (h h' h'') (r : Fin 512) (l : Fin 128) :
    shapeCast S512x128 (shapeCast S1x512x128 (rowsOfParity 1 S1x512x1x128 x h) h') h'' (ix2 r l) = x (ix4 0 r 1 l) := by
  rw [shapeCast_apply _ _ _ (ix3 (0 : Fin 1) r l) (by
        simp only [Shape.rowMajor_val_two, Shape.rowMajor_val_three]; simp [ix3, ix2]),
    shapeCast_apply _ _ _ (ix4 (0 : Fin 1) r (0 : Fin 1) l) (by
        simp only [Shape.rowMajor_val_four, Shape.rowMajor_val_three]; simp [ix3, ix4])]
  unfold rowsOfParity
  refine congrArg x (funext fun a => Fin.ext ?_)
  fin_cases a <;> rfl

/-- Two matrices interleaved by rows, read at a place. -/
theorem inter (lo hi : S512x128.Idx → α) (h) (p : Fin 1024) (l : Fin 128) :
    interleaveRows S1024x128 lo hi h (ix2 p l)
      = if p.val % 2 = 0 then lo (ix2 ⟨p.val / 2, by omega⟩ l) else hi (ix2 ⟨p.val / 2, by omega⟩ l) := by
  unfold interleaveRows
  have e : S1024x128.row (ix2 p l) = p.val := rfl
  dsimp only
  rw [e]
  have e2 : ∀ (j : S512x128.Idx), (∀ b, (j b).val = (ix2 (⟨p.val / 2, by omega⟩ : Fin 512) l b).val) →
      j = ix2 (⟨p.val / 2, by omega⟩ : Fin 512) l := fun j hj => funext fun b => Fin.ext (hj b)
  split
  · exact congrArg lo (e2 _ fun b => by fin_cases b <;> rfl)
  · exact congrArg hi (e2 _ fun b => by fin_cases b <;> rfl)

/-- A gather along the lanes, read at a place whose index word is a lane number. -/
theorem gath (x : S1024x128.Idx → α) (idx : IVec S1024x128 32) (p : Fin 1024) (l : Fin 128) (k : ℕ) (hk : k < 128)
    (e : idx (ix2 p l) = BitVec.ofNat 32 k) : dynamicGather 1 x idx (ix2 p l) = x (ix2 p ⟨k, hk⟩) := by
  unfold dynamicGather
  refine congrArg x (funext fun b => Fin.ext ?_)
  fin_cases b
  · rfl
  · show (idx (ix2 p l)).toNat % 128 = k
    rw [e]
    simp; omega

end Halves

variable {F : FTy → Type} [FloatOps F]

/-- One column of an output tile, from its table words, its four ring tiles and its lane words. -/
def part (n4 phi : BitVec 32) (ra rb rc rd : Vec F S1x512x2x128 .bf16) (ix : Vec F S1x1x128 .i32) : FVec F S1024x128 .bf16 :=
  k0_pay15 (k0_pay13 (iota .tc S512x128 32 [1] (by decide)) n4 phi (k0_pay11 ra) (k0_pay12 ra) rb rc rd) (k0_pay14 ix)

/-- The lane word of a column, at a place. -/
theorem pay14_at (ix : Vec F S1x1x128 .i32) (p : Fin 1024) (l : Fin 128) (k : ℕ) (hk : k < 128)
    (e : ix (ix3 0 0 l) = BitVec.ofNat 32 k) : k0_pay14 ix (ix2 p l) = BitVec.ofNat 32 k := by
  unfold k0_pay14
  rw [shapeCast_shapeCast]
  have e1 : broadcastTo S1024x128 (shapeCast S1x128 (shapeCast S1x128 ix shapeCasts_S1x1x128_S1x128)
      shapeCasts_S1x128_S1x128) broadcasts_S1x128_S1024x128 (ix2 p l) = BitVec.ofNat 32 k := by
    rw [broadcastTo_apply _ _ _ (ix2 (0 : Fin 1) l) (fun a => by fin_cases a <;> rfl), shapeCast_self,
      shapeCast_apply _ _ _ (ix3 (0 : Fin 1) (0 : Fin 1) l) (by
        simp only [Shape.rowMajor_val_two, Shape.rowMajor_val_three]; simp [ix3, ix2]), e]
  show Scalar.select (Scalar.cmpi .slt _ 0#32) _ _ = _
  rw [e1]
  have : Scalar.cmpi .slt (BitVec.ofNat 32 k) 0#32 = 0#1 := by
    show BitVec.ofBool (BitVec.slt _ _) = _
    have h2 : (BitVec.ofNat 32 k).slt 0#32 = false := by
      rw [BitVec.slt_eq_decide, decide_eq_false_iff_not, BitVec.toInt_eq_toNat_of_lt (by simp; omega)]
      simp; omega
    rw [h2]
    rfl
  rw [this]
  rfl

/-- The merged column at a place: the masks choose the ring tile, the lane word the lane. -/
theorem part_at (n4 f k : ℕ) (hn : n4 ≤ 128) (hf : f < 128) (hk : k < 128) (ra rb rc rd : Vec Ideal S1x512x2x128 .bf16)
    (ix : Vec Ideal S1x1x128 .i32) (p : Fin 1024) (l : Fin 128) (e : ix (ix3 0 0 l) = BitVec.ofNat 32 k) :
    part (F := Ideal) (BitVec.ofNat 32 n4) (BitVec.ofNat 32 f) ra rb rc rd ix (ix2 p l)
      = (if (k + 128 - f) % 128 < n4 then (if k < f then rb else ra) else (if k < f then rc else rd))
          (ix4 0 ⟨p.val / 2, by omega⟩ ⟨p.val % 2, by omega⟩ ⟨k, hk⟩) := by
  unfold part k0_pay15
  dsimp only
  have e0 := pay14_at (F := Ideal) ix p l k hk e
  have et : ∀ x : FVec Ideal S1024x128 .f32, truncf .bf16 x bitsLt_bf16_f32 = x := fun _ => rfl
  have ex : ∀ x : FVec Ideal S1024x128 .bf16, extf .f32 x bitsLt_bf16_f32 = x := fun _ => rfl
  rw [et]
  rw [gath _ _ p l k hk e0]
  unfold k0_pay13
  rw [ex, inter]
  have ei : iota .tc S512x128 32 [1] (by decide) (ix2 (⟨p.val / 2, by omega⟩ : Fin 512) (⟨k, hk⟩ : Fin 128)) = BitVec.ofNat 32 k := by
    simp [iota, ix2]
  have m1 : cmpi .slt (iota .tc S512x128 32 [1] (by decide)) (broadcast S512x128 (BitVec.ofNat 32 f))
      (ix2 (⟨p.val / 2, by omega⟩ : Fin 512) (⟨k, hk⟩ : Fin 128)) = BitVec.ofBool (decide (k < f)) := by
    show BitVec.ofBool (BitVec.slt _ _) = _
    rw [ei]
    congr 1
    rw [BitVec.slt_eq_decide, decide_eq_decide, broadcast, BitVec.toInt_eq_toNat_of_lt (by simp; omega),
      BitVec.toInt_eq_toNat_of_lt (by simp; omega)]
    simp; omega
  have m2 : cmpi .slt (andi (subi (iota .tc S512x128 32 [1] (by decide)) (broadcast S512x128 (BitVec.ofNat 32 f))) (broadcast S512x128 127#32))
      (broadcast S512x128 (BitVec.ofNat 32 n4))
      (ix2 (⟨p.val / 2, by omega⟩ : Fin 512) (⟨k, hk⟩ : Fin 128)) = BitVec.ofBool (decide ((k + 128 - f) % 128 < n4)) := by
    show BitVec.ofBool (BitVec.slt ((_ - _) &&& 127#32) _) = _
    rw [ei]
    have e3 : (BitVec.ofNat 32 k - BitVec.ofNat 32 f) &&& 127#32 = BitVec.ofNat 32 ((k + 128 - f) % 128) := by
      apply BitVec.eq_of_toNat_eq
      rw [BitVec.toNat_and, show (127#32).toNat = 2 ^ 7 - 1 from rfl, Nat.and_two_pow_sub_one_eq_mod]
      simp; omega
    congr 1
    rw [show broadcast S512x128 (BitVec.ofNat 32 f) (ix2 (⟨p.val / 2, by omega⟩ : Fin 512) (⟨k, hk⟩ : Fin 128)) = BitVec.ofNat 32 f from rfl, e3]
    rw [BitVec.slt_eq_decide, decide_eq_decide, broadcast, BitVec.toInt_eq_toNat_of_lt (by simp; omega),
      BitVec.toInt_eq_toNat_of_lt (by simp; omega)]
    simp; omega
  simp only [select]
  rw [m1, m2]
  unfold k0_pay11 k0_pay12
  simp only [half0, half1]
  have hp : p.val % 2 = 0 ∨ p.val % 2 = 1 := by omega
  rcases hp with hp | hp <;> by_cases h1 : k < f <;> by_cases h2 : (k + 128 - f) % 128 < n4 <;>
    simp [h1, h2, hp, Scalar.select]

end Cert.KernelIdeal.Run
-- ==== Proof.Cols.lean ====
module

public import proofs.«01_k».proof.Proof.Merge
public import proofs.«01_k».proof.Proof.ITables
public import Idealize.ShloMosaic.Lib.WholeRead
public import Idealize.ShloMosaic.Lib.WritesUnit

@[expose] public section

set_option maxRecDepth 16384
set_option Elab.async false

noncomputable section
namespace Cert.KernelIdeal.Run
open Cert.KernelIdeal Cert.KernelIdeal.Gen Cert.Sched Cert.Prefix
open Idealize.ShloMosaic Idealize.ShloMosaic.TcCoe Idealize.ShloMosaic.ValueIdx

/-! What a step stores, spelt out: the four columns of the output tile and the four ring tiles of the computed strip. -/

section Ring
variable {α : Type}

/-- A quarter of a computed tile, as it is stored in the ring. -/
def ring (o : ℕ) (h : S512x512.Slices ![0, o] S512x128) (T : S1024x512.Idx → α) : S1x512x2x128.Idx → α :=
  interleaveRows S1x512x2x128
    (shapeCast S1x512x1x128 (shapeCast S1x512x128 (extractStridedSlice S512x128 ![0, o]
      (rowsOfParity 0 S512x512 T bitcasts_S1024x512_w16_S512x512_w32) h) shapeCasts_S512x128_S1x512x128) shapeCasts_S1x512x128_S1x512x1x128)
    (shapeCast S1x512x1x128 (shapeCast S1x512x128 (extractStridedSlice S512x128 ![0, o]
      (rowsOfParity 1 S512x512 T bitcasts_S1024x512_w16_S512x512_w32) h) shapeCasts_S512x128_S1x512x128) shapeCasts_S1x512x128_S1x512x1x128)
    bitcasts_S1x512x2x128_w16_S1x512x1x128_w32

theorem ring_half (o : ℕ) (h : S512x512.Slices ![0, o] S512x128) (T : S1024x512.Idx → α) (p : Fin 2) (r : Fin 512) (l : Fin 128) (ho : o + 128 ≤ 512) :
    shapeCast S1x512x1x128 (shapeCast S1x512x128 (extractStridedSlice S512x128 ![0, o]
      (rowsOfParity p S512x512 T bitcasts_S1024x512_w16_S512x512_w32) h) shapeCasts_S512x128_S1x512x128) shapeCasts_S1x512x128_S1x512x1x128
      (ix4 0 r 0 l) = T (ix2 ⟨2 * r.val + p.val, by omega⟩ ⟨o + l.val, by omega⟩) := by
  rw [shapeCast_apply _ _ _ (ix3 (0 : Fin 1) r l) (by
        simp only [Shape.rowMajor_val_four, Shape.rowMajor_val_three]; simp [ix3, ix4]),
    shapeCast_apply _ _ _ (ix2 r l) (by
        simp only [Shape.rowMajor_val_two, Shape.rowMajor_val_three]; simp [ix3, ix2]),
    extractStridedSlice_apply _ _ _ _ (ix2 r (⟨o + l.val, by omega⟩ : Fin 512)) (by intro a; fin_cases a <;> simp [ix2])]
  unfold rowsOfParity
  refine congrArg T (funext fun a => Fin.ext ?_)
  fin_cases a <;> rfl

/-- The stored quarter at a place. -/
theorem ring_at (o : ℕ) (h : S512x512.Slices ![0, o] S512x128) (T : S1024x512.Idx → α) (ho : o + 128 ≤ 512) (r : Fin 512) (p : Fin 2) (l : Fin 128) :
    ring o h T (ix4 0 r p l) = T (ix2 ⟨2 * r.val + p.val, by omega⟩ ⟨o + l.val, by omega⟩) := by
  unfold ring interleaveRows
  have e2 : ∀ (j : S1x512x1x128.Idx), (∀ b, (j b).val = (ix4 (0 : Fin 1) r (0 : Fin 1) l b).val) → j = ix4 (0 : Fin 1) r (0 : Fin 1) l :=
    fun j hj => funext fun b => Fin.ext (hj b)
  have hp : p = 0 ∨ p = 1 := by omega
  rcases hp with rfl | rfl
  · refine (if_pos rfl).trans (Eq.trans (congrArg _ (e2 _ fun b => ?_)) (ring_half o h T 0 r l ho))
    fin_cases b <;> simp [ix4]
  · refine (if_neg (show ¬ (1 : ℕ) % 2 = 0 by decide)).trans (Eq.trans (congrArg _ (e2 _ fun b => ?_)) (ring_half o h T 1 r l ho))
    fin_cases b <;> simp [ix4]

end Ring

variable {F : FTy → Type} [FloatOps F]
variable (m : (ℓ : Loc nD τ sig) → Buf (Elt F) ℓ) (hk : Checks m)

/-- An offset whose tile lies within the ring. -/
abbrev In (off : Fin 4 → ℕ) : Prop := ∀ a, off a + S1x512x2x128.size a ≤ S72x512x2x128.size a

/-- One ring tile. -/
def cut (Y : S72x512x2x128.Idx → Elt F .bf16) (off : Fin 4 → ℕ) (h : In off) : Vec F S1x512x2x128 .bf16 :=
  View.readAt (Elt F) scM.view (Rect.unit (s := S72x512x2x128) off S1x512x2x128.size h).toLoadRect Y

/-- The lane words of one column. -/
def lanesOf (c : Dev nD) (t : Fin (cfgA m).N) (o : ℕ) (h : ∀ a, (![0, o, 0] : Fin 3 → ℕ) a + S1x1x128.size a ≤ S1x4x128.size a) : Vec F S1x1x128 .i32 :=
  View.readAt (Elt F) (ms2 m t).view (Rect.unit (s := S1x4x128) ![0, o, 0] S1x1x128.size h).toLoadRect ((hs2 m t).unread (iblk m c (2 : Fin 6) t))

/-- One column of the output tile at point `t`. -/
def colOf (c : Dev nD) (t : Fin (cfgA m).N) (Y : S72x512x2x128.Idx → Elt F .bf16) (wa wb : BitVec 32) (oa ob oc od : Fin 4 → ℕ) (ha : In oa) (hb : In ob) (hc' : In oc) (hd : In od) (o : ℕ) (ho : ∀ a, (![0, o, 0] : Fin 3 → ℕ) a + S1x1x128.size a ≤ S1x4x128.size a) : FVec F S1024x128 .bf16 :=
  part (Scalar.subi wb wa) (Scalar.andi wa 127#32) (cut Y oa ha) (cut Y ob hb) (cut Y oc hc') (cut Y od hd) (lanesOf m c t o ho)

/-- The four columns, last first. -/
def cols (c : Dev nD) (t : Fin (cfgA m).N) (Y : S72x512x2x128.Idx → Elt F .bf16) : List (View.Piece (Elt F) S1024x512 .bf16) :=
  let i := crd m t
  [⟨Rect.unit ![0, 384] S1024x128.size inb_S1024x512_S1024x128_0_384,
      colOf m c t Y (word (tab m) (k0_off19 i) (k0_off19_inb i)) (word (tab m) (k0_off20 i) (k0_off20_inb i))
        _ _ _ _ (hk.h4 i).1 (hk.h4 i).2.1 (hk.h4 i).2.2.1 (hk.h4 i).2.2.2 3 inb_S1x4x128_S1x1x128_0_3_0⟩,
    ⟨Rect.unit ![0, 256] S1024x128.size inb_S1024x512_S1024x128_0_256,
      colOf m c t Y (word (tab m) (k0_off13 i) (k0_off13_inb i)) (word (tab m) (k0_off14 i) (k0_off14_inb i))
        _ _ _ _ (hk.h3 i).1 (hk.h3 i).2.1 (hk.h3 i).2.2.1 (hk.h3 i).2.2.2 2 inb_S1x4x128_S1x1x128_0_2_0⟩,
    ⟨Rect.unit ![0, 128] S1024x128.size inb_S1024x512_S1024x128_0_128,
      colOf m c t Y (word (tab m) (k0_off7 i) (k0_off7_inb i)) (word (tab m) (k0_off8 i) (k0_off8_inb i))
        _ _ _ _ (hk.h2 i).1 (hk.h2 i).2.1 (hk.h2 i).2.2.1 (hk.h2 i).2.2.2 1 inb_S1x4x128_S1x1x128_0_1_0⟩,
    ⟨Rect.unit ![0, 0] S1024x128.size inb_S1024x512_S1024x128_0_0,
      colOf m c t Y (word (tab m) (k0_off1 i) (k0_off1_inb i)) (word (tab m) (k0_off2 i) (k0_off2_inb i))
        _ _ _ _ (hk.h1 i).1 (hk.h1 i).2.1 (hk.h1 i).2.2.1 (hk.h1 i).2.2.2 0 inb_S1x4x128_S1x1x128_0_0_0⟩]

theorem colsA (c : Dev nD) (t Y hc) : (atA m hk c t Y hc).1 = cols m hk c t Y := rfl
theorem colsB (c : Dev nD) (t Y hc) : (atB m hk c t Y hc).1 = cols m hk c t Y := rfl

theorem scratchB (c : Dev nD) (t Y hc) : (atB m hk c t Y hc).2.1 = Y := rfl

/-- The tile computed at point `t`. -/
def tile (c : Dev nD) (t : Fin (cfgA m).N) : FVec F S1024x512 .bf16 :=
  k0_pay3 (iblk m c (0 : Fin 6) t) (iblk m c (1 : Fin 6) t) (iblk m c (3 : Fin 6) t) (iblk m c (4 : Fin 6) t)

/-- The tile computed at point `t`, from what the step reads. -/
def tileRead (c : Dev nD) (t : Fin (cfgA m).N) : FVec F S1024x512 .bf16 :=
  k0_pay3
    (View.readAt (Elt F) (ms0 m t).view (Rect.unit (s := S512x1792) ![0, 0] S512x1792.size inb_S512x1792_S512x1792_0_0).toLoadRect ((hs0 m t).unread (iblk m c (0 : Fin 6) t)))
    (View.readAt (Elt F) (ms1 m t).view (Rect.unit (s := S1x1024x3584) ![0, 0, 0] S1x1024x3584.size inb_S1x1024x3584_S1x1024x3584_0_0_0).toLoadRect ((hs1 m t).unread (iblk m c (1 : Fin 6) t)))
    (View.readAt (Elt F) (ms3 m t).view (Rect.unit (s := S1x1024x1) ![0, 0, 0] S1x1024x1.size inb_S1x1024x1_S1x1024x1_0_0_0).toLoadRect ((hs3 m t).unread (iblk m c (3 : Fin 6) t)))
    (View.readAt (Elt F) (ms4 m t).view (Rect.unit (s := S1x1x512) ![0, 0, 0] S1x1x512.size inb_S1x1x512_S1x1x512_0_0_0).toLoadRect ((hs4 m t).unread (iblk m c (4 : Fin 6) t)))

theorem readAt_all {κ : Kind} {sp : Space} {S : Shape} {et : EltTy} (mm : Memref sig κ sp S et) (hw : mm.IsWhole) (X : S.Idx → Elt F et) (off : Fin S.rank → ℕ) (h)
    (ho : ∀ a, off a = 0) :
    View.readAt (Elt F) mm.view (Rect.unit (s := S) off S.size h).toLoadRect (hw.unread X) = X := by
  funext x
  rw [hw.readAt_unread]
  refine congrArg X (funext fun a => Fin.ext ?_)
  simp [LoadRect.idx, Rect.unit, Rect.toLoadRect, ho]

theorem tileRead_eq (c : Dev nD) (t : Fin (cfgA m).N) : tileRead m c t = tile m c t := by
  unfold tileRead tile
  rw [readAt_all, readAt_all, readAt_all, readAt_all] <;> (intro a; fin_cases a <;> rfl)

/-- The four ring tiles, last first. -/
def tiles (c : Dev nD) (t : Fin (cfgA m).N) (hc : k0_cond1 (crd m t) = 1#1) (T : S1024x512.Idx → Elt F .bf16) : List (View.Piece (Elt F) S72x512x2x128 .bf16) :=
  [⟨Rect.unit (k0_off25 (crd m t) 3#32) S1x512x2x128.size (k0_off25_inb _ hc 3), ring 384 slices_S512x512_o0_384_S512x128 T⟩,
    ⟨Rect.unit (k0_off25 (crd m t) 2#32) S1x512x2x128.size (k0_off25_inb _ hc 2), ring 256 slices_S512x512_o0_256_S512x128 T⟩,
    ⟨Rect.unit (k0_off25 (crd m t) 1#32) S1x512x2x128.size (k0_off25_inb _ hc 1), ring 128 slices_S512x512_o0_128_S512x128 T⟩,
    ⟨Rect.unit (k0_off25 (crd m t) 0#32) S1x512x2x128.size (k0_off25_inb _ hc 0), ring 0 slices_S512x512_o0_0_S512x128 T⟩]

set_option maxHeartbeats 2000000 in
theorem scratchA (c : Dev nD) (t Y hc) : (atA m hk c t Y hc).2.1 = scM.view.writes (Elt F) Y (tiles m c t hc (tileRead m c t)) := rfl

end Cert.KernelIdeal.Run
-- ==== Proof.Blocks.lean ====
module

public import proofs.«01_k».proof.Proof.ITables
public import Idealize.ShloMosaic.Lib.Pipeline.ValueKit.Geometry

@[expose] public section

set_option maxRecDepth 16384

noncomputable section

/-! Which block of each array a grid point works on. -/
namespace Cert.KernelIdeal.Run
open Cert.KernelIdeal Cert.KernelIdeal.Gen Cert.Sched Cert.Prefix
open Idealize.ShloMosaic Idealize.ShloMosaic.TcCoe Idealize.ShloMosaic.ValueIdx

/-- The grid point whose strip is read at point `g`. -/
abbrev cl (g : ℕ) : ℕ := min g 227

theorem tr0_eq (i : grid0.Coords) : cc0_transform_0 i = ![cl (i 0).val % 38, 0] := by
  rw [eq_pt i]
  exact (by decide +kernel : ∀ x : Fin 233, cc0_transform_0 (pt x) = ![cl (pt x 0).val % 38, 0]) (i 0)

theorem tr1_eq (i : grid0.Coords) : cc0_transform_1 i = ![if cl (i 0).val % 38 < 5 then 0 else 1, cl (i 0).val / 38, 0] := by
  rw [eq_pt i]
  exact (by decide +kernel : ∀ x : Fin 233, cc0_transform_1 (pt x) = ![if cl (pt x 0).val % 38 < 5 then 0 else 1, cl (pt x 0).val / 38, 0]) (i 0)

theorem tr2_eq (i : grid0.Coords) : cc0_transform_2 i = ![ej (i 0).val, 0, 0] := by
  rw [eq_pt i]
  exact (by decide +kernel : ∀ x : Fin 233, cc0_transform_2 (pt x) = ![ej (pt x 0).val, 0, 0]) (i 0)

theorem tr3_eq (i : grid0.Coords) : cc0_transform_3 i = ![if cl (i 0).val % 38 < 5 then 0 else 1, cl (i 0).val / 38, 0] := by
  rw [eq_pt i]
  exact (by decide +kernel : ∀ x : Fin 233, cc0_transform_3 (pt x) = ![if cl (pt x 0).val % 38 < 5 then 0 else 1, cl (pt x 0).val / 38, 0]) (i 0)

theorem tr4_eq (i : grid0.Coords) : cc0_transform_4 i = ![cl (i 0).val % 38, 0, 0] := by
  rw [eq_pt i]
  exact (by decide +kernel : ∀ x : Fin 233, cc0_transform_4 (pt x) = ![cl (pt x 0).val % 38, 0, 0]) (i 0)

theorem tr5_eq (i : grid0.Coords) : cc0_transform_5 i = ![Sched.em (i 0).val, ej (i 0).val] := by
  rw [eq_pt i]
  exact (by decide +kernel : ∀ x : Fin 233, cc0_transform_5 (pt x) = ![Sched.em (pt x 0).val, ej (pt x 0).val]) (i 0)

variable {F : FTy → Type} [FloatOps F]
variable (m : (ℓ : Loc nD τ sig) → Buf (Elt F) ℓ)

theorem crd_val (t : Fin (cfgA m).N) : (crd m t 0).val = t.val := by
  show t.val / 1 % 233 = t.val
  have h : t.val < 233 := t.isLt
  omega

theorem t_lt (t : Fin (cfgA m).N) : t.val < 233 := t.isLt

theorem cl_lt (g : ℕ) : cl g % 38 < 38 ∧ cl g / 38 < 6 := by unfold cl; omega

/-- The rows of weights read at point `t`. -/
theorem blk0 (c : Dev nD) (t : Fin (cfgA m).N) (q : Fin 512) (k : Fin 1792) :
    iblk m c (0 : Fin 6) t (ix2 q k) = m ((c : Thread nD τ).loc main_arg1) (ix2 (⟨512 * (cl t.val % 38) + q.val, by have := cl_lt t.val; omega⟩ : Fin 19456) k) := by
  rw [← V_main_arg1 m c]
  refine congrArg (V m c main_arg1) (funext fun a => Fin.ext ?_)
  refine (Pipeline.Window.rect_emb_val ((cfgA m).win (0 : Fin 6)) t (ix2 q k) a rfl).trans ?_
  show cc0_transform_0 (crd m t) a * S512x1792.size a + _ = _
  rw [tr0_eq, crd_val]
  fin_cases a <;> simp [ix2, ix3] <;> omega

/-- Which of the two kinds of activations a strip is multiplied with. -/
abbrev kd (s : ℕ) : Fin 2 := if s < 5 then 0 else 1

theorem kd_val (s : ℕ) : (kd s).val = if s < 5 then 0 else 1 := by unfold kd; split <;> rfl

/-- The activations read at point `t`. -/
theorem blk1 (c : Dev nD) (t : Fin (cfgA m).N) (z : Fin 1) (p : Fin 1024) (k : Fin 3584) :
    iblk m c (1 : Fin 6) t (ix3 z p k) = m ((c : Thread nD τ).loc main_arg2) (ix3 (kd (cl t.val % 38)) (⟨1024 * (cl t.val / 38) + p.val, by have := cl_lt t.val; omega⟩ : Fin 6144) k) := by
  rw [← V_main_arg2 m c]
  refine congrArg (V m c main_arg2) (funext fun a => Fin.ext ?_)
  refine (Pipeline.Window.rect_emb_val ((cfgA m).win (1 : Fin 6)) t (ix3 z p k) a rfl).trans ?_
  show cc0_transform_1 (crd m t) a * S1x1024x3584.size a + _ = _
  rw [tr1_eq, crd_val]
  fin_cases a
  · simp [ix3, kd_val]
  · simp [ix3]; omega
  · simp [ix3]

/-- The activations' scales read at point `t`. -/
theorem blk3 (c : Dev nD) (t : Fin (cfgA m).N) (z : Fin 1) (p : Fin 1024) (k : Fin 1) :
    iblk m c (3 : Fin 6) t (ix3 z p k) = m ((c : Thread nD τ).loc main_arg3) (ix3 (kd (cl t.val % 38)) (⟨1024 * (cl t.val / 38) + p.val, by have := cl_lt t.val; omega⟩ : Fin 6144) k) := by
  rw [← V_main_arg3 m c]
  refine congrArg (V m c main_arg3) (funext fun a => Fin.ext ?_)
  refine (Pipeline.Window.rect_emb_val ((cfgA m).win (3 : Fin 6)) t (ix3 z p k) a rfl).trans ?_
  show cc0_transform_3 (crd m t) a * S1x1024x1.size a + _ = _
  rw [tr3_eq, crd_val]
  fin_cases a
  · simp [ix3, kd_val]
  · simp [ix3]; omega
  · simp [ix3]

/-- The weights' scales read at point `t`. -/
theorem blk4 (c : Dev nD) (t : Fin (cfgA m).N) (z z' : Fin 1) (q : Fin 512) :
    iblk m c (4 : Fin 6) t (ix3 z z' q) = m ((c : Thread nD τ).loc main_arg4) (ix3 (⟨cl t.val % 38, (cl_lt t.val).1⟩ : Fin 38) z' q) := by
  rw [← V_main_arg4 m c]
  refine congrArg (V m c main_arg4) (funext fun a => Fin.ext ?_)
  refine (Pipeline.Window.rect_emb_val ((cfgA m).win (4 : Fin 6)) t (ix3 z z' q) a rfl).trans ?_
  show cc0_transform_4 (crd m t) a * S1x1x512.size a + _ = _
  rw [tr4_eq, crd_val]
  fin_cases a <;> simp [ix2, ix3] <;> omega

/-- The lanes read at point `t`. -/
theorem blk2 (c : Dev nD) (t : Fin (cfgA m).N) (z : Fin 1) (r : Fin 4) (l : Fin 128) :
    iblk m c (2 : Fin 6) t (ix3 z r l) = Prefix.lanes (ord m) (ix3 (⟨ej t.val, by have := ej_lt (crd m t); rw [crd_val] at this; omega⟩ : Fin 37) r l) := by
  rw [← V_lanes m c]
  refine congrArg (V m c main_v16) (funext fun a => Fin.ext ?_)
  refine (Pipeline.Window.rect_emb_val ((cfgA m).win (2 : Fin 6)) t (ix3 z r l) a rfl).trans ?_
  show cc0_transform_2 (crd m t) a * S1x4x128.size a + _ = _
  rw [tr2_eq, crd_val]
  fin_cases a <;> simp [ix2, ix3] <;> omega

end Cert.KernelIdeal.Run
-- ==== Proof.Spec.lean ====
module

public import proofs.«01_k».proof.Proof.Prefix
public import Idealize.ShloMosaic.Lib.MatmulPlain
public import Idealize.ShloMosaic.Lib.ValueIdx

@[expose] public section

set_option maxRecDepth 16384

noncomputable section

/-! The product both programs compute, before the columns are put in the channels' order, and the order. -/
namespace Cert.Spec
open Idealize.ShloMosaic Idealize.ShloMosaic.ValueIdx Cert.Prefix

/-- The row of a 16-row group at which logical row `q` is stored. -/
abbrev at16 (q : ℕ) : ℕ := q / 16 * 16 + q % 2 * 8 + q % 16 / 2

theorem at16_lt {n : ℕ} (q n' : ℕ) (e : n = 16 * n') (h : q < n) : at16 q < n := by
  unfold at16; omega

/-- The half of a stored word that holds column `k`. -/
def half (w : BitVec 32) (k : ℕ) : BitVec 16 := w.extractLsb' (if k < 1792 then 0 else 16) 16

variable (w : (⟨2, ![19456, 1792]⟩ : Shape).Idx → BitVec 32) (x : (⟨3, ![2, 6144, 3584]⟩ : Shape).Idx → EReal)
  (xs : (⟨3, ![2, 6144, 1]⟩ : Shape).Idx → EReal) (ws : (⟨3, ![38, 1, 512]⟩ : Shape).Idx → EReal)

/-- The weight of logical row `p` at column `k`. -/
def weight (p : Fin 19456) (k : Fin 3584) : EReal :=
  FloatOps.ofBits (F := Ideal) .bf16 (half (w (ix2 ⟨at16 p.val, at16_lt _ 1216 rfl p.isLt⟩ ⟨k.val % 1792, Nat.mod_lt _ (by decide)⟩)) k.val)

/-- The activations a weight row meets: the first kind for the rows of the first 2560, the second kind after them. -/
def kind (p : ℕ) : Fin 2 := if p < 2560 then 0 else 1

/-- The scaled product of token `t` with logical weight row `p`. -/
def prod (t : Fin 6144) (p : Fin 19456) : EReal :=
  (∑ k : Fin 3584, x (ix3 (kind p.val) t k) * weight w p k) * xs (ix3 (kind p.val) t 0)
    * ws (ix3 ⟨p.val / 512, by omega⟩ 0 ⟨p.val % 512, Nat.mod_lt _ (by decide)⟩)

/-- The logical weight row of channel `n`. -/
def pos (o : C.Idx → BitVec 32) (n : ℕ) : ℕ := if low o n then 2559 - b8 o n else 2560 + b4 o n

end Cert.Spec
-- ==== Proof.Tile.lean ====
module

public import proofs.«01_k».proof.Proof.Merge
public import proofs.«01_k».proof.Proof.Spec
public import Idealize.ShloMosaic.Lib.BitcastPair
public import Idealize.ShloMosaic.Lib.MatmulPlain

@[expose] public section

set_option maxRecDepth 16384
set_option Elab.async false

noncomputable section
namespace Cert.KernelIdeal.Run
open Cert.KernelIdeal Cert.KernelIdeal.Gen Cert.Spec
open Idealize.ShloMosaic Idealize.ShloMosaic.TcCoe Idealize.ShloMosaic.ValueIdx

/-! One computed tile: 1024 tokens by 512 weight rows, and the four ring tiles it is stored as. -/

/-- Words taken apart into rows of 16-bit halves, read at a place. -/
theorem halves_at (x : S32x8x1792.Idx → BitVec 32) (h) (g : Fin 32) (r : Fin 16) (k : Fin 1792) :
    bitcast S32x16x1792 16 x h (ix3 g r k) = (x (ix3 g ⟨r.val / 2, by omega⟩ k)).extractLsb' (16 * (r.val % 2)) 16 := by
  rw [bitcast_32_16]
  have e : S32x16x1792.row (ix3 g r k) = r.val := rfl
  simp only [e]
  congr 1
  refine congrArg x (funext fun a => Fin.ext ?_)
  fin_cases a <;> rfl

/-- The first or second eight rows of each group of sixteen stored rows. -/
theorem eight_at (x : S512x1792.Idx → BitVec 32) (o : Fin 2) (h1 h2 h3) (g : Fin 32) (r : Fin 8) (k : Fin 1792) :
    shapeCast S32x8x1792 (extractStridedSlice S32x1x8x1792 ![0, o.val, 0, 0] (shapeCast S32x2x8x1792 x h1) h2) h3 (ix3 g r k)
      = x (ix2 ⟨16 * g.val + 8 * o.val + r.val, by omega⟩ k) := by
  rw [shapeCast_apply _ _ _ (ix4 g (0 : Fin 1) r k) (by
        simp only [Shape.rowMajor_val_four, Shape.rowMajor_val_three]; simp [ix3, ix4]),
    extractStridedSlice_apply _ _ _ _ (ix4 g o r k) (by intro a; fin_cases a <;> simp [ix4]),
    shapeCast_apply _ _ _ (ix2 ⟨16 * g.val + 8 * o.val + r.val, by omega⟩ k) (by
        simp only [Shape.rowMajor_val_four, Shape.rowMajor_val_two]; simp [ix2, ix4]; ring)]

/-- The decoded weights of a block at a place. -/
theorem decode_at (w0 w1 : BitVec 32) (r : ℕ) :
    ((w0 &&& 65535#32) ||| (w1 <<< (16#32).toNat)).extractLsb' (16 * (r % 2)) 16
        = (if r % 2 = 0 then w0 else w1).extractLsb' 0 16
      ∧ ((w0 >>> (16#32).toNat) ||| (w1 &&& 4294901760#32)).extractLsb' (16 * (r % 2)) 16
        = (if r % 2 = 0 then w0 else w1).extractLsb' 16 16 := by
  have h : r % 2 = 0 ∨ r % 2 = 1 := by omega
  rcases h with h | h <;> rw [h] <;> constructor <;> apply BitVec.eq_of_getLsbD_eq <;> intro i hi <;>
    interval_cases i <;> simp <;> rfl

/-- The rows of halves as a matrix of weights, read at a place. -/
theorem words_at (v : S32x8x1792.Idx → BitVec 32) (h h') (q : Fin 512) (k : Fin 1792) :
    shapeCast S512x1792 (bitcastToFloat (F := Ideal) .bf16 (bitcast S32x16x1792 16 v h)) h' (ix2 q k)
      = FloatOps.ofBits (F := Ideal) .bf16
          ((v (ix3 ⟨q.val / 16, by omega⟩ ⟨q.val % 16 / 2, by omega⟩ k)).extractLsb' (16 * (q.val % 16 % 2)) 16) := by
  rw [shapeCast_apply _ _ _ (ix3 (⟨q.val / 16, by omega⟩ : Fin 32) (⟨q.val % 16, by omega⟩ : Fin 16) k) (by
    simp only [Shape.rowMajor_val_two, Shape.rowMajor_val_three]; simp [ix3, ix2]; omega)]
  unfold bitcastToFloat
  rw [halves_at]

/-- The tile at a place: the scaled product of a token with a weight row of the block. -/
theorem tile_at (w : Vec Ideal S512x1792 .i32) (x : Vec Ideal S1x1024x3584 .bf16) (xs : Vec Ideal S1x1024x1 .f32)
    (ws : Vec Ideal S1x1x512 .f32) (p : Fin 1024) (q : Fin 512) :
    k0_pay3 (F := Ideal) w x xs ws (ix2 p q)
      = (∑ k : Fin 3584, x (ix3 0 p k) * FloatOps.ofBits (F := Ideal) .bf16
            (half (w (ix2 ⟨at16 q.val, at16_lt _ 32 rfl q.isLt⟩ ⟨k.val % 1792, Nat.mod_lt _ (by decide)⟩)) k.val))
          * xs (ix3 0 p 0) * ws (ix3 0 0 q) := by
  unfold k0_pay3
  have et : ∀ x : FVec Ideal S1024x512 .f32, truncf .bf16 x bitsLt_bf16_f32 = x := fun _ => rfl
  rw [et]
  have em : ∀ (x y : FVec Ideal S1024x512 .f32) (i), mulf x y i = x i * y i := fun _ _ _ => rfl
  rw [em, em]
  congr 1
  · congr 1
    · refine (show _ = FloatOps.matmul (F := Ideal) (DotDims.transposedRhs 1024 3584 512) none _ _ _ (ix2 p q) from rfl).trans ?_
      rw [Ideal.matmul_transposedRhs_apply]
      rw [show constant (F := Ideal) S1024x512 .f32 0x00000000#32 (ix2 p q) = 0 from Ideal.ofBits_zero_f32, zero_add]
      refine Finset.sum_congr rfl fun k _ => ?_
      congr 1
      · rw [shapeCast_apply _ _ _ (ix3 (0 : Fin 1) p k) (by
          simp only [Shape.rowMajor_val_two, Shape.rowMajor_val_three]; simp [ix3, ix2])]
      · have hr : q.val % 16 < 16 := by omega
        by_cases hk : k.val < 1792
        · refine (concatenate_pair_apply_left (t := S512x3584) (s₁ := S512x1792) (s₂ := S512x1792) 1 _ _ _ _ rfl
            (ix2 q (⟨k.val, hk⟩ : Fin 1792)) (fun b => by fin_cases b <;> rfl)).trans ?_
          rw [words_at]
          refine congrArg (FloatOps.ofBits (F := Ideal) .bf16) ?_
          have e1 := eight_at w 0 shapeCasts_S512x1792_S32x2x8x1792 slices_S32x2x8x1792_o0_0_0_0_S32x1x8x1792
            shapeCasts_S32x1x8x1792_S32x8x1792 ⟨q.val / 16, by omega⟩ ⟨q.val % 16 / 2, by omega⟩ ⟨k.val, hk⟩
          have e2 := eight_at w 1 shapeCasts_S512x1792_S32x2x8x1792 slices_S32x2x8x1792_o0_1_0_0_S32x1x8x1792
            shapeCasts_S32x1x8x1792_S32x8x1792 ⟨q.val / 16, by omega⟩ ⟨q.val % 16 / 2, by omega⟩ ⟨k.val, hk⟩
          refine (congrArg₂ (fun (a b : BitVec 32) => ((a &&& 65535#32) ||| (b <<< (16#32).toNat)).extractLsb' (16 * (q.val % 16 % 2)) 16) e1 e2).trans ?_
          rw [(decode_at _ _ _).1]
          unfold half
          rw [if_pos hk]
          refine congrArg (fun a : BitVec 32 => a.extractLsb' 0 16) ?_
          have h : q.val % 16 % 2 = 0 ∨ q.val % 16 % 2 = 1 := by omega
          rcases h with h | h <;> simp only [h] <;> simp only [if_true, if_false, Nat.one_ne_zero] <;>
            refine congrArg w ?_ <;> congr 1 <;> apply Fin.ext <;> simp [at16] <;> omega
        · refine (concatenate_pair_apply_right (t := S512x3584) (s₁ := S512x1792) (s₂ := S512x1792) 1 _ _ _ _ rfl rfl
            (ix2 q (⟨k.val - 1792, by omega⟩ : Fin 1792)) (fun b hb => by
              fin_cases b
              · rfl
              · exact absurd rfl hb) (by simp [ix2]; omega)).trans ?_
          rw [words_at]
          refine congrArg (FloatOps.ofBits (F := Ideal) .bf16) ?_
          have e1 := eight_at w 0 shapeCasts_S512x1792_S32x2x8x1792 slices_S32x2x8x1792_o0_0_0_0_S32x1x8x1792
            shapeCasts_S32x1x8x1792_S32x8x1792 ⟨q.val / 16, by omega⟩ ⟨q.val % 16 / 2, by omega⟩ ⟨k.val - 1792, by omega⟩
          have e2 := eight_at w 1 shapeCasts_S512x1792_S32x2x8x1792 slices_S32x2x8x1792_o0_1_0_0_S32x1x8x1792
            shapeCasts_S32x1x8x1792_S32x8x1792 ⟨q.val / 16, by omega⟩ ⟨q.val % 16 / 2, by omega⟩ ⟨k.val - 1792, by omega⟩
          refine (congrArg₂ (fun (a b : BitVec 32) => ((a >>> (16#32).toNat) ||| (b &&& 4294901760#32)).extractLsb' (16 * (q.val % 16 % 2)) 16) e1 e2).trans ?_
          rw [(decode_at _ _ _).2]
          unfold half
          rw [if_neg hk]
          refine congrArg (fun a : BitVec 32 => a.extractLsb' 16 16) ?_
          have h : q.val % 16 % 2 = 0 ∨ q.val % 16 % 2 = 1 := by omega
          rcases h with h | h <;> simp only [h] <;> simp only [if_true, if_false, Nat.one_ne_zero] <;>
            refine congrArg w ?_ <;> congr 1 <;> apply Fin.ext <;> simp [at16] <;> omega
    · rw [broadcastTo_apply _ _ _ (ix2 p (0 : Fin 1)) (fun a => by fin_cases a <;> rfl),
        shapeCast_apply _ _ _ (ix3 (0 : Fin 1) p (0 : Fin 1)) (by
          simp only [Shape.rowMajor_val_two, Shape.rowMajor_val_three]; simp [ix3, ix2])]
  · rw [broadcastTo_apply _ _ _ (ix2 (0 : Fin 1) q) (fun a => by fin_cases a <;> rfl),
      shapeCast_apply _ _ _ (ix3 (0 : Fin 1) (0 : Fin 1) q) (by
        simp only [Shape.rowMajor_val_two, Shape.rowMajor_val_three]; simp [ix3, ix2])]

end Cert.KernelIdeal.Run
-- ==== Proof.Pick.lean ====
module

public import proofs.«01_k».proof.Proof.Spec
public import proofs.«01_k».proof.Proof.Sched

@[expose] public section

noncomputable section

/-! Where an output channel's weight row is kept when the channel is emitted, and that it is still there. -/
namespace Cert.Pick

open Idealize.ShloMosaic Cert.Prefix Cert.Spec Cert.Sched

variable {x : IVec C 32} (hs : Split x)

/-- The ring slot of tile `K` of a token tile's strip rows, its 8-bit half kept from slot `e`. -/
def slot (e K : ℕ) : ℕ := if K < 20 then e + K else (K - 20) % 32

include hs

/-- Facts of the counts around channel `n` of column `o`. -/
theorem counts {o n : ℕ} (h1 : 128 * o ≤ n) (h2 : n < 128 * (o + 1)) :
    b8 x (128 * o) ≤ b8 x n ∧ b8 x n ≤ b8 x (128 * o) + (n - 128 * o) ∧ b8 x (n + 1) ≤ b8 x (128 * (o + 1)) ∧
      b8 x (128 * (o + 1)) ≤ b8 x (n + 1) + (128 * (o + 1) - (n + 1)) ∧ b8 x (128 * o) ≤ 128 * o ∧ b8 x n ≤ n := by
  refine ⟨b8_mono x h1, ?_, b8_mono x (by omega), ?_, b8_le x _, b8_le x _⟩
  · have := b8_add_le x (128 * o) (n - 128 * o)
    rwa [Nat.add_sub_cancel' h1] at this
  · have := b8_add_le x (n + 1) (128 * (o + 1) - (n + 1))
    rwa [Nat.add_sub_cancel' (by omega)] at this

theorem pos_lt {n : ℕ} (hn : n < 18944) : pos x n < 19456 := by
  have h3 := b8_succ x n
  have h4 := b8_le_split hs (n := n + 1) (by omega)
  have h5 := b8_le x n
  have h6 := b8_add_le x n (18944 - n)
  rw [Nat.add_sub_cancel' (by omega)] at h6
  have h7 : b8 x 18944 = 2368 := hs
  unfold pos b4
  split <;> omega

/-- An 8-bit channel's pick. -/
theorem pick_low {o n e : ℕ} (h1 : 128 * o ≤ n) (h2 : n < 128 * (o + 1)) (hn : n < 18944) (hl : low x n) :
    ¬ ((lane x n + 128 - b4 x (128 * o) % 128) % 128 < b4 x (128 * (o + 1)) - b4 x (128 * o)) ∧
      (if lane x n < b4 x (128 * o) % 128 then e + min ((2560 - b8 x (128 * o)) / 128) 19 else e + (2560 - b8 x (128 * o)) / 128 - 1)
        = slot e (pos x n / 128) ∧ lane x n = pos x n % 128 := by
  obtain ⟨c1, c2, c3, c4, c5, c6⟩ := counts hs h1 h2
  have h3 := b8_succ x n
  rw [if_pos hl] at h3
  have h4 := b8_le_split hs (n := n + 1) (by omega)
  unfold lane pos slot b4
  rw [if_pos hl, if_pos hl]
  generalize b8 x (128 * o) = B at *
  generalize b8 x (128 * (o + 1)) = B' at *
  generalize b8 x (n + 1) = b' at *
  generalize b8 x n = b at *
  subst h3
  rw [if_pos (show (2559 - b) / 128 < 20 by omega)]
  refine ⟨by omega, ?_, by omega⟩
  split
  · rw [Nat.min_eq_left (by omega)]; omega
  · omega

/-- A 4-bit channel's pick. -/
theorem pick_high {o n e : ℕ} (h1 : 128 * o ≤ n) (h2 : n < 128 * (o + 1)) (hl : ¬ low x n) :
    (lane x n + 128 - b4 x (128 * o) % 128) % 128 < b4 x (128 * (o + 1)) - b4 x (128 * o) ∧
      (if lane x n < b4 x (128 * o) % 128 then (b4 x (128 * o) / 128 + 1) % 32 else b4 x (128 * o) / 128 % 32)
        = slot e (pos x n / 128) ∧ lane x n = pos x n % 128 := by
  obtain ⟨c1, c2, c3, c4, c5, c6⟩ := counts hs h1 h2
  have h3 := b8_succ x n
  rw [if_neg hl] at h3
  unfold lane pos slot b4
  rw [if_neg hl, if_neg hl]
  generalize b8 x (128 * o) = B at *
  generalize b8 x (128 * (o + 1)) = B' at *
  generalize b8 x (n + 1) = b' at *
  generalize b8 x n = b at *
  rw [if_neg (show ¬ (2560 + (n - b)) / 128 < 20 by omega)]
  refine ⟨by omega, ?_, by omega⟩
  split <;> omega

omit hs

/-- The grid points whose output block is complete. -/
def good (t : ℕ) : Prop := 6 ≤ t % 38 ∨ (38 ≤ t ∧ t % 38 < 5)

theorem good_eq {t : ℕ} (h : good t) (ht : t < 233) : t = 38 * Sched.em t + 6 + ej t ∧ ej t ≤ 36 ∧ Sched.em t < 6 := by
  unfold good at h
  unfold Sched.em ej
  split <;> first | (split <;> omega) | omega

include hs

/-- The strip a channel of the emitted block needs was computed before, is not overwritten, and is where it is looked for. -/
theorem live {t n : ℕ} (hg : good t) (ht : t < 233) (h1 : 512 * ej t ≤ n) (h2 : n < 512 * ej t + 512) :
    ∃ u, u < t ∧ u < 228 ∧ (∀ v, u < v → v < t → stBase v ≠ stBase u) ∧ u / 38 = Sched.em t ∧ u % 38 = pos x n / 512 ∧
      stBase u + pos x n / 128 % 4 = slot (ebase t) (pos x n / 128) := by
  obtain ⟨e, hj, hM⟩ := good_eq hg ht
  unfold ebase
  generalize Sched.em t = M at *
  generalize ej t = j at *
  have hn : n < 18944 := by omega
  have hP := pos_lt hs hn
  have hq : 2560 ≤ pos x n → j ≤ pos x n / 512 ∧ pos x n / 512 ≤ j + 5 := by
    have h4 := b8_le_split hs (n := n) (by omega)
    have h3 := b8_succ x n
    have h5 := b8_le x n
    have h6 := b8_le_split hs (n := n + 1) (by omega)
    unfold pos b4
    split
    · intro; omega
    · intro; omega
  have hs' : pos x n / 512 < 38 := by omega
  have hd : pos x n / 128 = 4 * (pos x n / 512) + pos x n / 128 % 4 := by omega
  generalize hr : pos x n / 128 % 4 = r at *
  generalize hsd : pos x n / 512 = s at *
  have hr4 : r < 4 := by omega
  have hu1 : (38 * M + s) / 38 = M := by omega
  have hu2 : (38 * M + s) % 38 = s := by omega
  have hq' : 5 ≤ s → j ≤ s ∧ s ≤ j + 5 := fun h => hq (by omega)
  have hb : stBase (38 * M + s) = if s < 5 then 32 + M % 2 * 20 + 4 * s else (s - 5) % 8 * 4 := by
    unfold stBase; rw [hu1, hu2]
  refine ⟨38 * M + s, by omega, by omega, ?_, hu1, hu2, ?_⟩
  · intro v hv1 hv2
    rw [hb]
    unfold stBase
    have hv : v / 38 = M ∨ v / 38 = M + 1 := by omega
    have hvd : v = 38 * (v / 38) + v % 38 := by omega
    have hvm : v % 38 < 38 := by omega
    generalize v % 38 = b at *
    generalize v / 38 = a at *
    subst hvd
    rcases hv with rfl | rfl
    · split <;> split <;> omega
    · split <;> split <;> omega
  · rw [hb, hd]
    unfold slot
    clear hd
    split
    · rw [if_pos (by omega)]; omega
    · rw [if_neg (by omega)]; omega

end Cert.Pick

end
-- ==== Proof.IValue.lean ====
module

public import proofs.«01_k».proof.Proof.Cols
public import proofs.«01_k».proof.Proof.Blocks
public import proofs.«01_k».proof.Proof.Tile
public import proofs.«01_k».proof.Proof.Pick

@[expose] public section

set_option maxRecDepth 16384
set_option Elab.async false

noncomputable section

/-! What each grid point leaves in the ring and in its output block, over the ideal values. -/
namespace Cert.KernelIdeal.Run
open Cert.KernelIdeal Cert.KernelIdeal.Gen Cert.Sched Cert.Prefix Cert.Spec Cert.Pick
open Idealize.ShloMosaic Idealize.ShloMosaic.TcCoe Idealize.ShloMosaic.ValueIdx Idealize.ShloMosaic.Routing

variable (m : (ℓ : Loc nD τ sig) → Buf (Elt Ideal) ℓ) (hk : Checks m)

/-- The product's entry for token `a` and logical weight row `b`. -/
def prodN (a b : ℕ) : EReal :=
  if h : a < 6144 ∧ b < 19456 then
    prod (m ((0 : Dev nD).tc.loc main_arg1)) (m ((0 : Dev nD).tc.loc main_arg2)) (m ((0 : Dev nD).tc.loc main_arg3))
      (m ((0 : Dev nD).tc.loc main_arg4)) ⟨a, h.1⟩ ⟨b, h.2⟩
  else 0

theorem tile_val (c : Dev nD) (t : Fin (cfgA m).N) (h : t.val < 228) (p : Fin 1024) (q : Fin 512) :
    tile m c t (ix2 p q) = prodN m (1024 * (t.val / 38) + p.val) (512 * (t.val % 38) + q.val) := by
  obtain rfl : c = 0 := Subsingleton.elim _ _
  have hcl : cl t.val = t.val := by unfold cl; omega
  have hA : 1024 * (t.val / 38) + p.val < 6144 := by have := p.isLt; omega
  have hB : 512 * (t.val % 38) + q.val < 19456 := by have := q.isLt; omega
  have hkd : kind (512 * (t.val % 38) + q.val) = kd (t.val % 38) := by
    unfold kind kd; have := q.isLt
    refine if_congr ?_ rfl rfl
    omega
  unfold tile prodN
  rw [dif_pos ⟨hA, hB⟩, tile_at]
  unfold prod
  rw [hkd, blk3, blk4]
  simp only [hcl]
  refine congrArg₂ (· * ·) (congrArg₂ (· * ·) (Finset.sum_congr rfl fun k _ => ?_) rfl) ?_
  · rw [blk1, blk0]
    unfold weight
    simp only [hcl]
    refine congrArg₂ (· * ·) rfl (congrArg (fun i => FloatOps.ofBits (F := Ideal) .bf16 (half (m ((0 : Dev nD).tc.loc main_arg1) i) k.val)) ?_)
    refine congrArg₂ ix2 (Fin.ext ?_) rfl
    show 512 * (t.val % 38) + at16 q.val = at16 (512 * (t.val % 38) + q.val)
    unfold at16; omega
  · refine congrArg (m ((0 : Dev nD).tc.loc main_arg4)) ?_
    have := q.isLt
    refine (congrArg₂ (fun a b => ix3 a (0 : Fin 1) b) (Fin.ext ?_) (Fin.ext ?_))
    · show t.val % 38 = (512 * (t.val % 38) + q.val) / 512
      omega
    · show q.val = (512 * (t.val % 38) + q.val) % 512
      omega

/-! ## The ring -/

/-- Every strip computed before point `t` and not overwritten since is in the ring. -/
def Inv (c : Dev nD) (t : ℕ) (Y : S72x512x2x128.Idx → EReal) : Prop :=
  ∀ u, u < t → u < 228 → (∀ v, u < v → v < t → stBase v ≠ stBase u) →
    ∀ (r : Fin 4) (k : Fin 72), k.val = stBase u + r.val → ∀ (row : Fin 512) (h : Fin 2) (l : Fin 128),
      Y (ix4 k row h l) = prodN m (1024 * (u / 38) + (2 * row.val + h.val)) (512 * (u % 38) + (128 * r.val + l.val))

theorem stBase_mod (t : ℕ) : stBase t % 4 = 0 := by unfold stBase; split <;> omega

section Store
variable {F : FTy → Type} [FloatOps F] (m : (ℓ : Loc nD τ sig) → Buf (Elt F) ℓ)

theorem off25_at (t : Fin (cfgA m).N) (r : Fin 4) : k0_off25 (crd m t) (BitVec.ofNat 32 r.val) = ![stBase t.val + r.val, 0, 0, 0] := by
  rw [off25_eq, crd_val]

theorem put_hit (f : S72x512x2x128.Idx → Elt F .bf16) (off : Fin 4 → ℕ) (hi : In off) (w : S1x512x2x128.Idx → Elt F .bf16) (L) (s : ℕ) (e : off = ![s, 0, 0, 0])
    (k : Fin 72) (hk : k.val = s) (row : Fin 512) (h : Fin 2) (l : Fin 128) :
    scM.view.read (Elt F) (scM.view.writes (Elt F) f (⟨Rect.unit (s := S72x512x2x128) off S1x512x2x128.size hi, w⟩ :: L)) (ix4 k row h l) = w (ix4 0 row h l) :=
  View.read_writes_cons_unit_of_mem scM.view f hi w L (ix4 k row h l) (ix4 (0 : Fin 1) row h l) e
    (by intro a; fin_cases a <;> simp [ix4, hk])

theorem put_miss (f : S72x512x2x128.Idx → Elt F .bf16) (off : Fin 4 → ℕ) (hi : In off) (w : S1x512x2x128.Idx → Elt F .bf16) (L) (s : ℕ) (e : off = ![s, 0, 0, 0])
    (y : S72x512x2x128.Idx) (hy : (y 0).val < s ∨ s + 1 ≤ (y 0).val) :
    scM.view.read (Elt F) (scM.view.writes (Elt F) f (⟨Rect.unit (s := S72x512x2x128) off S1x512x2x128.size hi, w⟩ :: L)) y
      = scM.view.read (Elt F) (scM.view.writes (Elt F) f L) y :=
  View.read_writes_cons_unit_of_not_mem scM.view f hi w L y e 0 hy

/-- The stored strip is read back. -/
theorem store_hit (c : Dev nD) (t : Fin (cfgA m).N) (hc) (T : S1024x512.Idx → Elt F .bf16) (Y : S72x512x2x128.Idx → Elt F .bf16)
    (r : Fin 4) (k : Fin 72) (hk : k.val = stBase t.val + r.val) (row : Fin 512) (h : Fin 2) (l : Fin 128) :
    scM.view.read (Elt F) (scM.view.writes (Elt F) Y (tiles m c t hc T)) (ix4 k row h l)
      = T (ix2 ⟨2 * row.val + h.val, by omega⟩ ⟨128 * r.val + l.val, by omega⟩) := by
  have hn : ∀ s : ℕ, r.val < s → (((ix4 k row h l : S72x512x2x128.Idx) 0).val < stBase t.val + s ∨ stBase t.val + s + 1 ≤ ((ix4 k row h l : S72x512x2x128.Idx) 0).val) := by
    intro s hs; left; show k.val < stBase t.val + s; omega
  have hr : r = 0 ∨ r = 1 ∨ r = 2 ∨ r = 3 := by omega
  rcases hr with rfl | rfl | rfl | rfl
  · exact (put_miss Y _ _ _ _ _ (off25_at m t 3) _ (hn 3 (by decide))).trans <| (put_miss Y _ _ _ _ _ (off25_at m t 2) _ (hn 2 (by decide))).trans <|
      (put_miss Y _ _ _ _ _ (off25_at m t 1) _ (hn 1 (by decide))).trans <| (put_hit Y _ _ _ _ _ (off25_at m t 0) k hk row h l).trans <|
      ring_at 0 _ T (by decide) row h l
  · exact (put_miss Y _ _ _ _ _ (off25_at m t 3) _ (hn 3 (by decide))).trans <| (put_miss Y _ _ _ _ _ (off25_at m t 2) _ (hn 2 (by decide))).trans <|
      (put_hit Y _ _ _ _ _ (off25_at m t 1) k hk row h l).trans <| ring_at 128 _ T (by decide) row h l
  · exact (put_miss Y _ _ _ _ _ (off25_at m t 3) _ (hn 3 (by decide))).trans <|
      (put_hit Y _ _ _ _ _ (off25_at m t 2) k hk row h l).trans <| ring_at 256 _ T (by decide) row h l
  · exact (put_hit Y _ _ _ _ _ (off25_at m t 3) k hk row h l).trans <| ring_at 384 _ T (by decide) row h l

/-- Other slots keep their contents. -/
theorem store_miss (c : Dev nD) (t : Fin (cfgA m).N) (hc) (T : S1024x512.Idx → Elt F .bf16) (Y : S72x512x2x128.Idx → Elt F .bf16)
    (y : S72x512x2x128.Idx) (hy : (y 0).val < stBase t.val ∨ stBase t.val + 4 ≤ (y 0).val) :
    scM.view.read (Elt F) (scM.view.writes (Elt F) Y (tiles m c t hc T)) y = Y y := by
  have hn : ∀ s : Fin 4, ((y 0).val < stBase t.val + s.val ∨ stBase t.val + s.val + 1 ≤ (y 0).val) := fun s => by have := s.isLt; omega
  exact (put_miss Y _ _ _ _ _ (off25_at m t 3) _ (hn 3)).trans <| (put_miss Y _ _ _ _ _ (off25_at m t 2) _ (hn 2)).trans <|
    (put_miss Y _ _ _ _ _ (off25_at m t 1) _ (hn 1)).trans <| (put_miss Y _ _ _ _ _ (off25_at m t 0) _ (hn 0)).trans rfl

end Store

theorem inv_store (c : Dev nD) (t : Fin (cfgA m).N) (Y : S72x512x2x128.Idx → EReal) (hc) (hY : Inv m c t.val Y) :
    Inv m c (t.val + 1) (scM.view.read (Elt Ideal) (scM.view.writes (Elt Ideal) Y (tiles m c t hc (tile m c t)))) := by
  have ht : t.val < 228 := by have := (cond1_iff (crd m t)).1 hc; rwa [crd_val] at this
  intro u hu hu' hv r k hkr row h l
  by_cases hut : u = t.val
  · subst hut
    refine (store_hit m c t hc _ Y r k hkr row h l).trans (tile_val m c t ht _ _)
  · have hne := hv t.val (by omega) (by omega)
    have h1 := stBase_mod u
    have h2 := stBase_mod t.val
    refine (store_miss m c t hc _ Y _ ?_).trans (hY u (by omega) hu' (fun v h1 h2 => hv v h1 (by omega)) r k hkr row h l)
    show k.val < _ ∨ _ ≤ k.val
    omega

/-! ## The output block -/

/-- The emitted block of a good point. -/
def Out (c : Dev nD) (t : Fin (cfgA m).N) (X : S1024x512.Idx → EReal) : Prop :=
  good t.val → ∀ (p : Fin 1024) (q : Fin 512),
    X (ix2 p q) = prodN m (1024 * Sched.em t.val + p.val) (pos (ord m) (512 * ej t.val + q.val))

theorem cut_at {F : FTy → Type} [FloatOps F] (Y : S72x512x2x128.Idx → Elt F .bf16) (off : Fin 4 → ℕ) (hi : In off) (s : Fin 72) (e : off = ![s.val, 0, 0, 0])
    (row : Fin 512) (h : Fin 2) (l : Fin 128) : cut Y off hi (ix4 0 row h l) = Y (ix4 s row h l) := by
  subst e
  show Y _ = Y _
  refine congrArg Y (funext fun a => Fin.ext ?_)
  fin_cases a <;> simp [LoadRect.idx, Rect.unit, Rect.toLoadRect, ix4]

theorem lanesOf_at (c : Dev nD) (t : Fin (cfgA m).N) (o : Fin 4) (h) (l : Fin 128) :
    lanesOf m c t o.val h (ix3 0 0 l) = BitVec.ofNat 32 (lane (ord m) (512 * ej t.val + 128 * o.val + l.val)) := by
  unfold lanesOf
  rw [(hs2 m t).readAt_unread]
  refine Eq.trans ?_ ((blk2 m c t 0 o l).trans (lanes_ap _ _ _ _))
  refine congrArg (iblk m c (2 : Fin 6) t) (funext fun a => Fin.ext ?_)
  fin_cases a <;> simp [LoadRect.idx, Rect.unit, Rect.toLoadRect, ix3]

variable (hs : Split (ord m))
include hs

theorem col_val (c : Dev nD) (t : Fin (cfgA m).N) (Y : S72x512x2x128.Idx → EReal) (hY : Inv m c t.val Y) (hg : good t.val)
    (r : Fin 4) (wa wb : BitVec 32) (oa ob oc od : Fin 4 → ℕ) (ha hb hc' hd ho)
    (ea : wa = BitVec.ofNat 32 (b4 (ord m) (128 * (4 * ej t.val + r.val))))
    (eb : wb = BitVec.ofNat 32 (b4 (ord m) (128 * (4 * ej t.val + r.val + 1))))
    (e : oa = ![b4 (ord m) (128 * (4 * ej t.val + r.val)) / 128 % 32, 0, 0, 0]
      ∧ ob = ![(b4 (ord m) (128 * (4 * ej t.val + r.val)) / 128 + 1) % 32, 0, 0, 0]
      ∧ oc = ![ebase t.val + min ((2560 - b8 (ord m) (128 * (4 * ej t.val + r.val))) / 128) 19, 0, 0, 0]
      ∧ od = ![ebase t.val + (2560 - b8 (ord m) (128 * (4 * ej t.val + r.val))) / 128 - 1, 0, 0, 0])
    (p : Fin 1024) (l : Fin 128) :
    colOf m c t Y wa wb oa ob oc od ha hb hc' hd r.val ho (ix2 p l)
      = prodN m (1024 * Sched.em t.val + p.val) (pos (ord m) (512 * ej t.val + (128 * r.val + l.val))) := by
  obtain ⟨e1, e2, e3, e4⟩ := e
  have ht := t_lt m t
  obtain ⟨-, hj, hM⟩ := good_eq hg ht
  have hr := r.isLt
  have hl := l.isLt
  have hp := p.isLt
  set o := 4 * ej t.val + r.val with hoo
  set n := 512 * ej t.val + (128 * r.val + l.val) with hnn
  have h1 : 128 * o ≤ n := by omega
  have h2 : n < 128 * (o + 1) := by omega
  have hn : n < 18944 := by omega
  obtain ⟨u, hu, hu', hv, hm1, hm2, hsl⟩ := live hs (n := n) hg ht (by omega) (by omega)
  have hPl := pos_lt hs hn
  have he : ebase t.val ≤ 52 := by unfold ebase; omega
  have hs72 : slot (ebase t.val) (pos (ord m) n / 128) < 72 := by unfold slot; split <;> omega
  have key : lane (ord m) n = pos (ord m) n % 128 → Y (ix4 ⟨slot (ebase t.val) (pos (ord m) n / 128), hs72⟩ ⟨p.val / 2, by omega⟩ ⟨p.val % 2, by omega⟩
      ⟨lane (ord m) n, lane_lt _ _⟩) = prodN m (1024 * Sched.em t.val + p.val) (pos (ord m) n) := by
    intro hln
    refine (hY u hu hu' hv ⟨pos (ord m) n / 128 % 4, by omega⟩ _ hsl.symm _ _ _).trans ?_
    rw [hm1, hm2]
    refine congrArg₂ (prodN m) ?_ ?_
    · show 1024 * Sched.em t.val + (2 * (p.val / 2) + p.val % 2) = _
      omega
    · show 512 * (pos (ord m) n / 512) + (128 * (pos (ord m) n / 128 % 4) + lane (ord m) n) = _
      omega
  obtain ⟨c1, c2, c3, c4, c5, c6⟩ := counts hs h1 h2
  have c7 := b8_add_b4 (ord m) (128 * o)
  have c8 := b8_add_b4 (ord m) (128 * (o + 1))
  have c9 := b8_le (ord m) (128 * (o + 1))
  have c10 := b8_succ (ord m) n
  have c11 := b4_mono (x := ord m) (a := 128 * o) (b := 128 * (o + 1)) (by omega)
  have c12 : b8 (ord m) (128 * o) ≤ b8 (ord m) (128 * (o + 1)) := b8_mono _ (by omega)
  unfold colOf
  rw [ea, eb]
  have es : Scalar.subi (BitVec.ofNat 32 (b4 (ord m) (128 * (o + 1)))) (BitVec.ofNat 32 (b4 (ord m) (128 * o)))
      = BitVec.ofNat 32 (b4 (ord m) (128 * (o + 1)) - b4 (ord m) (128 * o)) := ofNat32_sub c11
  have eand : Scalar.andi (BitVec.ofNat 32 (b4 (ord m) (128 * o))) 127#32 = BitVec.ofNat 32 (b4 (ord m) (128 * o) % 128) := and127 _
  have hix := lanesOf_at m c t r ho l
  rw [show 512 * ej t.val + 128 * r.val + l.val = n by omega] at hix
  rw [es, eand, part_at _ _ _ (by omega) (by omega) (lane_lt _ _) _ _ _ _ _ p l hix]
  by_cases hlow : low (ord m) n
  · obtain ⟨q1, q2, q3⟩ := pick_low hs (e := ebase t.val) h1 h2 hn hlow
    rw [if_neg q1]
    rw [← key q3]
    split at q2
    · rw [if_pos (by assumption)]; exact cut_at _ _ _ _ (by rw [e3, q2]) _ _ _
    · rw [if_neg (by assumption)]; exact cut_at _ _ _ _ (by rw [e4, q2]) _ _ _
  · obtain ⟨q1, q2, q3⟩ := pick_high hs (e := ebase t.val) h1 h2 hlow
    rw [if_pos q1]
    rw [← key q3]
    split at q2
    · rw [if_pos (by assumption)]; exact cut_at _ _ _ _ (by rw [e2, q2]) _ _ _
    · rw [if_neg (by assumption)]; exact cut_at _ _ _ _ (by rw [e1, q2]) _ _ _

end Cert.KernelIdeal.Run
-- ==== Proof.IOut.lean ====
module

public import proofs.«01_k».proof.Proof.IValue
public import Idealize.ShloMosaic.Lib.Pipeline.Kit

@[expose] public section

set_option maxRecDepth 16384
set_option Elab.async false

noncomputable section

/-! The output array of the matmul over the ideal values. -/
namespace Cert.KernelIdeal.Run
open Cert.KernelIdeal Cert.KernelIdeal.Gen Cert.Sched Cert.Prefix Cert.Spec Cert.Pick
open Idealize.ShloMosaic Idealize.ShloMosaic.TcCoe Idealize.ShloMosaic.ValueIdx
open Idealize.ShloMosaic.Pipeline (Dat RDat Cfg Window)
open Idealize.SL.Sem

section Emit
variable {F : FTy → Type} [FloatOps F]

theorem emit_hit {v : View sig .tc .vmem S1024x512 .bf16} (f) (o : ℕ) (hi) (w : S1024x128.Idx → Elt F .bf16) (L) (p : Fin 1024) (q : Fin 512) (l : Fin 128) (e : q.val = o + l.val) :
    v.read (Elt F) (v.writes (Elt F) f (⟨Rect.unit (s := S1024x512) ![0, o] S1024x128.size hi, w⟩ :: L)) (ix2 p q) = w (ix2 p l) :=
  View.read_writes_cons_unit_of_mem v f hi w L (ix2 p q) (ix2 p l) rfl (by intro a; fin_cases a <;> simp [ix2, e])

theorem emit_miss {v : View sig .tc .vmem S1024x512 .bf16} (f) (o : ℕ) (hi) (w : S1024x128.Idx → Elt F .bf16) (L) (p : Fin 1024) (q : Fin 512) (e : q.val < o) :
    v.read (Elt F) (v.writes (Elt F) f (⟨Rect.unit (s := S1024x512) ![0, o] S1024x128.size hi, w⟩ :: L)) (ix2 p q) = v.read (Elt F) (v.writes (Elt F) f L) (ix2 p q) :=
  View.read_writes_cons_unit_of_not_mem v f hi w L (ix2 p q) rfl 1 (Or.inl e)

end Emit

variable (m : (ℓ : Loc nD τ sig) → Buf (Elt Ideal) ℓ) (hk : Checks m) (hs : Split (ord m))
include hs

theorem out_cols (c : Dev nD) (t : Fin (cfgA m).N) (Y : S72x512x2x128.Idx → EReal) (f) (hY : Inv m c t.val Y) :
    Out m c t ((ms5 m t).view.read (Elt Ideal) ((ms5 m t).view.writes (Elt Ideal) f (cols m hk c t Y))) := by
  intro hg p q
  have ht := t_lt m t
  obtain ⟨-, hj, hM⟩ := good_eq hg ht
  have hq := q.isLt
  have W : ∀ (o : ℕ) (off : Fin 1 → ℕ) (h), o < 149 → off = ![o] → word (F := Ideal) (tab m) off h = BitVec.ofNat 32 (b4 (ord m) (128 * o)) :=
    fun o off h ho he => word_eq m hs o off h ho he
  have s0 := slots0 m hs (crd m t)
  have s1 := slots1 m hs (crd m t)
  have s2 := slots2 m hs (crd m t)
  have s3 := slots3 m hs (crd m t)
  have f1 := off1_eq (crd m t)
  have f2 := off2_eq (crd m t)
  have f7 := off7_eq (crd m t)
  have f8 := off8_eq (crd m t)
  have f13 := off13_eq (crd m t)
  have f14 := off14_eq (crd m t)
  have f19 := off19_eq (crd m t)
  have f20 := off20_eq (crd m t)
  rw [crd_val] at s0 s1 s2 s3 f1 f2 f7 f8 f13 f14 f19 f20
  by_cases h3 : 384 ≤ q.val
  · refine (emit_hit f 384 _ _ _ p q ⟨q.val - 384, by omega⟩ (by show q.val = 384 + (q.val - 384); omega)).trans ?_
    refine (col_val m hs c t Y hY hg 3 _ _ _ _ _ _ _ _ _ _ _ (W _ _ _ (by show 4 * ej t.val + 3 < 149; omega) f19) (W _ _ _ (by show 4 * ej t.val + 4 < 149; omega) f20) s3 p _).trans ?_
    refine congrArg (fun n => prodN m (1024 * Sched.em t.val + p.val) (pos (ord m) n)) ?_
    show 512 * ej t.val + (128 * 3 + (q.val - 384)) = _
    omega
  refine (emit_miss f 384 _ _ _ p q (by omega)).trans ?_
  by_cases h2 : 256 ≤ q.val
  · refine (emit_hit f 256 _ _ _ p q ⟨q.val - 256, by omega⟩ (by show q.val = 256 + (q.val - 256); omega)).trans ?_
    refine (col_val m hs c t Y hY hg 2 _ _ _ _ _ _ _ _ _ _ _ (W _ _ _ (by show 4 * ej t.val + 2 < 149; omega) f13) (W _ _ _ (by show 4 * ej t.val + 3 < 149; omega) f14) s2 p _).trans ?_
    refine congrArg (fun n => prodN m (1024 * Sched.em t.val + p.val) (pos (ord m) n)) ?_
    show 512 * ej t.val + (128 * 2 + (q.val - 256)) = _
    omega
  refine (emit_miss f 256 _ _ _ p q (by omega)).trans ?_
  by_cases h1 : 128 ≤ q.val
  · refine (emit_hit f 128 _ _ _ p q ⟨q.val - 128, by omega⟩ (by show q.val = 128 + (q.val - 128); omega)).trans ?_
    refine (col_val m hs c t Y hY hg 1 _ _ _ _ _ _ _ _ _ _ _ (W _ _ _ (by show 4 * ej t.val + 1 < 149; omega) f7) (W _ _ _ (by show 4 * ej t.val + 2 < 149; omega) f8) s1 p _).trans ?_
    refine congrArg (fun n => prodN m (1024 * Sched.em t.val + p.val) (pos (ord m) n)) ?_
    show 512 * ej t.val + (128 * 1 + (q.val - 128)) = _
    omega
  refine (emit_miss f 128 _ _ _ p q (by omega)).trans ?_
  refine (emit_hit f 0 _ _ _ p q ⟨q.val, by omega⟩ (by show q.val = 0 + q.val; omega)).trans ?_
  refine (col_val m hs c t Y hY hg 0 _ _ _ _ _ _ _ _ _ _ _ (W _ _ _ (by show 4 * ej t.val + 0 < 149; omega) f1) (W _ _ _ (by show 4 * ej t.val + 1 < 149; omega) f2) s0 p _).trans ?_
  refine congrArg (fun n => prodN m (1024 * Sched.em t.val + p.val) (pos (ord m) n)) ?_
  show 512 * ej t.val + (128 * 0 + q.val) = _
  omega

omit hs in
theorem read_ring (g : S72x512x2x128.Idx → EReal) : scM.view.read (Elt Ideal) g = g := rfl

theorem step_invA (c : Dev nD) (t : Fin (cfgA m).N) (Y) (hc) (hY : Inv m c t.val Y) : Inv m c (t.val + 1) (atA m hk c t Y hc).2.1 :=
  Eq.mpr (congrArg (Inv m c (t.val + 1)) ((scratchA m hk c t Y hc).trans
    (congrArg (fun T => scM.view.writes (Elt Ideal) Y (tiles m c t hc T)) (tileRead_eq m c t))))
    (Eq.mp (congrArg (Inv m c (t.val + 1)) (read_ring _)) (inv_store m c t Y hc hY))

theorem step_outA (c : Dev nD) (t : Fin (cfgA m).N) (Y) (hc) (f) (hY : Inv m c t.val Y) :
    Out m c t ((ms5 m t).view.read (Elt Ideal) ((ms5 m t).view.writes (Elt Ideal) f (atA m hk c t Y hc).1)) :=
  Eq.mpr (congrArg (fun L => Out m c t ((ms5 m t).view.read (Elt Ideal) ((ms5 m t).view.writes (Elt Ideal) f L))) (colsA m hk c t Y hc))
    (out_cols m hk hs c t Y f hY)

theorem step_invB (c : Dev nD) (t : Fin (cfgA m).N) (Y) (hc : ¬ k0_cond1 (crd m t) = 1#1) (hY : Inv m c t.val Y) : Inv m c (t.val + 1) (atB m hk c t Y hc).2.1 := by
  have ht : ¬ t.val < 228 := fun h => hc ((cond1_iff (crd m t)).2 (by rw [crd_val]; exact h))
  have h : Inv m c (t.val + 1) Y := fun u hu hu' hv => hY u (by omega) hu' (fun v h1 h2 => hv v h1 (by omega))
  exact Eq.mpr (congrArg (Inv m c (t.val + 1)) (scratchB m hk c t Y hc)) h

theorem step_outB (c : Dev nD) (t : Fin (cfgA m).N) (Y) (hc) (f) (hY : Inv m c t.val Y) :
    Out m c t ((ms5 m t).view.read (Elt Ideal) ((ms5 m t).view.writes (Elt Ideal) f (atB m hk c t Y hc).1)) :=
  Eq.mpr (congrArg (fun L => Out m c t ((ms5 m t).view.read (Elt Ideal) ((ms5 m t).view.writes (Elt Ideal) f L))) (colsB m hk c t Y hc))
    (out_cols m hk hs c t Y f hY)

theorem steps : Steps m hk (Inv m) (Out m) where
  zero c Y := fun u hu => absurd hu (Nat.not_lt_zero _)
  invA := step_invA m hk hs
  outA := step_outA m hk hs
  invB := step_invB m hk hs
  outB := step_outB m hk hs

omit hs
theorem flush_iff (t : Fin (cfgA m).N) : ((cfgA m).win (5 : Fin 6)).flush t = true ↔ good t.val := by
  rw [Window.flush_eq_flushOf]
  show (true && (decide (t.val + 1 = 233) || decide (∃ h : t.val + 1 < 233, cc0_transform_5 (grid0.coords (⟨t.val + 1, h⟩ : Fin 233)) ≠ cc0_transform_5 (crd m t)))) = true ↔ _
  have ht := t_lt m t
  rw [Bool.true_and, Bool.or_eq_true, decide_eq_true_eq, decide_eq_true_eq, tr5_eq (crd m t), crd_val]
  have e : ∀ h : t.val + 1 < 233, cc0_transform_5 (grid0.coords (⟨t.val + 1, h⟩ : Fin 233)) = ![Sched.em (t.val + 1), ej (t.val + 1)] := by
    intro h
    have : (grid0.coords (⟨t.val + 1, h⟩ : Fin 233) 0).val = t.val + 1 := by
      show (t.val + 1) / 1 % 233 = _
      omega
    rw [tr5_eq]
    exact congrArg (fun n => ![Sched.em n, ej n]) this
  have e2 : (∃ h : t.val + 1 < 233, cc0_transform_5 (grid0.coords (⟨t.val + 1, h⟩ : Fin 233)) ≠ ![Sched.em t.val, ej t.val])
      ↔ t.val + 1 < 233 ∧ (Sched.em (t.val + 1) ≠ Sched.em t.val ∨ ej (t.val + 1) ≠ ej t.val) := by
    constructor
    · rintro ⟨h, hne⟩
      rw [e h] at hne
      refine ⟨h, ?_⟩
      by_contra hh
      simp only [not_or, not_not] at hh
      exact hne (by rw [hh.1, hh.2])
    · rintro ⟨h, hne⟩
      refine ⟨h, fun hh => ?_⟩
      rw [e h] at hh
      have a0 := congrFun hh 0
      have a1 := congrFun hh 1
      exact hne.elim (fun hn => hn a0) (fun hn => hn a1)
  rw [e2]
  unfold good Sched.em ej
  generalize t.val = g at ht
  clear e e2
  revert g
  intro g ht
  constructor
  · intro h
    rcases h with h | ⟨h, h'⟩
    · omega
    · by_contra hh
      rcases h' with h' | h' <;> revert h' <;> repeat' split
      all_goals omega
  · intro h
    by_cases hl : g + 1 = 233
    · exact Or.inl hl
    · refine Or.inr ⟨by omega, ?_⟩
      by_contra hh
      simp only [not_or, not_not] at hh
      obtain ⟨hh1, hh2⟩ := hh
      revert hh1 hh2
      repeat' split
      all_goals omega

/-- The matmul's result: token `i 0`, output channel `i 1`. -/
def result (i : S6144x18944.Idx) : EReal := prodN m (i 0).val (pos (ord m) (i 1).val)

theorem emb5_0 (t : Fin (cfgA m).N) (p : Fin 1024) (q : Fin 512) :
    ((((cfgA m).win (5 : Fin 6)).blk t).view.emb (ix2 p q) (0 : Fin 2)).val = 1024 * Sched.em t.val + p.val := by
  refine (Window.rect_emb_val ((cfgA m).win (5 : Fin 6)) t (ix2 p q) (0 : Fin 2) rfl).trans ?_
  show cc0_transform_5 (crd m t) (0 : Fin 2) * S1024x512.size (0 : Fin 2) + _ = _
  rw [tr5_eq, crd_val]
  exact congrArg (· + p.val) (Nat.mul_comm _ _)

theorem emb5_1 (t : Fin (cfgA m).N) (p : Fin 1024) (q : Fin 512) :
    ((((cfgA m).win (5 : Fin 6)).blk t).view.emb (ix2 p q) (1 : Fin 2)).val = 512 * ej t.val + q.val := by
  refine (Window.rect_emb_val ((cfgA m).win (5 : Fin 6)) t (ix2 p q) (1 : Fin 2) rfl).trans ?_
  show cc0_transform_5 (crd m t) (1 : Fin 2) * S1024x512.size (1 : Fin 2) + _ = _
  rw [tr5_eq, crd_val]
  exact congrArg (· + q.val) (Nat.mul_comm _ _)

variable {m} in
theorem array_eq {r} (h : RDat.FramePost (cfgA m) (rdat m (Inv m) (Out m)) (V m) r) (c : Dev nD) :
    r.2.mem ((c : Thread nD τ).loc main_v17) = result m := by
  obtain ⟨after, hL, hA⟩ := h.exists_exact c
  refine (hA (5 : Fin 6)).trans (((rdat m (Inv m) (Out m) c).withAfter after).arrAt_eq_of_emb (5 : Fin 6) (result m) (fun t hf y => ?_) fun i => ?_)
  · have hg := (flush_iff m t).1 hf
    have ho : Out m c t (after (5 : Fin 6) t) := Dat.toRRel_leaves (dat := dat m (Inv m) c) (Rl := Rl m (Out m) c) (fgt := marked) rfl (hL (5 : Fin 6) t hf)
    have ey : ∃ (p : Fin 1024) (q : Fin 512), y = ix2 p q := ⟨y 0, y 1, funext fun a => by fin_cases a <;> rfl⟩
    obtain ⟨p, q, rfl⟩ := ey
    refine (ho hg p q).trans ?_
    unfold result
    exact congrArg₂ (fun a b => prodN m a (pos (ord m) b)) (emb5_0 m t p q).symm (emb5_1 m t p q).symm
  · have e0 : ((i : S6144x18944.Idx) 0).val < 6144 := ((i : S6144x18944.Idx) 0).isLt
    have e1 : ((i : S6144x18944.Idx) 1).val < 18944 := ((i : S6144x18944.Idx) 1).isLt
    generalize ha : ((i : S6144x18944.Idx) 0).val = a at e0
    generalize hb : ((i : S6144x18944.Idx) 1).val = b at e1
    have hT : 38 * (a / 1024) + 6 + b / 512 < 233 := by omega
    let t : Fin (cfgA m).N := ⟨38 * (a / 1024) + 6 + b / 512, hT⟩
    have hM : Sched.em t.val = a / 1024 := by
      show Sched.em (38 * (a / 1024) + 6 + b / 512) = _
      unfold Sched.em; split <;> omega
    have hJ : ej t.val = b / 512 := by
      show ej (38 * (a / 1024) + 6 + b / 512) = _
      unfold ej; split <;> (try split) <;> omega
    have hgood : good t.val := by
      show good (38 * (a / 1024) + 6 + b / 512)
      unfold good; omega
    refine ⟨t, (flush_iff m t).2 hgood, ?_⟩
    refine (Window.emb_mem_blk_iff ((cfgA m).win (5 : Fin 6)) t i rfl).2 fun x => ?_
    show cc0_transform_5 (crd m t) x * S1024x512.size x ≤ ((i : S6144x18944.Idx) x).val ∧ ((i : S6144x18944.Idx) x).val < cc0_transform_5 (crd m t) x * S1024x512.size x + S1024x512.size x
    rw [tr5_eq, crd_val, hM, hJ]
    fin_cases x
    · show a / 1024 * 1024 ≤ ((i : S6144x18944.Idx) 0).val ∧ ((i : S6144x18944.Idx) 0).val < a / 1024 * 1024 + 1024
      rw [ha]; omega
    · show b / 512 * 512 ≤ ((i : S6144x18944.Idx) 1).val ∧ ((i : S6144x18944.Idx) 1).val < b / 512 * 512 + 512
      rw [hb]; omega

end Cert.KernelIdeal.Run
-- ==== Proof.Ref.lean ====
module

public import proofs.«01_k».proof.Proof.Pick
public import proofs.«01_k».proof.Proof.Gen.ReferenceIdeal.Read

@[expose] public section

set_option maxRecDepth 16384
set_option Elab.async false

noncomputable section

/-! The reference's result at an index: the product of the token with the weight row of the channel. -/
namespace Cert.ReferenceIdeal.Ref
open Cert.ReferenceIdeal Cert.ReferenceIdeal.Gen Cert.ReferenceIdeal.Read Idealize.ShloMosaic Idealize.ShloMosaic.TcCoe
  Idealize.ShloMosaic.ValueIdx Idealize.ShloMosaic.Routing Idealize.ShloMosaic.WordCmp Cert.Prefix Cert.Spec

/-- Columns of a table picked by a vector of column numbers: where the vector holds the column number `b`, the result holds column `b`. -/
theorem gather_col {α : Type} {B nb n : ℕ} (d : GatherDims (⟨2, ![B, nb]⟩ : Shape) (⟨2, ![n, 1]⟩ : Shape) (⟨2, ![B, n]⟩ : Shape))
    (hoff : d.offsetDims = [0]) (hcoll : d.collapsedSliceDims = [1]) (hob : d.operandBatchingDims = [])
    (hsim : d.startIndexMap = [1]) (hivd : d.indexVectorDim = 1) (x : (⟨2, ![B, nb]⟩ : Shape).Idx → α)
    (idx : IVec (⟨2, ![n, 1]⟩ : Shape) 32) (y : Fin B) (c : Fin n) (b : Fin nb)
    (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have hbN : ∀ a', a' ∉ d.operandBatchingDims := fun a' => by rw [hob]; exact List.not_mem_nil
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  have hne : ∀ l : List (Fin 2), l = [1] → (0 : Fin 2) ∉ l := fun l h => by subst h; decide
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega
  | ⟨0, _⟩ =>
    have hk : (0 : Fin 2) ∈ d.sKept := (d.mem_sKept 0).2 ⟨hne _ hcoll, hbN 0⟩
    have hm : (0 : Fin 2) ∉ d.startIndexMap := hne _ hsim
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk0 _ (List.getElem_mem _))

variable (x0 : S18944.Idx → BitVec 32) (x1 : S19456x1792.Idx → BitVec 32) (x2 : S2x6144x3584.Idx → EReal)
  (x3 : S2x6144x1.Idx → EReal) (x4 : S38x1x512.Idx → EReal)

/-- The word of logical row `q` at word column `k`. -/
theorem word (q : Fin 19456) (k : Fin 1792) :
    val_main_v2 (F := Ideal) x1 (ix2 q k) = x1 (ix2 ⟨at16 q.val, at16_lt _ 1216 rfl q.isLt⟩ k) := by
  rw [val_main_v2_apply, val_main_v1_apply, val_main_v0_apply]
  refine congrArg x1 (funext fun a => Fin.ext ?_)
  have hq := q.isLt
  have hk := k.isLt
  match a with
  | ⟨0, _⟩ =>
    show ((((q.val * 1792 + k.val) / 28672 * 2 + (q.val * 1792 + k.val) / 1792 % 2) * 8 + (q.val * 1792 + k.val) / 3584 % 8) * 1792
      + (q.val * 1792 + k.val) % 1792) / 1792 = q.val / 16 * 16 + q.val % 2 * 8 + q.val % 16 / 2
    omega
  | ⟨1, _⟩ =>
    show ((((q.val * 1792 + k.val) / 28672 * 2 + (q.val * 1792 + k.val) / 1792 % 2) * 8 + (q.val * 1792 + k.val) / 3584 % 8) * 1792
      + (q.val * 1792 + k.val) % 1792) % 1792 = k.val
    omega

theorem low16 (v : BitVec 32) : (v &&& 65535#32).setWidth 16 = v.extractLsb' 0 16 := by
  apply BitVec.eq_of_getLsbD_eq
  intro i hi
  rw [BitVec.getLsbD_setWidth, BitVec.getLsbD_and, BitVec.getLsbD_extractLsb', Nat.zero_add]
  have : (65535#32).getLsbD i = true := by
    have h : ∀ i : Fin 16, (65535#32).getLsbD i.val = true := by decide
    exact h ⟨i, hi⟩
  rw [this, Bool.and_true]

theorem high16 (v : BitVec 32) : (v >>> 16).setWidth 16 = v.extractLsb' 16 16 := by
  apply BitVec.eq_of_getLsbD_eq
  intro i hi
  rw [BitVec.getLsbD_setWidth, BitVec.getLsbD_ushiftRight, BitVec.getLsbD_extractLsb']

/-- The decoded weight. -/
theorem weights (q : Fin 19456) (k : Fin 3584) : val_main_v11 (F := Ideal) x1 (ix2 q k) = weight x1 q k := by
  have hk := k.isLt
  unfold val_main_v11
  by_cases h : k.val < 1792
  · refine (concatenate_pair_apply_left (t := S19456x3584) (s₁ := S19456x1792) (s₂ := S19456x1792) 1 _ _ _ _ rfl (ix2 q ⟨k.val, h⟩) ?_).trans ?_
    · intro b; match b with | ⟨0, _⟩ => rfl | ⟨1, _⟩ => rfl
    · rw [val_main_v6_apply, val_main_v5_apply, val_main_v4_apply, word, val_main_v3_apply, val_main_c_apply]
      unfold weight half
      rw [if_pos h]
      refine congrArg _ ((low16 _).trans (congrArg (fun j => BitVec.extractLsb' 0 16 (x1 (ix2 _ j))) (Fin.ext ?_)))
      show k.val = k.val % 1792; omega
  · refine (concatenate_pair_apply_right (t := S19456x3584) (s₁ := S19456x1792) (s₂ := S19456x1792) 1 _ _ _ _ rfl rfl (ix2 q ⟨k.val - 1792, by omega⟩) ?_ ?_).trans ?_
    · intro b; match b with | ⟨0, _⟩ => intro _; rfl | ⟨1, _⟩ => intro h'; exact absurd rfl h'
    · show k.val - 1792 + 1792 = k.val; omega
    · rw [val_main_v10_apply, val_main_v9_apply, val_main_v8_apply, word, val_main_v7_apply, val_main_c_0_apply]
      unfold weight half
      rw [if_neg h]
      refine congrArg _ ((high16 _).trans (congrArg (fun j => BitVec.extractLsb' 16 16 (x1 (ix2 _ j))) (Fin.ext ?_)))
      show k.val - 1792 = k.val % 1792; omega

/-- The product with the rows of the first kind. -/
theorem lowRows (t : Fin 6144) (p : Fin 2560) :
    val_main_v25 (F := Ideal) x1 x2 x3 x4 (ix2 t p) = prod x1 x2 x3 x4 t ⟨p.val, by omega⟩ := by
  have hp := p.isLt
  have ht := t.isLt
  have hx : ∀ k : Fin 3584, val_main_v16 (F := Ideal) x2 (lidx_main_v17 (ix2 t p) k) = x2 (ix3 (kind p.val) t k) := fun k => by
    rw [val_main_v16_apply, val_main_v15_apply]
    refine congrArg x2 (funext fun a => Fin.ext ?_)
    have hk := k.isLt
    match a with
    | ⟨0, _⟩ => show 0 = (kind p.val).val; rw [kind, if_pos hp]; rfl
    | ⟨1, _⟩ => show (t.val * 3584 + k.val) / 3584 % 6144 = t.val; omega
    | ⟨2, _⟩ => show (t.val * 3584 + k.val) % 3584 = k.val; omega
  have hw : ∀ k : Fin 3584, val_main_v13 (F := Ideal) x1 (ridx_main_v17 (ix2 t p) k) = weight x1 ⟨p.val, by omega⟩ k := fun k => by
    rw [val_main_v13_apply]
    refine (congrArg (val_main_v11 (F := Ideal) x1) (funext fun a => Fin.ext ?_)).trans (weights x1 ⟨p.val, by omega⟩ k)
    match a with
    | ⟨0, _⟩ => rfl
    | ⟨1, _⟩ => rfl
  have hs : val_main_v20 (F := Ideal) x3 (ix2 t p) = x3 (ix3 (kind p.val) t 0) := by
    rw [val_main_v20_apply, val_main_v19_apply, val_main_v18_apply]
    refine congrArg x3 (funext fun a => Fin.ext ?_)
    match a with
    | ⟨0, _⟩ => show 0 = (kind p.val).val; rw [kind, if_pos hp]; rfl
    | ⟨1, _⟩ => show (t.val * 1 + 0) / 1 % 6144 = t.val; omega
    | ⟨2, _⟩ => rfl
  have hz : val_main_v23 (F := Ideal) x4 (ix2 t p) = x4 (ix3 ⟨p.val / 512, by omega⟩ 0 ⟨p.val % 512, Nat.mod_lt _ (by decide)⟩) := by
    rw [val_main_v23_apply, val_main_v22_apply, val_main_v14_apply, val_main_v12_apply]
    refine congrArg x4 (funext fun a => Fin.ext ?_)
    match a with
    | ⟨0, _⟩ => rfl
    | ⟨1, _⟩ => rfl
    | ⟨2, _⟩ => rfl
  show val_main_v17 (F := Ideal) x1 x2 (ix2 t p) * val_main_v20 (F := Ideal) x3 (ix2 t p) * val_main_v23 (F := Ideal) x4 (ix2 t p) = _
  rw [val_main_v17_apply, hs, hz]
  unfold prod
  rw [Finset.sum_congr rfl fun k _ => by rw [hx, hw]]

/-- The product with the rows of the second kind. -/
theorem highRows (t : Fin 6144) (p : Fin 16896) :
    val_main_v38 (F := Ideal) x1 x2 x3 x4 (ix2 t p) = prod x1 x2 x3 x4 t ⟨2560 + p.val, by omega⟩ := by
  have hp := p.isLt
  have ht := t.isLt
  have hn : ¬ 2560 + p.val < 2560 := by omega
  have hx : ∀ k : Fin 3584, val_main_v29 (F := Ideal) x2 (lidx_main_v30 (ix2 t p) k) = x2 (ix3 (kind (2560 + p.val)) t k) := fun k => by
    rw [val_main_v29_apply, val_main_v28_apply]
    refine congrArg x2 (funext fun a => Fin.ext ?_)
    have hk := k.isLt
    match a with
    | ⟨0, _⟩ => show 1 + 0 = (kind (2560 + p.val)).val; rw [kind, if_neg hn]; rfl
    | ⟨1, _⟩ => show (t.val * 3584 + k.val) / 3584 % 6144 = t.val; omega
    | ⟨2, _⟩ => show (t.val * 3584 + k.val) % 3584 = k.val; omega
  have hw : ∀ k : Fin 3584, val_main_v26 (F := Ideal) x1 (ridx_main_v30 (ix2 t p) k) = weight x1 ⟨2560 + p.val, by omega⟩ k := fun k => by
    rw [val_main_v26_apply]
    refine (congrArg (val_main_v11 (F := Ideal) x1) (funext fun a => Fin.ext ?_)).trans (weights x1 ⟨2560 + p.val, by omega⟩ k)
    match a with
    | ⟨0, _⟩ => rfl
    | ⟨1, _⟩ => rfl
  have hs : val_main_v33 (F := Ideal) x3 (ix2 t p) = x3 (ix3 (kind (2560 + p.val)) t 0) := by
    rw [val_main_v33_apply, val_main_v32_apply, val_main_v31_apply]
    refine congrArg x3 (funext fun a => Fin.ext ?_)
    match a with
    | ⟨0, _⟩ => show 1 + 0 = (kind (2560 + p.val)).val; rw [kind, if_neg hn]; rfl
    | ⟨1, _⟩ => show (t.val * 1 + 0) / 1 % 6144 = t.val; omega
    | ⟨2, _⟩ => rfl
  have hz : val_main_v36 (F := Ideal) x4 (ix2 t p)
      = x4 (ix3 ⟨(2560 + p.val) / 512, by omega⟩ 0 ⟨(2560 + p.val) % 512, Nat.mod_lt _ (by decide)⟩) := by
    rw [val_main_v36_apply, val_main_v35_apply, val_main_v27_apply, val_main_v12_apply]
    refine congrArg x4 (funext fun a => Fin.ext ?_)
    match a with
    | ⟨0, _⟩ => rfl
    | ⟨1, _⟩ => rfl
    | ⟨2, _⟩ => rfl
  show val_main_v30 (F := Ideal) x1 x2 (ix2 t p) * val_main_v33 (F := Ideal) x3 (ix2 t p) * val_main_v36 (F := Ideal) x4 (ix2 t p) = _
  rw [val_main_v30_apply, hs, hz]
  unfold prod
  rw [Finset.sum_congr rfl fun k _ => by rw [hx, hw]]

/-- The product of token `t` with every weight row. -/
theorem allRows (t : Fin 6144) (p : Fin 19456) :
    val_main_v39 (F := Ideal) x1 x2 x3 x4 (ix2 t p) = prod x1 x2 x3 x4 t p := by
  have hp := p.isLt
  unfold val_main_v39
  by_cases h : p.val < 2560
  · refine (concatenate_pair_apply_left (t := S6144x19456) (s₁ := S6144x2560) (s₂ := S6144x16896) 1 _ _ _ _ rfl (ix2 t ⟨p.val, h⟩) ?_).trans ?_
    · intro b; match b with | ⟨0, _⟩ => rfl | ⟨1, _⟩ => rfl
    · exact lowRows x1 x2 x3 x4 t ⟨p.val, h⟩
  · refine (concatenate_pair_apply_right (t := S6144x19456) (s₁ := S6144x2560) (s₂ := S6144x16896) 1 _ _ _ _ rfl rfl (ix2 t ⟨p.val - 2560, by omega⟩) ?_ ?_).trans ?_
    · intro b; match b with | ⟨0, _⟩ => intro _; rfl | ⟨1, _⟩ => intro h'; exact absurd rfl h'
    · show p.val - 2560 + 2560 = p.val; omega
    · refine (highRows x1 x2 x3 x4 t ⟨p.val - 2560, by omega⟩).trans (congrArg (prod x1 x2 x3 x4 t) (Fin.ext ?_))
      show 2560 + (p.val - 2560) = p.val; omega

theorem before (n : Fin 18944) : val_main_v45 (F := Ideal) x0 (ix1 n) = BitVec.ofNat 32 (b8 x0 n.val) :=
  before8_ap x0 n

variable {x0} in
/-- The weight row the reference takes for channel `n`. -/
theorem taken (hs : Split x0) (n : Fin 18944) : val_main_v52 (F := Ideal) x0 (ix1 n) = BitVec.ofNat 32 (pos x0 n.val) := by
  have h3 := b8_succ x0 n.val
  have h4 := b8_le_split hs (n := n.val + 1) (by omega)
  have hm : val_main_v41 (F := Ideal) x0 (ix1 n) = BitVec.ofBool (decide (low x0 n.val)) := mask_ap x0 n
  rw [val_main_v52_apply, hm, val_main_v47_apply, val_main_v51_apply, val_main_v49_apply, before, val_main_v46_apply, val_main_c_2_apply,
    val_main_v50_apply, val_main_c_3_apply, val_main_v48_apply]
  unfold pos
  by_cases h : low x0 n.val
  · rw [if_pos h, decide_eq_true h]
    exact ofNat32_sub (a := 2559) (by omega)
  · rw [if_neg h, decide_eq_false h]
    refine (congrArg (fun v => 2560#32 + v) (ofNat32_sub (b8_le x0 n.val))).trans ?_
    exact BitVec.ofNat_add_ofNat _ _

variable {x0} in
/-- The reference's result. -/
theorem value (hs : Split x0) (t : Fin 6144) (n : Fin 18944) :
    val_main_v53 (F := Ideal) x0 x1 x2 x3 x4 (ix2 t n) = prod x1 x2 x3 x4 t ⟨pos x0 n.val, Cert.Pick.pos_lt hs n.isLt⟩ := by
  unfold val_main_v53
  refine (gather_col _ rfl rfl rfl rfl rfl _ _ t n ⟨pos x0 n.val, Cert.Pick.pos_lt hs n.isLt⟩ ?_ (by decide)).trans (allRows x1 x2 x3 x4 t _)
  refine (val_main_call2_v0_apply (F := Ideal) x0 _).trans ?_
  exact (congrArg (val_main_v52 (F := Ideal) x0)
    (show idx_main_call2_v0 (ix2 n 0) = ix1 n from funext fun a => Fin.ext (match a with | ⟨0, _⟩ => rfl))).trans (taken hs n)

end Cert.ReferenceIdeal.Ref

end
-- ==== Proof.Value.lean ====
module

public import proofs.«01_k».proof.Proof.Claims
public import proofs.«01_k».proof.Proof.IOut
public import proofs.«01_k».proof.Proof.Ref

@[expose] public section

set_option maxRecDepth 16384

noncomputable section

/-! The idealized kernel and the reference leave the same result. -/
namespace Cert.Proof

open Idealize.ShloMosaic Idealize.ShloMosaic.ValueIdx Idealize.SL.Sem

section
open Cert.KernelIdeal Cert.KernelIdeal.Run

set_option maxHeartbeats 4000000 in
/-- The kernel's run: the result is the product of each token with the weight row of each channel, and the arguments are unchanged. -/
theorem kernel_run (m : (ℓ : Loc nD τ sig) → Buf (Elt Ideal) ℓ) (ρ : _) (hs : Cert.Prefix.Split (ord m)) :
    θ_run (defs (F := Ideal)) (onTc (τ := τ) (main (F := Ideal))) ⟨m, fun _ => 0, ρ⟩ (fun r => ∀ c : Dev nD,
      r.2.mem ((c.tc : Thread nD τ).loc main_v17) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h => fun c =>
    ⟨array_eq h.1 c,
     ((h.1 c).2 main_arg0 (show main_arg0 ∈ Pipeline.restRefs sig spec0 by decide)).trans (V_main_arg0 m c),
     ((congrFun ((rdat m (Inv m) (Out m) c).ArrAt_in (0 : Fin 6) rfl _) _).mp ((h.1 c).1 (0 : Fin 6))).trans (V_main_arg1 m c),
     ((congrFun ((rdat m (Inv m) (Out m) c).ArrAt_in (1 : Fin 6) rfl _) _).mp ((h.1 c).1 (1 : Fin 6))).trans (V_main_arg2 m c),
     ((congrFun ((rdat m (Inv m) (Out m) c).ArrAt_in (3 : Fin 6) rfl _) _).mp ((h.1 c).1 (3 : Fin 6))).trans (V_main_arg3 m c),
     ((congrFun ((rdat m (Inv m) (Out m) c).ArrAt_in (4 : Fin 6) rfl _) _).mp ((h.1 c).1 (4 : Fin 6))).trans (V_main_arg4 m c)⟩)
    (run_main (ρ := ρ) (steps m (checks m hs) hs))

variable (m : (ℓ : Loc nD τ sig) → Buf (Elt Ideal) ℓ)

/-- The kernel's result at an index. -/
theorem result_at (hs : Cert.Prefix.Split (ord m)) (t : Fin 6144) (n : Fin 18944) :
    result m (ix2 t n) = Cert.Spec.prod (m ((0 : Dev nD).tc.loc main_arg1)) (m ((0 : Dev nD).tc.loc main_arg2))
      (m ((0 : Dev nD).tc.loc main_arg3)) (m ((0 : Dev nD).tc.loc main_arg4)) t
      ⟨Cert.Spec.pos (ord m) n.val, Cert.Pick.pos_lt hs n.isLt⟩ := by
  unfold result prodN
  exact dif_pos ⟨t.isLt, Cert.Pick.pos_lt hs n.isLt⟩

end

theorem algebraic_kernel : Cert.algebraic_KernelIdeal_ReferenceIdeal := fun m g m' g' h he => by
  have hs := Cert.KernelIdeal.Run.split_pre m (h 0)
  refine ⟨fun _ => Cert.KernelIdeal.Run.result m, kernel_run m g hs, ?_⟩
  refine (θ_run Cert.ReferenceIdeal.defs _ _).mono (fun r hr c => ⟨(hr c).1.trans ?_, (hr c).2⟩)
    (Cert.ReferenceIdeal.Value.run (F := Ideal) m' g')
  obtain rfl : c = 0 := Subsingleton.elim _ _
  obtain ⟨h0, h1, h2, h3, h4⟩ := he 0
  refine (Cert.ReferenceIdeal.Read.val_main_v53_eq (F := Ideal) m' 0).trans ?_
  rw [h0, h1, h2, h3, h4]
  funext i
  have ei : ∃ (t : Fin 6144) (n : Fin 18944), i = ix2 t n := ⟨i 0, i 1, funext fun a => by fin_cases a <;> rfl⟩
  obtain ⟨t, n, rfl⟩ := ei
  exact (Cert.ReferenceIdeal.Ref.value _ _ _ _ hs t n).trans (result_at m hs t n).symm

end Cert.Proof

end
-- ==== Proof.QuantSpec.lean ====
module

public import proofs.«01_k».proof.Proof.Gen.QuantiseIdeal.Skeleton
public import proofs.«01_k».proof.Proof.Gen.QuantiseReferenceIdeal.Skeleton
public import Idealize.ShloMosaic.Lib.Pipeline.Value
public import Idealize.ShloMosaic.PureOps.Ideal.Laws
public import Idealize.ShloMosaic.Lib.ValueIdx

@[expose] public section

set_option maxRecDepth 16384

noncomputable section

/-! What the quantiser computes of one row, and that both programs' vector operations compute it, whatever the number of rows. -/
namespace Cert.Quant
open Idealize.ShloMosaic Idealize.ShloMosaic.ValueIdx

/-- The largest absolute value of a row. -/
def rowMax (x : Fin 3584 → EReal) : EReal :=
  (Finset.univ : Finset (Fin 3584)).fold max (FloatOps.ofBits (F := Ideal) .f32 0xFF800000#32) fun k => FloatOps.absf (F := Ideal) (φ := .f32) (x k)

/-- The scale of a row: its largest absolute value over 127, or 1 for a row of zeros. -/
def scale (x : Fin 3584 → EReal) : EReal :=
  Scalar.select (FloatOps.cmpf (F := Ideal) (φ := .f32) .oeq (rowMax x) (FloatOps.ofBits .f32 0x00000000#32))
    (FloatOps.ofBits (F := Ideal) .f32 0x3F800000#32) (FloatOps.divf (F := Ideal) (φ := .f32) (rowMax x) (FloatOps.ofBits .f32 0x42FE0000#32))

/-- The clipped and rounded quotient of element `k` of a row by the row's scale. -/
def quot (x : Fin 3584 → EReal) (k : Fin 3584) : EReal :=
  FloatOps.minimumf (F := Ideal) (φ := .f32) (FloatOps.ofBits .f32 0x42FE0000#32)
    (FloatOps.maximumf (FloatOps.ofBits .f32 0xC2FE0000#32) (FloatOps.roundeven (FloatOps.divf (x k) (scale x))))

/-- The code of element `k` of a row. -/
def code (x : Fin 3584 → EReal) (k : Fin 3584) : BitVec 8 := FloatOps.fptosi (F := Ideal) (φ := .f32) 8 (quot x k)

section Rows
variable {N : ℕ} (hr : (⟨2, ![N, 3584]⟩ : Shape).Reduces [1] ⟨1, ![N]⟩) (hs : (⟨1, ![N]⟩ : Shape).ShapeCasts ⟨2, ![N, 1]⟩)
  (hb : (⟨2, ![N, 1]⟩ : Shape).Broadcasts ⟨2, ![N, 3584]⟩) (x : FVec Ideal ⟨2, ![N, 3584]⟩ .f32)

/-- The column of the rows' largest absolute values. -/
abbrev maxes : FVec Ideal ⟨2, ![N, 1]⟩ .f32 :=
  shapeCast ⟨2, ![N, 1]⟩ (multiReduction .maximumf [1] ⟨1, ![N]⟩ (absf x) 0xFF800000#32 hr (.inl rfl) rfl) hs

/-- The column of the rows' scales. -/
abbrev scales : FVec Ideal ⟨2, ![N, 1]⟩ .f32 :=
  select (cmpf .oeq (maxes hr hs x) (broadcast ⟨2, ![N, 1]⟩ (Scalar.ofBits .f32 0x00000000#32)))
    (broadcast ⟨2, ![N, 1]⟩ (Scalar.ofBits .f32 0x3F800000#32))
    (divf (maxes hr hs x) (broadcast ⟨2, ![N, 1]⟩ (Scalar.ofBits .f32 0x42FE0000#32)))

/-- The clipped and rounded quotients. -/
abbrev quots : FVec Ideal ⟨2, ![N, 3584]⟩ .f32 :=
  minimumf (broadcast ⟨2, ![N, 3584]⟩ (Scalar.ofBits .f32 0x42FE0000#32))
    (maximumf (broadcast ⟨2, ![N, 3584]⟩ (Scalar.ofBits .f32 0xC2FE0000#32))
      (roundeven (divf x (broadcastTo ⟨2, ![N, 3584]⟩ (scales hr hs x) hb))))

theorem maxes_at (r : Fin N) : maxes hr hs x (ix2 r 0) = rowMax fun k => x (ix2 r k) := by
  refine (shapeCast_apply _ _ (ix2 r 0) (ix1 r) (by
    rw [Shape.rowMajor_val_one, Shape.rowMajor_val_two]; exact (Nat.mul_one _).symm)).trans ?_
  refine (Ideal.multiReduction_maximumf_single _ _ hr _ _ (ix1 r)).trans ?_
  refine congrArg (Finset.fold max _ · _) (funext fun k => ?_)
  have e : hr.lift (ix1 r) k = ix2 r k := funext fun a => Fin.ext (by fin_cases a <;> rfl)
  exact congrArg (fun i => FloatOps.absf (F := Ideal) (φ := .f32) (x i)) e

theorem scales_at (r : Fin N) : scales hr hs x (ix2 r 0) = scale fun k => x (ix2 r k) := by
  have e := maxes_at hr hs x r
  show Scalar.select (FloatOps.cmpf (F := Ideal) (φ := .f32) .oeq (maxes hr hs x (ix2 r 0)) _) _ (FloatOps.divf (F := Ideal) (φ := .f32) (maxes hr hs x (ix2 r 0)) _) = _
  rw [e]; rfl

theorem quots_at (r : Fin N) (k : Fin 3584) : quots hr hs hb x (ix2 r k) = quot (fun k => x (ix2 r k)) k := by
  have e : broadcastTo ⟨2, ![N, 3584]⟩ (scales hr hs x) hb (ix2 r k) = scale fun k => x (ix2 r k) :=
    (broadcastTo_apply _ _ (ix2 r k) (ix2 r 0) (fun a => by
      fin_cases a
      · show r.val = if N = 1 then 0 else r.val
        have := r.isLt
        split <;> omega
      · rfl)).trans (scales_at hr hs x r)
  show FloatOps.minimumf (F := Ideal) (φ := .f32) _ (FloatOps.maximumf _ (FloatOps.roundeven (FloatOps.divf (x (ix2 r k)) (broadcastTo ⟨2, ![N, 3584]⟩ (scales hr hs x) hb (ix2 r k))))) = _
  rw [e]; rfl

end Rows

/-- The kernel's scales of a block. -/
theorem kernel_scale [Cert.QuantiseIdeal.Facts] (x : Vec Ideal Cert.QuantiseIdeal.S256x3584 .bf16) (r : Fin 256) :
    Cert.QuantiseIdeal.Gen.k0_pay4 (F := Ideal) x (ix2 r 0) = scale fun k => x (ix2 r k) :=
  scales_at (N := 256) Cert.QuantiseIdeal.Facts₀.reduces_S256x3584_S256 Cert.QuantiseIdeal.Facts₀.shapeCasts_S256_S256x1 x r

/-- The kernel's clipped quotients of a block. -/
theorem kernel_quot [Cert.QuantiseIdeal.Facts] (x : Vec Ideal Cert.QuantiseIdeal.S256x3584 .bf16) (r : Fin 256) (k : Fin 3584) :
    Cert.QuantiseIdeal.Gen.k0_pay5 (F := Ideal) x (ix2 r k) = quot (fun k => x (ix2 r k)) k :=
  quots_at (N := 256) Cert.QuantiseIdeal.Facts₀.reduces_S256x3584_S256 Cert.QuantiseIdeal.Facts₀.shapeCasts_S256_S256x1
    Cert.QuantiseIdeal.Facts₀.broadcasts_S256x1_S256x3584 x r k

/-- The kernel's codes of a block. -/
theorem kernel_code [Cert.QuantiseIdeal.Facts] (x : Vec Ideal Cert.QuantiseIdeal.S256x3584 .bf16) (r : Fin 256) (k : Fin 3584) :
    Cert.QuantiseIdeal.Gen.k0_pay6 (F := Ideal) x (ix2 r k) = code (fun k => x (ix2 r k)) k :=
  congrArg (FloatOps.fptosi (F := Ideal) (φ := .f32) 8) (kernel_quot x r k)

/-- The reference's scales. -/
theorem reference_scale [Cert.QuantiseReferenceIdeal.Facts] (x : Vec Ideal Cert.QuantiseReferenceIdeal.S6144x3584 .bf16) (r : Fin 6144) :
    Cert.QuantiseReferenceIdeal.Gen.k0_pay2 (F := Ideal) x (ix2 r 0) = scale fun k => x (ix2 r k) :=
  scales_at (N := 6144) Cert.QuantiseReferenceIdeal.Facts₀.reduces_S6144x3584_S6144
    Cert.QuantiseReferenceIdeal.Facts₀.shapeCasts_S6144_S6144x1 x r

/-- The reference's clipped quotients. -/
theorem reference_quot [Cert.QuantiseReferenceIdeal.Facts] (x : Vec Ideal Cert.QuantiseReferenceIdeal.S6144x3584 .bf16) (r : Fin 6144) (k : Fin 3584) :
    Cert.QuantiseReferenceIdeal.Gen.k0_pay3 (F := Ideal) x (ix2 r k) = quot (fun k => x (ix2 r k)) k :=
  quots_at (N := 6144) Cert.QuantiseReferenceIdeal.Facts₀.reduces_S6144x3584_S6144
    Cert.QuantiseReferenceIdeal.Facts₀.shapeCasts_S6144_S6144x1 Cert.QuantiseReferenceIdeal.Facts₀.broadcasts_S6144x1_S6144x3584 x r k

/-- The reference's codes. -/
theorem reference_code [Cert.QuantiseReferenceIdeal.Facts] (x : Vec Ideal Cert.QuantiseReferenceIdeal.S6144x3584 .bf16) (r : Fin 6144) (k : Fin 3584) :
    Cert.QuantiseReferenceIdeal.Gen.k0_pay4 (F := Ideal) x (ix2 r k) = code (fun k => x (ix2 r k)) k :=
  congrArg (FloatOps.fptosi (F := Ideal) (φ := .f32) 8) (reference_quot x r k)

end Cert.Quant

end
-- ==== Proof.QuantSides.lean ====
module

public import proofs.«01_k».proof.Proof.QuantSpec
public import Idealize.ShloMosaic.Lib.Decide

@[expose] public section

set_option maxRecDepth 16384

noncomputable section

/-! The quantiser's third array: a tile of 128 even or odd columns, gathered from two tiles of the activations. -/
namespace Cert.QuantiseIdeal.Run

open Cert.QuantiseIdeal Cert.QuantiseIdeal.Gen Idealize.ShloMosaic Idealize.ShloMosaic.ValueIdx

section Layout
variable {α : Type}

/-- The rows of one parity, read at a place. -/
theorem parity_at (q : Fin 2) (x : S256x3584.Idx → α) (h) (r : Fin 128) (k : Fin 3584) :
    rowsOfParity q S128x3584 x h (ix2 r k) = x (ix2 ⟨2 * r.val + q.val, by omega⟩ k) := by
  unfold rowsOfParity
  refine congrArg x (funext fun a => Fin.ext ?_)
  fin_cases a <;> rfl

/-- Two matrices interleaved by rows, read at a place. -/
theorem inter_at (lo hi : S128x128.Idx → α) (h) (p : Fin 256) (l : Fin 128) :
    interleaveRows S256x128 lo hi h (ix2 p l)
      = if p.val % 2 = 0 then lo (ix2 ⟨p.val / 2, by omega⟩ l) else hi (ix2 ⟨p.val / 2, by omega⟩ l) := by
  unfold interleaveRows
  have e : S256x128.row (ix2 p l) = p.val := rfl
  dsimp only
  rw [e]
  have e2 : ∀ (j : S128x128.Idx), (∀ b, (j b).val = (ix2 (⟨p.val / 2, by omega⟩ : Fin 128) l b).val) →
      j = ix2 (⟨p.val / 2, by omega⟩ : Fin 128) l := fun j hj => funext fun b => Fin.ext (hj b)
  split
  · exact congrArg lo (e2 _ fun b => by fin_cases b <;> rfl)
  · exact congrArg hi (e2 _ fun b => by fin_cases b <;> rfl)

/-- A gather along the lanes, read at a place whose index word is a lane number. -/
theorem gather_at (x : S256x128.Idx → α) (idx : IVec S256x128 32) (p : Fin 256) (l : Fin 128) (k : ℕ) (hk : k < 128)
    (e : idx (ix2 p l) = BitVec.ofNat 32 k) : dynamicGather 1 x idx (ix2 p l) = x (ix2 p ⟨k, hk⟩) := by
  unfold dynamicGather
  refine congrArg x (funext fun b => Fin.ext ?_)
  fin_cases b
  · rfl
  · show (idx (ix2 p l)).toNat % 128 = k
    rw [e]
    simp; omega

/-- A tile rotated by one lane, read at a place. -/
theorem rotate_at (x : S128x128.Idx → α) (h) (r : Fin 128) (k : Fin 128) :
    dynamicRotate 1 1#32 none x h (ix2 r k) = x (ix2 r ⟨(k.val + 127) % 128, Nat.mod_lt _ (by decide)⟩) := by
  unfold dynamicRotate
  refine congrArg x (funext fun b => Fin.ext ?_)
  fin_cases b
  · rfl
  · show (k.val + 128 - 1) % 128 = (k.val + 127) % 128
    omega

/-- A tile of columns, read at a place. -/
theorem slice_at (x : S128x3584.Idx → α) (o : ℕ) (h : S128x3584.Slices ![0, o] S128x128) (ho : o + 128 ≤ 3584) (r : Fin 128) (k : Fin 128) :
    extractStridedSlice S128x128 ![0, o] x h (ix2 r k) = x (ix2 r ⟨o + k.val, by omega⟩) :=
  extractStridedSlice_apply _ _ _ _ (ix2 r (⟨o + k.val, by omega⟩ : Fin 3584)) fun a => by
    fin_cases a
    · exact (Nat.zero_add _).symm
    · rfl

end Layout

/-- The lane numbers. -/
abbrev lanes : IVec S128x128 32 := iota .tc S128x128 32 [1] iota_S128x128_d1_w32

/-- The lanes from which the even columns are gathered. -/
def evenLanes : IVec S128x128 32 := k0_pay13 lanes k0_pay11 k0_pay12 2#32

/-- The lanes from which the odd columns are gathered. -/
def oddLanes : IVec S128x128 32 :=
  select k0_pay11 (k0_pay14 lanes k0_pay11) (andi (addi (k0_pay14 lanes k0_pay11) (broadcast S128x128 2#32)) (broadcast S128x128 127#32))

theorem evenLanes_at : ∀ l : Fin 128, evenLanes (ix2 (0 : Fin 128) l) = BitVec.ofNat 32 (if l.val < 64 then 2 * l.val else 2 * l.val - 127) := by
  decide +kernel

theorem oddLanes_at : ∀ l : Fin 128, oddLanes (ix2 (0 : Fin 128) l)
    = BitVec.ofNat 32 (if l.val < 64 then 2 * l.val + 1 else (2 * l.val - 126) % 128) := by
  decide +kernel

/-- The mask of the even lanes, at a place. -/
theorem mask_at (r k : Fin 128) : k0_pay10 (ix2 r k) = BitVec.ofBool (decide (k.val % 2 = 0)) := by
  have e : ∀ k : Fin 128, Scalar.cmpi .eq (IntOp.andi (BitVec.ofNat 32 k.val) 1#32) 0#32 = BitVec.ofBool (decide (k.val % 2 = 0)) := by
    decide +kernel
  refine Eq.trans ?_ (e k)
  show Scalar.cmpi .eq (IntOp.andi (lanes (ix2 r k)) 1#32) 0#32 = _
  rw [show lanes (ix2 r k) = BitVec.ofNat 32 k.val from iota_single_apply _ _ _ _ _ _]

/-- One stored tile, from its two halves' rows and its lane words. -/
def gathered (lo hi : FVec Ideal S128x128 .bf16) (ix : IVec S128x128 32) : FVec Ideal S1x256x128 .bf16 :=
  have b : IVec S256x128 32 := broadcastTo S256x128
    (shapeCast S1x128 (extractStridedSlice S1x128 ![0, 0] ix slices_S128x128_o0_0_S1x128) shapeCasts_S1x128_S1x128) broadcasts_S1x128_S256x128
  shapeCast S1x256x128 (truncf .bf16 (dynamicGather 1
    (extf .f32 (interleaveRows S256x128 lo hi bitcasts_S256x128_w16_S128x128_w32) bitsLt_bf16_f32)
    (shapeCast S256x128 (shapeCast S256x128x1 (select (cmpi .slt b (broadcast S256x128 0#32)) (addi b (broadcast S256x128 128#32)) b)
      shapeCasts_S256x128_S256x128x1) shapeCasts_S256x128x1_S256x128)) bitsLt_bf16_f32) shapeCasts_S256x128_S1x256x128

/-- A stored tile at a place whose lane word is a lane number. -/
theorem gathered_at (lo hi : FVec Ideal S128x128 .bf16) (ix : IVec S128x128 32) (p : Fin 256) (l : Fin 128) (k : ℕ) (hk : k < 128)
    (e : ix (ix2 (0 : Fin 128) l) = BitVec.ofNat 32 k) :
    gathered lo hi ix (ix3 (0 : Fin 1) p l)
      = if p.val % 2 = 0 then lo (ix2 ⟨p.val / 2, by omega⟩ ⟨k, hk⟩) else hi (ix2 ⟨p.val / 2, by omega⟩ ⟨k, hk⟩) := by
  unfold gathered
  rw [shapeCast_apply _ _ _ (ix2 p l) (by
    simp only [Shape.rowMajor_val_two, Shape.rowMajor_val_three]; simp [ix3, ix2])]
  have et : ∀ x : FVec Ideal S256x128 .f32, truncf .bf16 x bitsLt_bf16_f32 = x := fun _ => rfl
  have ex : ∀ x : FVec Ideal S256x128 .bf16, extf .f32 x bitsLt_bf16_f32 = x := fun _ => rfl
  rw [et, ex, gather_at _ _ p l k hk, inter_at]
  rw [shapeCast_shapeCast, shapeCast_self]
  have e1 : broadcastTo S256x128 (extractStridedSlice S1x128 ![0, 0] ix slices_S128x128_o0_0_S1x128) broadcasts_S1x128_S256x128 (ix2 p l)
      = BitVec.ofNat 32 k := by
    rw [broadcastTo_apply _ _ _ (ix2 (0 : Fin 1) l) (fun a => by fin_cases a <;> rfl),
      extractStridedSlice_apply _ _ _ _ (ix2 (0 : Fin 128) l) (fun a => by fin_cases a <;> simp [ix2]), e]
  show Scalar.select (Scalar.cmpi .slt _ 0#32) _ _ = _
  rw [e1]
  have h : Scalar.cmpi .slt (BitVec.ofNat 32 k) 0#32 = 0#1 := by
    show BitVec.ofBool (BitVec.slt _ _) = _
    have h2 : (BitVec.ofNat 32 k).slt 0#32 = false := by
      rw [BitVec.slt_eq_decide, decide_eq_false_iff_not, BitVec.toInt_eq_toNat_of_lt (by simp; omega)]
      simp; omega
    rw [h2]
    rfl
  rw [h]
  rfl

section Tile
variable (x : Vec Ideal S256x3584 .bf16) (o o' : ℕ) (h : S128x3584.Slices ![0, o] S128x128) (h' : S128x3584.Slices ![0, o'] S128x128)

/-- The columns from `o`, and those from `o'` rotated by a lane, of some rows. -/
abbrev left (y : FVec Ideal S128x3584 .bf16) : FVec Ideal S128x128 .bf16 := extractStridedSlice S128x128 ![0, o] y h
abbrev right (y : FVec Ideal S128x3584 .bf16) : FVec Ideal S128x128 .bf16 :=
  dynamicRotate 1 1#32 none (extractStridedSlice S128x128 ![0, o'] y h') rotates_S128x128_d1

/-- The stored tile of the even columns of the two tiles at `o` and `o'`. -/
def evens : FVec Ideal S1x256x128 .bf16 :=
  gathered (select k0_pay10 (left o h (k0_pay8 x)) (right o' h' (k0_pay8 x))) (select k0_pay10 (left o h (k0_pay9 x)) (right o' h' (k0_pay9 x))) evenLanes

/-- The stored tile of their odd columns. -/
def odds : FVec Ideal S1x256x128 .bf16 :=
  gathered (select k0_pay10 (right o' h' (k0_pay8 x)) (left o h (k0_pay8 x))) (select k0_pay10 (right o' h' (k0_pay9 x)) (left o h (k0_pay9 x))) oddLanes

theorem left_lo (ho : o + 128 ≤ 3584) (r k : Fin 128) : left o h (k0_pay8 x) (ix2 r k) = x (ix2 ⟨2 * r.val, by omega⟩ ⟨o + k.val, by omega⟩) := by
  refine (slice_at _ o h ho r k).trans ?_
  exact parity_at 0 x bitcasts_S256x3584_w16_S128x3584_w32 r _

theorem left_hi (ho : o + 128 ≤ 3584) (r k : Fin 128) : left o h (k0_pay9 x) (ix2 r k) = x (ix2 ⟨2 * r.val + 1, by omega⟩ ⟨o + k.val, by omega⟩) := by
  refine (slice_at _ o h ho r k).trans ?_
  exact parity_at 1 x bitcasts_S256x3584_w16_S128x3584_w32 r _

theorem right_lo (ho : o' + 128 ≤ 3584) (r k : Fin 128) :
    right o' h' (k0_pay8 x) (ix2 r k) = x (ix2 ⟨2 * r.val, by omega⟩ ⟨o' + (k.val + 127) % 128, by omega⟩) := by
  refine (rotate_at _ _ r k).trans ((slice_at _ o' h' ho r _).trans ?_)
  exact parity_at 0 x bitcasts_S256x3584_w16_S128x3584_w32 r _

theorem right_hi (ho : o' + 128 ≤ 3584) (r k : Fin 128) :
    right o' h' (k0_pay9 x) (ix2 r k) = x (ix2 ⟨2 * r.val + 1, by omega⟩ ⟨o' + (k.val + 127) % 128, by omega⟩) := by
  refine (rotate_at _ _ r k).trans ((slice_at _ o' h' ho r _).trans ?_)
  exact parity_at 1 x bitcasts_S256x3584_w16_S128x3584_w32 r _

/-- A choice by the mask of the even lanes, at a place. -/
theorem choose_at (a b : FVec Ideal S128x128 .bf16) (r k : Fin 128) :
    select k0_pay10 a b (ix2 r k) = if k.val % 2 = 0 then a (ix2 r k) else b (ix2 r k) := by
  show Scalar.select (k0_pay10 (ix2 r k)) _ _ = _
  rw [mask_at]
  by_cases hk : k.val % 2 = 0 <;> simp [hk, Scalar.select]

/-- The tile of even columns at a place: column `2 l` of the pair of tiles. -/
theorem evens_at (e : o' = o + 128) (ho : o + 256 ≤ 3584) (p : Fin 256) (l : Fin 128) :
    evens x o o' h h' (ix3 (0 : Fin 1) p l) = x (ix2 p ⟨o + 2 * l.val, by omega⟩) := by
  unfold evens
  rw [gathered_at _ _ _ p l _ (by split <;> omega) (evenLanes_at l)]
  simp only [choose_at, left_lo x o h (by omega), left_hi x o h (by omega), right_lo x o' h' (by omega), right_hi x o' h' (by omega)]
  by_cases hl : l.val < 64 <;> by_cases hp : p.val % 2 = 0 <;> simp only [hl, hp, if_true, if_false] <;> split <;>
    first
    | (exfalso; omega)
    | (refine congrArg x ?_; congr 1 <;> apply Fin.ext <;> simp only [] <;> omega)

/-- The tile of odd columns at a place: column `2 l + 1` of the pair of tiles. -/
theorem odds_at (e : o' = o + 128) (ho : o + 256 ≤ 3584) (p : Fin 256) (l : Fin 128) :
    odds x o o' h h' (ix3 (0 : Fin 1) p l) = x (ix2 p ⟨o + 2 * l.val + 1, by omega⟩) := by
  unfold odds
  rw [gathered_at _ _ _ p l _ (by split <;> omega) (oddLanes_at l)]
  simp only [choose_at, left_lo x o h (by omega), left_hi x o h (by omega), right_lo x o' h' (by omega), right_hi x o' h' (by omega)]
  by_cases hl : l.val < 64 <;> by_cases hp : p.val % 2 = 0 <;> simp only [hl, hp, if_true, if_false] <;> split <;>
    first
    | (exfalso; omega)
    | (refine congrArg x ?_; congr 1 <;> apply Fin.ext <;> simp only [] <;> omega)

end Tile

end Cert.QuantiseIdeal.Run

end
-- ==== Proof.QuantValue.lean ====
module

public import proofs.«01_k».proof.Defs
public import proofs.«01_k».proof.Proof.QuantSides
public import proofs.«01_k».proof.Proof.Gen.Quantise.Frame
public import proofs.«01_k».proof.Proof.Gen.QuantiseIdeal.Value
public import proofs.«01_k».proof.Proof.Gen.QuantiseReferenceIdeal.Value
public import Idealize.ShloMosaic.Lib.Bf16PairInverse

@[expose] public section

set_option maxRecDepth 16384

noncomputable section

/-! The quantise call: its codes and scales after the run, and that the reference leaves the same. -/
namespace Cert.QuantiseIdeal.Run

open Cert.QuantiseIdeal Cert.QuantiseIdeal.Gen Cert.QuantiseIdeal.Value Idealize.ShloMosaic Idealize.ShloMosaic.TcCoe
  Idealize.ShloMosaic.ValueIdx Idealize.SL.Sem Cert.Quant
open Idealize.ShloMosaic.Pipeline (Dat Window)

theorem hz : (![0, 0] : Fin 2 → Nat) = fun _ => 0 := funext fun a => by fin_cases a <;> rfl

/-- The activation column kept at column `k` of the reordered activations: the even columns, then the odd ones. -/
def side (k : Fin 3584) : Fin 3584 := ⟨if k.val < 1792 then 2 * k.val else 2 * (k.val - 1792) + 1, by split <;> omega⟩

theorem tileSlice (o : ℕ) (h : o + 128 ≤ 3584) : S128x3584.Slices ![0, o] S128x128 :=
  ⟨rfl, fun a => by
    fin_cases a
    · exact le_refl 128
    · exact h⟩

theorem inTile (o : ℕ) (h : o + 128 ≤ 3584) : ∀ a, (![1, 0, o] : Fin 3 → Nat) a + S1x256x128.size a ≤ S2x256x3584.size a := fun a => by
  fin_cases a
  · exact le_refl 2
  · exact le_refl 256
  · exact h

section Block
variable (c : Dev nD) (i : grid0.Coords) (arg1 : Memref sig .tc .vmem S256x3584 .bf16) (harg1 : arg1.IsWhole)
  (arg2 : Memref sig .tc .vmem S256x3584 .i8) (harg2 : arg2.IsWhole) (arg3 : Memref sig .tc .vmem S256x1 .f32) (harg3 : arg3.IsWhole)
  (arg4 : Memref sig .tc .vmem S2x256x3584 .bf16) (harg4 : arg4.IsWhole) (x : Vec Ideal S256x3584 .bf16)

/-- The codes' block after the body: the one store's payload. -/
theorem out1_eq : out0_A_1 c i arg1 harg1 arg2 harg2 arg3 harg3 arg4 harg4 x = k0_pay6 x := by
  unfold out0_A_1
  rw [View.read_writes_junk_eq_canon]
  show View.canon ([⟨Rect.unit ![0, 0] S256x3584.size inb_S256x3584_S256x3584_0_0,
      k0_pay6 (View.readAt (Elt Ideal) arg1.view (Rect.unit ![0, 0] S256x3584.size inb_S256x3584_S256x3584_0_0).toLoadRect (harg1.unread x))⟩] :
      List (View.Piece (Elt Ideal) S256x3584 .i8)) = _
  rw [View.canon_unit_zero hz, View.readAt_eq_ld, harg1.read_unread, View.ld_unit_zero hz]

/-- The scales' block after the body: the one store's payload. -/
theorem out2_eq : out0_A_2 c i arg1 harg1 arg2 harg2 arg3 harg3 arg4 harg4 x = k0_pay4 x := by
  unfold out0_A_2
  rw [View.read_writes_junk_eq_canon]
  show View.canon ([⟨Rect.unit ![0, 0] S256x1.size inb_S256x1_S256x1_0_0,
      k0_pay4 (View.readAt (Elt Ideal) arg1.view (Rect.unit ![0, 0] S256x3584.size inb_S256x3584_S256x3584_0_0).toLoadRect (harg1.unread x))⟩] :
      List (View.Piece (Elt Ideal) S256x1 .f32)) = _
  rw [View.canon_unit_zero hz, View.readAt_eq_ld, harg1.read_unread, View.ld_unit_zero hz]

/-- The stores of the third array's block, last first: the tiles of odd and even columns, then the clipped quotients. -/
def pieces : List (View.Piece (Elt Ideal) S2x256x3584 .bf16) :=
  (([13, 12, 11, 10, 9, 8, 7, 6, 5, 4, 3, 2, 1, 0] : List (Fin 14)).flatMap fun t =>
    [⟨Rect.unit ![1, 0, 1792 + 128 * t.val] S1x256x128.size (inTile _ (by omega)), odds x (256 * t.val) (256 * t.val + 128) (tileSlice _ (by omega)) (tileSlice _ (by omega))⟩,
      ⟨Rect.unit ![1, 0, 128 * t.val] S1x256x128.size (inTile _ (by omega)), evens x (256 * t.val) (256 * t.val + 128) (tileSlice _ (by omega)) (tileSlice _ (by omega))⟩])
    ++ [⟨Rect.unit ![0, 0, 0] S1x256x3584.size inb_S2x256x3584_S1x256x3584_0_0_0, k0_pay7 x⟩]

/-- The run's stores are those. -/
theorem run_pieces : (kernelRun0_A (F := Ideal) c i arg1 harg1 arg2 harg2 arg3 harg3 arg4 harg4 x).2.2.1 = pieces x := by
  have e : View.readAt (Elt Ideal) arg1.view (Rect.unit ![0, 0] S256x3584.size inb_S256x3584_S256x3584_0_0).toLoadRect (harg1.unread x) = x := by
    rw [View.readAt_eq_ld, harg1.read_unread, View.ld_unit_zero hz]
  refine Eq.trans ?_ (congrArg pieces e)
  rfl

/-- The third array's block, read at a place: a clipped quotient, or an activation. -/
def both (i : S2x256x3584.Idx) : EReal :=
  if (i 0).val = 0 then quot (fun k => x (ix2 (i 1) k)) (i 2) else x (ix2 (i 1) (side (i 2)))

/-- The clipped quotients as stored, at a place. -/
theorem codes_at (p : Fin 256) (k : Fin 3584) : k0_pay7 x (ix3 (0 : Fin 1) p k) = quot (fun k => x (ix2 p k)) k := by
  have e : k0_pay7 x = shapeCast S1x256x3584 (k0_pay5 x) shapeCasts_S256x3584_S1x256x3584 := rfl
  rw [e, shapeCast_apply _ _ _ (ix2 p k) (by
    simp only [Shape.rowMajor_val_two, Shape.rowMajor_val_three]; simp [ix3, ix2])]
  exact kernel_quot x p k

theorem pieces_at (pc : View.Piece (Elt Ideal) S2x256x3584 .bf16) (hpc : pc ∈ pieces x) (j : pc.1.shape.Idx) : pc.2 j = both x (pc.1.emb j) := by
  unfold pieces at hpc
  rcases List.mem_append.mp hpc with hpc | hpc
  · obtain ⟨t, -, hpc⟩ := List.mem_flatMap.mp hpc
    rcases List.mem_cons.mp hpc with rfl | hpc
    · obtain ⟨p, l, rfl⟩ : ∃ (p : Fin 256) (l : Fin 128), j = ix3 (0 : Fin 1) p l := ⟨j 1, j 2, funext fun a => by
        fin_cases a
        · exact Fin.ext (Nat.lt_one_iff.mp (j 0).isLt)
        · rfl
        · rfl⟩
      have ht := t.isLt
      refine (odds_at x _ _ _ _ rfl (by omega) p l).trans ?_
      refine Eq.trans ?_ (if_neg (show ¬ 1 + 1 * 0 = 0 by decide)).symm
      refine congrArg x ?_
      funext a; apply Fin.ext
      match a with
      | ⟨0, _⟩ => show p.val = 0 + 1 * p.val; omega
      | ⟨1, _⟩ =>
        show 256 * t.val + 2 * l.val + 1 = if 1792 + 128 * t.val + 1 * l.val < 1792 then 2 * (1792 + 128 * t.val + 1 * l.val) else 2 * (1792 + 128 * t.val + 1 * l.val - 1792) + 1
        rw [if_neg (by omega)]; omega
    · obtain rfl := List.mem_singleton.mp hpc
      obtain ⟨p, l, rfl⟩ : ∃ (p : Fin 256) (l : Fin 128), j = ix3 (0 : Fin 1) p l := ⟨j 1, j 2, funext fun a => by
        fin_cases a
        · exact Fin.ext (Nat.lt_one_iff.mp (j 0).isLt)
        · rfl
        · rfl⟩
      have ht := t.isLt
      have hl := l.isLt
      refine (evens_at x _ _ _ _ rfl (by omega) p l).trans ?_
      refine Eq.trans ?_ (if_neg (show ¬ 1 + 1 * 0 = 0 by decide)).symm
      refine congrArg x ?_
      funext a; apply Fin.ext
      match a with
      | ⟨0, _⟩ => show p.val = 0 + 1 * p.val; omega
      | ⟨1, _⟩ =>
        show 256 * t.val + 2 * l.val = if 128 * t.val + 1 * l.val < 1792 then 2 * (128 * t.val + 1 * l.val) else 2 * (128 * t.val + 1 * l.val - 1792) + 1
        rw [if_pos (by omega)]; omega
  · obtain rfl := List.mem_singleton.mp hpc
    obtain ⟨p, k, rfl⟩ : ∃ (p : Fin 256) (k : Fin 3584), j = ix3 (0 : Fin 1) p k := ⟨j 1, j 2, funext fun a => by
      fin_cases a
      · exact Fin.ext (Nat.lt_one_iff.mp (j 0).isLt)
      · rfl
      · rfl⟩
    refine Eq.trans ?_ (if_pos (show 0 + 1 * 0 = 0 by decide)).symm
    refine (codes_at x p k).trans ?_
    have e1 : (Rect.unit (s := S2x256x3584) ![0, 0, 0] S1x256x3584.size inb_S2x256x3584_S1x256x3584_0_0_0).emb (ix3 (0 : Fin 1) p k) 1 = p :=
      Fin.ext (show 0 + 1 * p.val = p.val by omega)
    have e2 : (Rect.unit (s := S2x256x3584) ![0, 0, 0] S1x256x3584.size inb_S2x256x3584_S1x256x3584_0_0_0).emb (ix3 (0 : Fin 1) p k) 2 = k :=
      Fin.ext (show 0 + 1 * k.val = k.val by omega)
    exact (congrArg₂ (fun (a : Fin 256) (b : Fin 3584) => quot (fun k => x (ix2 a k)) b) e1 e2).symm

/-- The third array's block after the body. -/
theorem out3_eq : out0_A_3 c i arg1 harg1 arg2 harg2 arg3 harg3 arg4 harg4 x = both x := by
  unfold out0_A_3
  rw [View.read_writes_junk_eq_canon]
  funext y
  refine View.canon_apply_of_pieces (both x) _ (fun pc hpc j => pieces_at x pc ?_ j) y (cover0_A_3 c i arg1 harg1 arg2 harg2 arg3 harg3 arg4 harg4 x y)
  rwa [run_pieces] at hpc

end Block

variable (m : (ℓ : Loc nD τ sig) → Buf (Elt Ideal) ℓ) (c : Dev nD)

/-- The activations as launched. -/
abbrev act : S6144x3584.Idx → EReal := m ((c : Thread nD τ).loc main_arg0)

/-- The codes of all tokens. -/
def codes (x : S6144x3584.Idx → EReal) : S6144x3584.Idx → BitVec 8 := fun i => code (fun k => x (ix2 (i 0) k)) (i 1)

/-- The scales of all tokens. -/
def scales (x : S6144x3584.Idx → EReal) : S6144x1.Idx → EReal := fun i => scale fun k => x (ix2 (i 0) k)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)

/-- The clipped quotients of all tokens, and the reordered activations. -/
def boths (x : S6144x3584.Idx → EReal) : S2x6144x3584.Idx → EReal := fun i =>
  if (i 0).val = 0 then quot (fun k => x (ix2 (i 1) k)) (i 2) else x (ix2 (i 1) (side (i 2)))

theorem idx3 : ∀ t : Fin cfg0.N, win0_3.index t (0 : Fin 3) = 0 ∧ win0_3.index t (1 : Fin 3) = t.val ∧ win0_3.index t (2 : Fin 3) = 0 := (by decide +kernel : ∀ t : Fin grid0.N, _)

/-- The array row of row `r` of the block of point `t`. -/
def row (t : Fin cfg0.N) (r : Fin 256) : Fin 6144 := ⟨t.val * 256 + r.val, by have h : t.val < 24 := t.isLt; omega⟩

theorem emb0 (t : Fin cfg0.N) (r : Fin 256) (k : Fin 3584) : ((cfg0.win 0).blk t).view.emb (ix2 r k) = ix2 (row t r) k := by
  obtain ⟨e0, e1⟩ := idx0 t
  funext a; apply Fin.ext
  match a with
  | ⟨0, _⟩ => show win0_0.index t (0 : Fin 2) * 256 + 1 * r.val = t.val * 256 + r.val; omega
  | ⟨1, _⟩ => show win0_0.index t (1 : Fin 2) * 3584 + 1 * k.val = k.val; omega

theorem emb1 (t : Fin cfg0.N) (r : Fin 256) (k : Fin 3584) : ((cfg0.win 1).blk t).view.emb (ix2 r k) = ix2 (row t r) k := by
  obtain ⟨e0, e1⟩ := idx1 t
  funext a; apply Fin.ext
  match a with
  | ⟨0, _⟩ => show win0_1.index t (0 : Fin 2) * 256 + 1 * r.val = t.val * 256 + r.val; omega
  | ⟨1, _⟩ => show win0_1.index t (1 : Fin 2) * 3584 + 1 * k.val = k.val; omega

theorem emb2 (t : Fin cfg0.N) (r : Fin 256) : ((cfg0.win 2).blk t).view.emb (ix2 r 0) = ix2 (row t r) 0 := by
  obtain ⟨e0, e1⟩ := idx2 t
  funext a; apply Fin.ext
  match a with
  | ⟨0, _⟩ => show win0_2.index t (0 : Fin 2) * 256 + 1 * r.val = t.val * 256 + r.val; omega
  | ⟨1, _⟩ => show win0_2.index t (1 : Fin 2) * 1 + 1 * 0 = 0; omega

theorem emb3 (t : Fin cfg0.N) (q : Fin 2) (r : Fin 256) (k : Fin 3584) : ((cfg0.win 3).blk t).view.emb (ix3 q r k) = ix3 q (row t r) k := by
  obtain ⟨e0, e1, e2⟩ := idx3 t
  funext a; apply Fin.ext
  match a with
  | ⟨0, _⟩ => show win0_3.index t (0 : Fin 3) * 2 + 1 * q.val = q.val; omega
  | ⟨1, _⟩ => show win0_3.index t (1 : Fin 3) * 256 + 1 * r.val = t.val * 256 + r.val; omega
  | ⟨2, _⟩ => show win0_3.index t (2 : Fin 3) * 3584 + 1 * k.val = k.val; omega

/-- A block of the activations at an index. -/
theorem block_at (t : Fin cfg0.N) (r : Fin 256) (k : Fin 3584) : iblk m c 0 t (ix2 r k) = act m c (ix2 (row t r) k) := by
  show V m c main_arg0 (((cfg0.win 0).blk t).view.emb (ix2 r k)) = _
  rw [emb0, V_main_arg0]

/-- What a point writes back to the codes is its block of `codes`. -/
theorem flushed1_eq (t : Fin cfg0.N) : (dats m 0 c).flushed 1 t = ((cfg0.win 1).blk t).view.read (Elt Ideal) (codes (act m c)) := by
  rw [flushed1_A, out1_eq]
  funext j
  obtain ⟨r, k, rfl⟩ : ∃ (r : Fin 256) (k : Fin 3584), j = ix2 r k := ⟨j 0, j 1, funext fun a => by fin_cases a <;> rfl⟩
  show k0_pay6 (iblk m c 0 t) (ix2 r k) = codes (act m c) (((cfg0.win 1).blk t).view.emb (ix2 r k))
  rw [emb1, kernel_code]
  simp only [block_at]
  rfl

/-- What a point writes back to the scales is its block of `scales`. -/
theorem flushed2_eq (t : Fin cfg0.N) : (dats m 0 c).flushed 2 t = ((cfg0.win 2).blk t).view.read (Elt Ideal) (scales (act m c)) := by
  rw [flushed2_A, out2_eq]
  funext j
  obtain ⟨r, rfl⟩ : ∃ r : Fin 256, j = ix2 r 0 := ⟨j 0, funext fun a => by
    fin_cases a
    · rfl
    · exact Fin.ext (Nat.lt_one_iff.mp (j 1).isLt)⟩
  show k0_pay4 (iblk m c 0 t) (ix2 r 0) = scales (act m c) (((cfg0.win 2).blk t).view.emb (ix2 r 0))
  rw [emb2, kernel_scale]
  simp only [block_at]
  rfl

/-- What a point writes back to the third array is its block of `boths`. -/
theorem flushed3_eq (t : Fin cfg0.N) : (dats m 0 c).flushed 3 t = ((cfg0.win 3).blk t).view.read (Elt Ideal) (boths (act m c)) := by
  rw [flushed3_A, out3_eq]
  funext j
  obtain ⟨q, r, k, rfl⟩ : ∃ (q : Fin 2) (r : Fin 256) (k : Fin 3584), j = ix3 q r k := ⟨j 0, j 1, j 2, funext fun a => by fin_cases a <;> rfl⟩
  show both (iblk m c 0 t) (ix3 q r k) = boths (act m c) (((cfg0.win 3).blk t).view.emb (ix3 q r k))
  rw [emb3]
  show (if q.val = 0 then quot (fun k => iblk m c 0 t (ix2 r k)) k else iblk m c 0 t (ix2 r (side k)))
    = if q.val = 0 then quot (fun k => act m c (ix2 (row t r) k)) k else act m c (ix2 (row t r) (side k))
  simp only [block_at]

theorem flush3 : ∀ t : Fin cfg0.N, (cfg0.win 3).flush t = true := (by decide +kernel : ∀ t : Fin grid0.N, win0_3.flush t = true)
theorem flush1 : ∀ t : Fin cfg0.N, (cfg0.win 1).flush t = true := (by decide +kernel : ∀ t : Fin grid0.N, win0_1.flush t = true)
theorem flush2 : ∀ t : Fin cfg0.N, (cfg0.win 2).flush t = true := (by decide +kernel : ∀ t : Fin grid0.N, win0_2.flush t = true)

/-- The point and the block row that hold array row `n`. -/
theorem row_surj (n : Fin 6144) : ∃ (t : Fin cfg0.N) (r : Fin 256), row t r = n :=
  ⟨(⟨n.val / 256, by have := n.isLt; show n.val / 256 < 24; omega⟩ : Fin cfg0.N), ⟨n.val % 256, Nat.mod_lt _ (by decide)⟩,
    Fin.ext (show n.val / 256 * 256 + n.val % 256 = n.val by omega)⟩

/-- The codes after the run. -/
theorem final1 : (dats m 0 c).arrAt 1 cfg0.N = codes (act m c) :=
  (dats m 0 c).arrAt_eq_of_cover 1 _ (fun t _ => flushed1_eq m c t) fun i => by
    obtain ⟨n, k, rfl⟩ : ∃ (n : Fin 6144) (k : Fin 3584), i = ix2 n k := ⟨i 0, i 1, funext fun a => by fin_cases a <;> rfl⟩
    obtain ⟨t, r, rfl⟩ := row_surj n
    refine ⟨t, flush1 t, ?_⟩
    have h := ((cfg0.win 1).blk t).view.emb_mem_set (ix2 r k)
    rwa [emb1] at h

/-- The scales after the run. -/
theorem final2 : (dats m 0 c).arrAt 2 cfg0.N = scales (act m c) :=
  (dats m 0 c).arrAt_eq_of_cover 2 _ (fun t _ => flushed2_eq m c t) fun i => by
    obtain ⟨n, rfl⟩ : ∃ n : Fin 6144, i = ix2 n 0 := ⟨i 0, funext fun a => by
      fin_cases a
      · rfl
      · exact Fin.ext (Nat.lt_one_iff.mp (i 1).isLt)⟩
    obtain ⟨t, r, rfl⟩ := row_surj n
    refine ⟨t, flush2 t, ?_⟩
    have h := ((cfg0.win 2).blk t).view.emb_mem_set (ix2 r 0)
    rwa [emb2] at h

/-- The third array after the run. -/
theorem final3 : (dats m 0 c).arrAt 3 cfg0.N = boths (act m c) :=
  (dats m 0 c).arrAt_eq_of_cover 3 _ (fun t _ => flushed3_eq m c t) fun i => by
    obtain ⟨q, n, k, rfl⟩ : ∃ (q : Fin 2) (n : Fin 6144) (k : Fin 3584), i = ix3 q n k := ⟨i 0, i 1, i 2, funext fun a => by fin_cases a <;> rfl⟩
    obtain ⟨t, r, rfl⟩ := row_surj n
    refine ⟨t, flush3 t, ?_⟩
    have h := ((cfg0.win 3).blk t).view.emb_mem_set (ix3 q r k)
    rwa [emb3] at h

end Cert.QuantiseIdeal.Run

/-! The reference's three arrays after its run, block by block: its one point's blocks are the whole arrays. -/
namespace Cert.QuantiseReferenceIdeal.Run

open Cert.QuantiseReferenceIdeal Cert.QuantiseReferenceIdeal.Gen Cert.QuantiseReferenceIdeal.Value Idealize.ShloMosaic Idealize.ShloMosaic.TcCoe
  Idealize.ShloMosaic.ValueIdx Idealize.SL.Sem Cert.Quant
open Idealize.ShloMosaic.Pipeline (Dat Window)
open Cert.QuantiseIdeal.Run (hz side codes scales boths)

variable (m : (ℓ : Loc nD τ sig) → Buf (Elt Ideal) ℓ) (c : Dev nD)

/-- The activations as launched. -/
abbrev act : S6144x3584.Idx → EReal := m ((c : Thread nD τ).loc main_arg0)

/-- The activations with their even columns before their odd ones, as the host puts them together. -/
def sides (x : S6144x3584.Idx → EReal) : S6144x3584.Idx → EReal :=
  concatenate S6144x3584 1 [⟨S6144x1792, Host.slice S6144x1792 ![0, 0] ![1, 2] x slicesBy_S6144x3584_S6144x1792_0s1_0s2⟩,
    ⟨S6144x1792, Host.slice S6144x1792 ![0, 1] ![1, 2] x slicesBy_S6144x3584_S6144x1792_0s1_1s2⟩] concatenates_S6144x1792_S6144x1792_S6144x3584_d1

theorem V_sides : V m c main_v2 = sides (act m c) := rfl

theorem sides_at (x : S6144x3584.Idx → EReal) (n : Fin 6144) (k : Fin 3584) : sides x (ix2 n k) = x (ix2 n (side k)) := by
  unfold sides
  by_cases hk : k.val < 1792
  · refine (concatenate_pair_apply_left (t := S6144x3584) (s₁ := S6144x1792) (s₂ := S6144x1792) 1 _ _ _ _ rfl
      (ix2 n (⟨k.val, hk⟩ : Fin 1792)) (fun b => by fin_cases b <;> rfl)).trans ?_
    refine congrArg x (funext fun a => Fin.ext ?_)
    match a with
    | ⟨0, _⟩ => show 0 + 1 * n.val = n.val; omega
    | ⟨1, _⟩ => show 0 + 2 * k.val = if k.val < 1792 then 2 * k.val else 2 * (k.val - 1792) + 1; rw [if_pos hk]; omega
  · refine (concatenate_pair_apply_right (t := S6144x3584) (s₁ := S6144x1792) (s₂ := S6144x1792) 1 _ _ _ _ rfl rfl
      (ix2 n (⟨k.val - 1792, by omega⟩ : Fin 1792)) (fun b hb => by
        fin_cases b
        · rfl
        · exact absurd rfl hb) (by show k.val - 1792 + 1792 = k.val; omega)).trans ?_
    refine congrArg x (funext fun a => Fin.ext ?_)
    match a with
    | ⟨0, _⟩ => show 0 + 1 * n.val = n.val; omega
    | ⟨1, _⟩ => show 1 + 2 * (k.val - 1792) = if k.val < 1792 then 2 * k.val else 2 * (k.val - 1792) + 1; rw [if_neg hk]; omega

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

theorem emb0 (t : Fin cfg0.N) (j : S6144x3584.Idx) : ((cfg0.win 0).blk t).view.emb j = j := by
  obtain ⟨e0, e1⟩ := idx0 t
  funext a; apply Fin.ext
  match a with
  | ⟨0, _⟩ => show win0_0.index t (0 : Fin 2) * 6144 + 1 * (j 0).val = (j 0).val; omega
  | ⟨1, _⟩ => show win0_0.index t (1 : Fin 2) * 3584 + 1 * (j 1).val = (j 1).val; omega

theorem emb1 (t : Fin cfg0.N) (j : S6144x3584.Idx) : ((cfg0.win 1).blk t).view.emb j = j := by
  obtain ⟨e0, e1⟩ := idx1 t
  funext a; apply Fin.ext
  match a with
  | ⟨0, _⟩ => show win0_1.index t (0 : Fin 2) * 6144 + 1 * (j 0).val = (j 0).val; omega
  | ⟨1, _⟩ => show win0_1.index t (1 : Fin 2) * 3584 + 1 * (j 1).val = (j 1).val; omega

theorem emb2 (t : Fin cfg0.N) (j : S6144x3584.Idx) : ((cfg0.win 2).blk t).view.emb j = j := by
  obtain ⟨e0, e1⟩ := idx2 t
  funext a; apply Fin.ext
  match a with
  | ⟨0, _⟩ => show win0_2.index t (0 : Fin 2) * 6144 + 1 * (j 0).val = (j 0).val; omega
  | ⟨1, _⟩ => show win0_2.index t (1 : Fin 2) * 3584 + 1 * (j 1).val = (j 1).val; omega

theorem emb3 (t : Fin cfg0.N) (j : S6144x1.Idx) : ((cfg0.win 3).blk t).view.emb j = j := by
  obtain ⟨e0, e1⟩ := idx3 t
  funext a; apply Fin.ext
  match a with
  | ⟨0, _⟩ => show win0_3.index t (0 : Fin 2) * 6144 + 1 * (j 0).val = (j 0).val; omega
  | ⟨1, _⟩ => show win0_3.index t (1 : Fin 2) * 1 + 1 * (j 1).val = (j 1).val; omega

theorem emb4 (t : Fin cfg0.N) (j : S2x6144x3584.Idx) : ((cfg0.win 4).blk t).view.emb j = j := by
  obtain ⟨e0, e1, e2⟩ := idx4 t
  funext a; apply Fin.ext
  match a with
  | ⟨0, _⟩ => show win0_4.index t (0 : Fin 3) * 2 + 1 * (j 0).val = (j 0).val; omega
  | ⟨1, _⟩ => show win0_4.index t (1 : Fin 3) * 6144 + 1 * (j 1).val = (j 1).val; omega
  | ⟨2, _⟩ => show win0_4.index t (2 : Fin 3) * 3584 + 1 * (j 2).val = (j 2).val; omega

theorem block0 (t : Fin cfg0.N) : iblk m c 0 t = act m c := by
  funext j
  show V m c main_arg0 (((cfg0.win 0).blk t).view.emb j) = _
  rw [emb0, V_main_arg0]

theorem block1 (t : Fin cfg0.N) : iblk m c 1 t = sides (act m c) := by
  funext j
  show V m c main_v2 (((cfg0.win 1).blk t).view.emb j) = _
  rw [emb1, V_sides]

theorem hz3 : (![0, 0, 0] : Fin 3 → Nat) = fun _ => 0 := funext fun a => by fin_cases a <;> rfl

theorem out2_eq (x y : S6144x3584.Idx → EReal) : out0_2 (F := Ideal) x y = codes x := by
  unfold out0_2
  rw [View.canon_unit_zero hz, View.ld_unit_zero hz]
  funext i
  obtain ⟨n, k, rfl⟩ : ∃ (n : Fin 6144) (k : Fin 3584), i = ix2 n k := ⟨i 0, i 1, funext fun a => by fin_cases a <;> rfl⟩
  exact reference_code x n k

theorem out3_eq (x y : S6144x3584.Idx → EReal) : out0_3 (F := Ideal) x y = scales x := by
  unfold out0_3
  rw [View.canon_unit_zero hz, View.ld_unit_zero hz]
  funext i
  obtain ⟨n, rfl⟩ : ∃ n : Fin 6144, i = ix2 n 0 := ⟨i 0, funext fun a => by
    fin_cases a
    · rfl
    · exact Fin.ext (Nat.lt_one_iff.mp (i 1).isLt)⟩
  exact reference_scale x n

/-- A matrix as the one page of a stack, at a place. -/
theorem page_at (x : S6144x3584.Idx → EReal) (h) (n : Fin 6144) (k : Fin 3584) : shapeCast S1x6144x3584 x h (ix3 (0 : Fin 1) n k) = x (ix2 n k) :=
  shapeCast_apply _ _ _ _ (by simp only [Shape.rowMajor_val_two, Shape.rowMajor_val_three]; simp [ix3, ix2])

theorem out4_eq (x : S6144x3584.Idx → EReal) : out0_4 (F := Ideal) x (sides x) = boths x := by
  unfold out0_4
  rw [View.canon_unit_zero hz3, View.ld_unit_zero hz, View.ld_unit_zero hz]
  funext i
  obtain ⟨q, n, k, rfl⟩ : ∃ (q : Fin 2) (n : Fin 6144) (k : Fin 3584), i = ix3 q n k := ⟨i 0, i 1, i 2, funext fun a => by fin_cases a <;> rfl⟩
  unfold k0_pay5
  rw [shapeCast_self]
  by_cases hq : q.val = 0
  · obtain rfl : q = 0 := Fin.ext hq
    refine (concatenate_pair_apply_left (t := S2x6144x3584) (s₁ := S1x6144x3584) (s₂ := S1x6144x3584) 0 _ _ _ _ rfl
      (ix3 (0 : Fin 1) n k) (fun b => by fin_cases b <;> rfl)).trans ?_
    refine (page_at _ _ n k).trans ?_
    exact (reference_quot x n k).trans (if_pos rfl).symm
  · obtain rfl : q = 1 := Fin.ext (by have := q.isLt; show q.val = 1; omega)
    refine (concatenate_pair_apply_right (t := S2x6144x3584) (s₁ := S1x6144x3584) (s₂ := S1x6144x3584) 0 _ _ _ _ rfl rfl
      (ix3 (0 : Fin 1) n k) (fun b hb => by
        fin_cases b
        · exact absurd rfl hb
        · rfl
        · rfl) rfl).trans ?_
    refine (page_at _ _ n k).trans ?_
    exact (sides_at x n k).trans (if_neg (show ¬ (1 : ℕ) = 0 by decide)).symm

theorem flush2 : ∀ t : Fin cfg0.N, (cfg0.win 2).flush t = true := (by decide +kernel : ∀ t : Fin grid0.N, win0_2.flush t = true)
theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)

/-- The one point. -/
abbrev t0 : Fin cfg0.N := (⟨0, by decide⟩ : Fin grid0.N)

/-- The codes after the run. -/
theorem final2 : (dats m 0 c).arrAt 2 cfg0.N = codes (act m c) :=
  (dats m 0 c).arrAt_eq_of_cover 2 _ (fun t _ => by
    rw [flushed2, block0, out2_eq]
    funext j
    show codes (act m c) j = codes (act m c) (((cfg0.win 2).blk t).view.emb j)
    rw [emb2]) fun i => ⟨t0, flush2 t0, by
      have h := ((cfg0.win 2).blk t0).view.emb_mem_set i
      rwa [emb2] at h⟩

/-- The scales after the run. -/
theorem final3 : (dats m 0 c).arrAt 3 cfg0.N = scales (act m c) :=
  (dats m 0 c).arrAt_eq_of_cover 3 _ (fun t _ => by
    rw [flushed3, block0, out3_eq]
    funext j
    show scales (act m c) j = scales (act m c) (((cfg0.win 3).blk t).view.emb j)
    rw [emb3]) fun i => ⟨t0, flush3 t0, by
      have h := ((cfg0.win 3).blk t0).view.emb_mem_set i
      rwa [emb3] at h⟩

/-- The third array after the run. -/
theorem final4 : (dats m 0 c).arrAt 4 cfg0.N = boths (act m c) :=
  (dats m 0 c).arrAt_eq_of_cover 4 _ (fun t _ => by
    rw [flushed4, block0, block1, out4_eq]
    funext j
    show boths (act m c) j = boths (act m c) (((cfg0.win 4).blk t).view.emb j)
    rw [emb4]) fun i => ⟨t0, flush4 t0, by
      have h := ((cfg0.win 4).blk t0).view.emb_mem_set i
      rwa [emb4] at h⟩

end Cert.QuantiseReferenceIdeal.Run

namespace Cert.Proof
open Idealize.ShloMosaic Idealize.ShloMosaic.ValueIdx Idealize.SL.Sem

theorem frame_quantise : Cert.quiescent_Quantise := fun m g _ => Cert.Quantise.Gen.frame m g

theorem frame_quantiseIdeal : Cert.quiescent_QuantiseIdeal := fun m g _ => Cert.QuantiseIdeal.Gen.frame m g

theorem frame_quantiseReferenceIdeal : Cert.quiescent_QuantiseReferenceIdeal := fun m g _ => Cert.QuantiseReferenceIdeal.Gen.frame m g

theorem preserves_quantise : Cert.preserves_Quantise_QuantiseIdeal :=
  open Cert.QuantiseIdeal IdealRules.bf16_pair in
  ⟨statement S256x3584 S128x3584, statement S256x128 S128x128⟩

open Cert.QuantiseIdeal.Run in
/-- The quantise call and its reference leave the same codes, scales and third array. -/
theorem algebraic_quantise : Cert.algebraic_QuantiseIdeal_QuantiseReferenceIdeal := fun m g m' g' _ he => by
  refine ⟨fun c => codes (act m c), fun c => scales (act m c), fun c => boths (act m c), ?_, ?_⟩
  · exact (θ_run Cert.QuantiseIdeal.defs _ _).mono (fun r h c => ⟨(h c).1.trans (final1 m c),
      (h c).2.1.trans (final2 m c), (h c).2.2.1.trans (final3 m c), (h c).2.2.2⟩) (Cert.QuantiseIdeal.Value.run_blocks (F := Ideal) m g)
  · exact (θ_run Cert.QuantiseReferenceIdeal.defs _ _).mono (fun r h c => ⟨
      ((h c).1.trans (Cert.QuantiseReferenceIdeal.Run.final2 m' c)).trans (congrArg codes (he c)),
      ((h c).2.1.trans (Cert.QuantiseReferenceIdeal.Run.final3 m' c)).trans (congrArg scales (he c)),
      ((h c).2.2.1.trans (Cert.QuantiseReferenceIdeal.Run.final4 m' c)).trans (congrArg boths (he c)), (h c).2.2.2⟩)
      (Cert.QuantiseReferenceIdeal.Value.run_blocks (F := Ideal) m' g')

end Cert.Proof

end
-- ==== Proof.lean ====
module

public import proofs.«01_k».proof.Proof.Claims
public import proofs.«01_k».proof.Proof.Value
public import proofs.«01_k».proof.Proof.QuantValue
public import proofs.«01_k».proof.Proof.Gen.Quantise.Frame
public import proofs.«01_k».proof.Proof.Gen.QuantiseIdeal.Value
public import proofs.«01_k».proof.Proof.Gen.QuantiseReferenceIdeal.Value

@[expose] public section

noncomputable section

namespace Cert.Proof

open Idealize.ShloMosaic

theorem claim : Cert.Claim :=
  ⟨Cert.Kernel.Gen.facts, Cert.KernelIdeal.Gen.facts, Cert.ReferenceIdeal.Gen.facts, Cert.Quantise.Gen.facts,
    Cert.QuantiseIdeal.Gen.facts, Cert.QuantiseReferenceIdeal.Gen.facts, Cert.Pre_split.Gen.facts, frame_kernel,
    frame_kernelIdeal, frame_referenceIdeal, frame_referenceIdeal_split, frame_quantise, frame_quantiseIdeal,
    frame_quantiseReferenceIdeal, preserves_kernel, algebraic_kernel, preserves_quantise, algebraic_quantise⟩

end Cert.Proof

end
